-- ==== Defs.lean ====
def Pre_Kernel [hPre_counts_uniform : Cert.Pre_counts_uniform.Facts] (m : (ℓ : Loc Cert.Kernel.nD Cert.Kernel.τ Cert.Kernel.sig) → Buf (Elt Bits) ℓ) : Prop :=
  ∀ c : Dev Cert.Kernel.nD,
    (Cert.Pre_counts_uniform.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_Kernel_none (m : (ℓ : Loc Cert.Kernel.nD Cert.Kernel.τ Cert.Kernel.sig) → Buf (Elt Bits) ℓ) : Prop :=
  True

def Pre_KernelIdeal [hPre_counts_uniform : Cert.Pre_counts_uniform.Facts] (m : (ℓ : Loc Cert.KernelIdeal.nD Cert.KernelIdeal.τ Cert.KernelIdeal.sig) → Buf (Elt Ideal) ℓ) : Prop :=
  ∀ c : Dev Cert.KernelIdeal.nD,
    (Cert.Pre_counts_uniform.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_none (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_counts_uniform [hPre_counts_uniform : Cert.Pre_counts_uniform.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_uniform.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_counts_uniform : Cert.Pre_counts_uniform.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Kernel_pre_none [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel_none m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_counts_uniform : Cert.Pre_counts_uniform.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_counts_uniform [hReferenceIdeal : Cert.ReferenceIdeal.Facts] [hPre_counts_uniform : Cert.Pre_counts_uniform.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counts_uniform m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_counts_uniform : Cert.Pre_counts_uniform.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v613) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_counts_uniform : Cert.Pre_counts_uniform.Facts),
    quiescent_Kernel (hKernel := hKernel) (hPre_counts_uniform := hPre_counts_uniform)
    ∧ quiescent_Kernel_pre_none (hKernel := hKernel)
    ∧ quiescent_KernelIdeal (hKernelIdeal := hKernelIdeal) (hPre_counts_uniform := hPre_counts_uniform)
    ∧ quiescent_KernelIdeal_pre_none (hKernelIdeal := hKernelIdeal)
    ∧ quiescent_ReferenceIdeal (hReferenceIdeal := hReferenceIdeal)
    ∧ quiescent_ReferenceIdeal_pre_counts_uniform (hReferenceIdeal := hReferenceIdeal) (hPre_counts_uniform := hPre_counts_uniform)
    ∧ preserves_Kernel_KernelIdeal
    ∧ algebraic_KernelIdeal_ReferenceIdeal (hKernelIdeal := hKernelIdeal) (hReferenceIdeal := hReferenceIdeal) (hPre_counts_uniform := hPre_counts_uniform)
-- ==== Pre_counts_uniform.lean ====
abbrev S1024x128 : Shape := ⟨2, ![1024, 128]⟩
abbrev S256x2x128x3 : Shape := ⟨4, ![256, 2, 128, 3]⟩
abbrev S256x2 : Shape := ⟨2, ![256, 2]⟩
abbrev S256 : Shape := ⟨1, ![256]⟩
abbrev S256x2x128x1 : Shape := ⟨4, ![256, 2, 128, 1]⟩
abbrev S_ : Shape := ⟨0, ![]⟩

class Facts : Prop where
  slices_S256x2x128x3_S256x2x128x1_0_0_0_0 : S256x2x128x3.Slices ![0, 0, 0, 0] S256x2x128x1
  bcast_S256x2x128x1_S256x2x128x3_0_1_2_3 : S256x2x128x1.BroadcastsInDim S256x2x128x3 (![0, 1, 2, 3] : Fin 4 → Fin S256x2x128x3.rank)
  bcast_S_S256x2x128x3 : S_.BroadcastsInDim S256x2x128x3 (![] : Fin 0 → Fin S256x2x128x3.rank)

variable [Facts]

def fn {F : FTy → Type} [FloatOps F] (main_arg0 : FVec F S1024x128 .f32) (main_arg1 : FVec F S256x2x128x3 .f32) (main_arg2 : FVec F S256x2 .f32) (main_arg3 : IVec S256 32) : IVec S256x2x128x3 1 :=
  let main_v0 : FVec F S256x2x128x1 .f32 := (extractStridedSlice S256x2x128x1 ![0, 0, 0, 0] · slices_S256x2x128x3_S256x2x128x1_0_0_0_0) main_arg1
  let main_v1 : FVec F S256x2x128x3 .f32 := broadcastInDim S256x2x128x3 ![0, 1, 2, 3] bcast_S256x2x128x1_S256x2x128x3_0_1_2_3 main_v0
  let main_v2 : IVec S256x2x128x3 1 := cmpf .oeq main_arg1 main_v1
  let main_cst : FVec F S_ .f32 := constant S_ .f32 0x00000000#32
  let main_v3 : FVec F S256x2x128x3 .f32 := broadcastInDim S256x2x128x3 ![] bcast_S_S256x2x128x3 main_cst
  let main_v4 : IVec S256x2x128x3 1 := cmpf .ogt main_arg1 main_v3
  let main_v5 : IVec S256x2x128x3 1 := andi main_v2 main_v4
  let main_cst_0 : FVec F S_ .f32 := constant S_ .f32 0x7F800000#32
  let main_v6 : FVec F S256x2x128x3 .f32 := broadcastInDim S256x2x128x3 ![] bcast_S_S256x2x128x3 main_cst_0
  let main_v7 : IVec S256x2x128x3 1 := cmpf .olt main_arg1 main_v6
  let main_v8 : IVec S256x2x128x3 1 := andi main_v5 main_v7
  main_v8
-- ==== Kernel.lean ====
abbrev S1024x128 : Shape := ⟨2, ![1024, 128]⟩
abbrev S256x2x128x3 : Shape := ⟨4, ![256, 2, 128, 3]⟩
abbrev S256x2 : Shape := ⟨2, ![256, 2]⟩
abbrev S256 : Shape := ⟨1, ![256]⟩
abbrev S1x256 : Shape := ⟨2, ![1, 256]⟩
abbrev S768x128 : Shape := ⟨2, ![768, 128]⟩
abbrev S768x256 : Shape := ⟨2, ![768, 256]⟩
abbrev S16x128 : Shape := ⟨2, ![16, 128]⟩
abbrev S16x256 : Shape := ⟨2, ![16, 256]⟩
abbrev S16x256x1 : Shape := ⟨3, ![16, 256, 1]⟩
abbrev S1x1x128 : Shape := ⟨3, ![1, 1, 128]⟩
abbrev S16x256x128 : Shape := ⟨3, ![16, 256, 128]⟩
abbrev S16x1x128 : Shape := ⟨3, ![16, 1, 128]⟩
abbrev S256x128 : Shape := ⟨2, ![256, 128]⟩
abbrev S256x128x1 : Shape := ⟨3, ![256, 128, 1]⟩
abbrev S256x128x16 : Shape := ⟨3, ![256, 128, 16]⟩
abbrev S16x16 : Shape := ⟨2, ![16, 16]⟩
abbrev S256x256 : Shape := ⟨2, ![256, 256]⟩
abbrev S128x16 : Shape := ⟨2, ![128, 16]⟩
abbrev S16 : Shape := ⟨1, ![16]⟩
abbrev S_ : Shape := ⟨0, ![]⟩
abbrev S1x128x16 : Shape := ⟨3, ![1, 128, 16]⟩
abbrev S1x16 : Shape := ⟨2, ![1, 16]⟩
abbrev S1024x256 : Shape := ⟨2, ![1024, 256]⟩

abbrev nBuf : Table → Nat
  | .hbm => 13
  | .local .tc .vmem => 5
  | .local .scVector .vmem => 5
  | _ => 0

abbrev bufTy : (tb : Table) → Fin (nBuf tb) → BufTy
  | .hbm, ⟨0, _⟩ => ⟨S1024x128, .f32⟩
  | .hbm, ⟨1, _⟩ => ⟨S256x2x128x3, .f32⟩
  | .hbm, ⟨2, _⟩ => ⟨S256x2, .f32⟩
  | .hbm, ⟨3, _⟩ => ⟨S256, .i32⟩
  | .hbm, ⟨4, _⟩ => ⟨S1x256, .i32⟩
  | .hbm, ⟨5, _⟩ => ⟨S768x128, .f32⟩
  | .hbm, ⟨6, _⟩ => ⟨S768x256, .f32⟩
  | .hbm, ⟨7, _⟩ => ⟨S256x128, .f32⟩
  | .hbm, ⟨8, _⟩ => ⟨S256x128x1, .f32⟩
  | .hbm, ⟨9, _⟩ => ⟨S256x128x16, .f32⟩
  | .hbm, ⟨10, _⟩ => ⟨S16x16, .i32⟩
  | .hbm, ⟨11, _⟩ => ⟨S256x256, .f32⟩
  | .hbm, ⟨12, _⟩ => ⟨S1024x256, .f32⟩
  | .local .tc .vmem, ⟨0, _⟩ => ⟨S16x128, .f32⟩
  | .local .tc .vmem, ⟨1, _⟩ => ⟨S16x128, .f32⟩
  | .local .tc .vmem, ⟨2, _⟩ => ⟨S1x256, .i32⟩
  | .local .tc .vmem, ⟨3, _⟩ => ⟨S16x256, .f32⟩
  | .local .tc .vmem, ⟨4, _⟩ => ⟨S16x256, .f32⟩
  | .local .scVector .vmem, ⟨0, _⟩ => ⟨S128x16, .f32⟩
  | .local .scVector .vmem, ⟨1, _⟩ => ⟨S16x16, .i32⟩
  | .local .scVector .vmem, ⟨2, _⟩ => ⟨S256, .f32⟩
  | .local .scVector .vmem, ⟨3, _⟩ => ⟨S16, .f32⟩
  | .local .scVector .vmem, ⟨4, _⟩ => ⟨S16, .f32⟩
  | _, _ => ⟨S1024x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v5_scv : Ref sig .scVector := ⟨.hbm, 9, rfl⟩
abbrev main_v6_scv : Ref sig .scVector := ⟨.hbm, 10, rfl⟩
abbrev main_v7_scv : Ref sig .scVector := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![48, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

@[reducible] def k1_t1_loop : Scf.Loop 32 :=
  let c0_i32 : BitVec 32 := 0#32
  let c8_i32_0 : BitVec 32 := 8#32
  let v4 : BitVec 32 := Scalar.addi c0_i32 c8_i32_0
  let c1_i32 : BitVec 32 := 1#32
  ⟨c0_i32, v4, c1_i32⟩
def k1_off1 (i : grid1.Coords) (k1_t1 : Fin k1_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32 : BitVec 32 := 8#32
  let v2 : BitVec 32 := Scalar.muli v1 c8_i32
  let c0_i32_3 : BitVec 32 := 0#32
  let c0_i32 : BitVec 32 := 0#32
  let c1_i32 : BitVec 32 := 1#32
  let arg10 : BitVec 32 := Scf.iv c0_i32 c1_i32 k1_t1
  let c1_i32_2 : BitVec 32 := 1#32
  let v5 : BitVec 32 := Scalar.muli arg10 c1_i32_2
  let v6 : BitVec 32 := Scalar.addi c0_i32_3 v5
  let v7 : BitVec 32 := Scalar.addi v2 v6
  let c0_i32_8_r1 : BitVec 32 := 0#32
  let c0_i32_9_r1 : BitVec 32 := 0#32
  ![v7.toNat, 0, 0]
@[reducible] def k1_t2_loop : Scf.Loop 32 :=
  let c0_i32_4 : BitVec 32 := 0#32
  let c16_i32_5 : BitVec 32 := 16#32
  let v9 : BitVec 32 := Scalar.addi c0_i32_4 c16_i32_5
  let c1_i32_6 : BitVec 32 := 1#32
  ⟨c0_i32_4, v9, c1_i32_6⟩
@[reducible] def k1_t3_loop : Scf.Loop 32 :=
  let c0_i32_13 : BitVec 32 := 0#32
  let c64_i32 : BitVec 32 := 64#32
  let v28 : BitVec 32 := Scalar.addi c0_i32_13 c64_i32
  let c1_i32_14 : BitVec 32 := 1#32
  ⟨c0_i32_13, v28, c1_i32_14⟩
def k1_off2 (k1_t3 : Fin k1_t3_loop.trips) (c0_i32_25 : BitVec 32) : Fin 2 → Nat :=
  let c0_i32_21 : BitVec 32 := 0#32
  let c0_i32_13 : BitVec 32 := 0#32
  let c1_i32_14 : BitVec 32 := 1#32
  let arg12 : BitVec 32 := Scf.iv c0_i32_13 c1_i32_14 k1_t3
  let c2_i32 : BitVec 32 := 2#32
  let v44 : BitVec 32 := Scalar.muli arg12 c2_i32
  let v45 : BitVec 32 := Scalar.addi c0_i32_21 v44
  let v54 : BitVec 32 := Scalar.addi v45 c0_i32_25
  let v55 : Index := Scalar.indexCast v54
  let c0_26 : Index := 0#32
  ![v55.toNat, 0]
def k1_off3 (k1_t2 : Fin k1_t2_loop.trips) : Fin 2 → Nat :=
  let c0_i32_9 : BitVec 32 := 0#32
  let c0_i32_4 : BitVec 32 := 0#32
  let c1_i32_6 : BitVec 32 := 1#32
  let arg11 : BitVec 32 := Scf.iv c0_i32_4 c1_i32_6 k1_t2
  let c1_i32_8 : BitVec 32 := 1#32
  let v10 : BitVec 32 := Scalar.muli arg11 c1_i32_8
  let v11 : BitVec 32 := Scalar.addi c0_i32_9 v10
  let v29 : Index := Scalar.indexCast v11
  let c0_16 : Index := 0#32
  ![v29.toNat, 0]
def k1_off4 (k1_t2 : Fin k1_t2_loop.trips) : Fin 1 → Nat :=
  let c0_i32_9 : BitVec 32 := 0#32
  let c0_i32_4 : BitVec 32 := 0#32
  let c1_i32_6 : BitVec 32 := 1#32
  let arg11 : BitVec 32 := Scf.iv c0_i32_4 c1_i32_6 k1_t2
  let c1_i32_8 : BitVec 32 := 1#32
  let v10 : BitVec 32 := Scalar.muli arg11 c1_i32_8
  let v11 : BitVec 32 := Scalar.addi c0_i32_9 v10
  let c16_i32_20 : BitVec 32 := 16#32
  let v39 : BitVec 32 := Scalar.muli v11 c16_i32_20
  let v40 : Index := Scalar.indexCast v39
  ![v40.toNat]
def k1_off5 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32 : BitVec 32 := 8#32
  let v2 : BitVec 32 := Scalar.muli v1 c8_i32
  let c0_i32_3 : BitVec 32 := 0#32
  let c0_i32 : BitVec 32 := 0#32
  let c1_i32 : BitVec 32 := 1#32
  let arg10 : BitVec 32 := Scf.iv c0_i32 c1_i32 k1_t1
  let c1_i32_2 : BitVec 32 := 1#32
  let v5 : BitVec 32 := Scalar.muli arg10 c1_i32_2
  let v6 : BitVec 32 := Scalar.addi c0_i32_3 v5
  let v7 : BitVec 32 := Scalar.addi v2 v6
  let c0_i32_8_r2 : BitVec 32 := 0#32
  ![v7.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x128 : Shape := ⟨2, ![1024, 128]⟩
abbrev S256x2x128x3 : Shape := ⟨4, ![256, 2, 128, 3]⟩
abbrev S256x2 : Shape := ⟨2, ![256, 2]⟩
abbrev S256 : Shape := ⟨1, ![256]⟩
abbrev S_ : Shape := ⟨0, ![]⟩
abbrev S256x1 : Shape := ⟨2, ![256, 1]⟩
abbrev S256x128x3 : Shape := ⟨3, ![256, 128, 3]⟩
abbrev S100663296 : Shape := ⟨1, ![100663296]⟩
abbrev S1024x256x128x3 : Shape := ⟨4, ![1024, 256, 128, 3]⟩
abbrev S1x256x128x3 : Shape := ⟨4, ![1, 256, 128, 3]⟩
abbrev S1024x256x128x1 : Shape := ⟨4, ![1024, 256, 128, 1]⟩
abbrev S1024x256x128 : Shape := ⟨3, ![1024, 256, 128]⟩
abbrev S1024x256 : Shape := ⟨2, ![1024, 256]⟩
abbrev S262144 : Shape := ⟨1, ![262144]⟩
abbrev S128 : Shape := ⟨1, ![128]⟩
abbrev S1x1x128 : Shape := ⟨3, ![1, 1, 128]⟩
abbrev S1024x256x1 : Shape := ⟨3, ![1024, 256, 1]⟩
abbrev S1024x1x128 : Shape := ⟨3, ![1024, 1, 128]⟩
abbrev S1x256x1 : Shape := ⟨3, ![1, 256, 1]⟩
abbrev S1x256 : Shape := ⟨2, ![1, 256]⟩

abbrev nBuf : Space → Nat
  | .hbm => 812
  | .vmem => 0
  | .smem => 0
  | _ => 0

abbrev hbmTy0_0 (i : Nat) : BufTy := match i % 128 with
  | 0 => ⟨S1024x128, .f32⟩
  | 1 => ⟨S256x2x128x3, .f32⟩
  | 2 => ⟨S256x2, .f32⟩
  | 3 => ⟨S256, .i32⟩
  | 4 => ⟨S256, .i32⟩
  | 5 => ⟨S_, .i32⟩
  | 6 => ⟨S256, .i32⟩
  | 7 => ⟨S256, .i1⟩
  | 8 => ⟨S_, .i32⟩
  | 9 => ⟨S256, .i32⟩
  | 10 => ⟨S256, .i32⟩
  | 11 => ⟨S256, .i32⟩
  | 12 => ⟨S_, .i32⟩
  | 13 => ⟨S256, .i32⟩
  | 14 => ⟨S256, .i1⟩
  | 15 => ⟨S_, .i32⟩
  | 16 => ⟨S256, .i32⟩
  | 17 => ⟨S256, .i32⟩
  | 18 => ⟨S256, .i32⟩
  | 19 => ⟨S256x1, .i32⟩
  | 20 => ⟨S256x1, .i32⟩
  | 21 => ⟨S256x2, .i32⟩
  | 22 => ⟨S256x128x3, .f32⟩
  | 23 => ⟨S256x128x3, .f32⟩
  | 24 => ⟨S100663296, .i32⟩
  | 25 => ⟨S1024x256x128x3, .i32⟩
  | 26 => ⟨S_, .i32⟩
  | 27 => ⟨S1024x256x128x3, .i32⟩
  | 28 => ⟨S_, .i32⟩
  | 29 => ⟨S1024x256x128x3, .i32⟩
  | 30 => ⟨S1024x256x128x3, .i32⟩
  | 31 => ⟨S_, .i32⟩
  | 32 => ⟨S1024x256x128x3, .i32⟩
  | 33 => ⟨S1024x256x128x3, .i32⟩
  | 34 => ⟨S1024x256x128x3, .i32⟩
  | 35 => ⟨S_, .i32⟩
  | 36 => ⟨S1024x256x128x3, .i32⟩
  | 37 => ⟨S1024x256x128x3, .i32⟩
  | 38 => ⟨S_, .i32⟩
  | 39 => ⟨S1024x256x128x3, .i32⟩
  | 40 => ⟨S1024x256x128x3, .i32⟩
  | 41 => ⟨S1024x256x128x3, .i32⟩
  | 42 => ⟨S1024x256x128x3, .i32⟩
  | 43 => ⟨S1024x256x128x3, .i32⟩
  | 44 => ⟨S_, .i32⟩
  | 45 => ⟨S1024x256x128x3, .i32⟩
  | 46 => ⟨S1024x256x128x3, .i32⟩
  | 47 => ⟨S_, .i32⟩
  | 48 => ⟨S1024x256x128x3, .i32⟩
  | 49 => ⟨S1024x256x128x3, .i32⟩
  | 50 => ⟨S1024x256x128x3, .i32⟩
  | 51 => ⟨S1024x256x128x3, .i32⟩
  | 52 => ⟨S1024x256x128x3, .i32⟩
  | 53 => ⟨S_, .i32⟩
  | 54 => ⟨S1024x256x128x3, .i32⟩
  | 55 => ⟨S1024x256x128x3, .i32⟩
  | 56 => ⟨S_, .i32⟩
  | 57 => ⟨S1024x256x128x3, .i32⟩
  | 58 => ⟨S1024x256x128x3, .i32⟩
  | 59 => ⟨S1024x256x128x3, .i32⟩
  | 60 => ⟨S1024x256x128x3, .i32⟩
  | 61 => ⟨S1024x256x128x3, .i32⟩
  | 62 => ⟨S_, .i32⟩
  | 63 => ⟨S1024x256x128x3, .i32⟩
  | 64 => ⟨S1024x256x128x3, .i32⟩
  | 65 => ⟨S_, .i32⟩
  | 66 => ⟨S1024x256x128x3, .i32⟩
  | 67 => ⟨S1024x256x128x3, .i32⟩
  | 68 => ⟨S1024x256x128x3, .i32⟩
  | 69 => ⟨S1024x256x128x3, .i32⟩
  | 70 => ⟨S_, .i32⟩
  | 71 => ⟨S1024x256x128x3, .i32⟩
  | 72 => ⟨S1024x256x128x3, .i32⟩
  | 73 => ⟨S_, .i32⟩
  | 74 => ⟨S1024x256x128x3, .i32⟩
  | 75 => ⟨S1024x256x128x3, .i32⟩
  | 76 => ⟨S1024x256x128x3, .i32⟩
  | 77 => ⟨S_, .i32⟩
  | 78 => ⟨S1024x256x128x3, .i32⟩
  | 79 => ⟨S1024x256x128x3, .i32⟩
  | 80 => ⟨S_, .i32⟩
  | 81 => ⟨S1024x256x128x3, .i32⟩
  | 82 => ⟨S1024x256x128x3, .i32⟩
  | 83 => ⟨S1024x256x128x3, .i32⟩
  | 84 => ⟨S1024x256x128x3, .i32⟩
  | 85 => ⟨S1024x256x128x3, .i32⟩
  | 86 => ⟨S_, .i32⟩
  | 87 => ⟨S1024x256x128x3, .i32⟩
  | 88 => ⟨S1024x256x128x3, .i32⟩
  | 89 => ⟨S_, .i32⟩
  | 90 => ⟨S1024x256x128x3, .i32⟩
  | 91 => ⟨S1024x256x128x3, .i32⟩
  | 92 => ⟨S1024x256x128x3, .i32⟩
  | 93 => ⟨S1024x256x128x3, .i32⟩
  | 94 => ⟨S1024x256x128x3, .i32⟩
  | 95 => ⟨S_, .i32⟩
  | 96 => ⟨S1024x256x128x3, .i32⟩
  | 97 => ⟨S1024x256x128x3, .i32⟩
  | 98 => ⟨S_, .i32⟩
  | 99 => ⟨S1024x256x128x3, .i32⟩
  | 100 => ⟨S1024x256x128x3, .i32⟩
  | 101 => ⟨S1024x256x128x3, .i32⟩
  | 102 => ⟨S1024x256x128x3, .i32⟩
  | 103 => ⟨S1024x256x128x3, .i32⟩
  | 104 => ⟨S_, .i32⟩
  | 105 => ⟨S1024x256x128x3, .i32⟩
  | 106 => ⟨S1024x256x128x3, .i32⟩
  | 107 => ⟨S_, .i32⟩
  | 108 => ⟨S1024x256x128x3, .i32⟩
  | 109 => ⟨S1024x256x128x3, .i32⟩
  | 110 => ⟨S1024x256x128x3, .i32⟩
  | 111 => ⟨S1024x256x128x3, .i32⟩
  | 112 => ⟨S_, .i32⟩
  | 113 => ⟨S1024x256x128x3, .i32⟩
  | 114 => ⟨S1024x256x128x3, .i32⟩
  | 115 => ⟨S_, .i32⟩
  | 116 => ⟨S1024x256x128x3, .i32⟩
  | 117 => ⟨S1024x256x128x3, .i32⟩
  | 118 => ⟨S1024x256x128x3, .i32⟩
  | 119 => ⟨S_, .i32⟩
  | 120 => ⟨S1024x256x128x3, .i32⟩
  | 121 => ⟨S1024x256x128x3, .i32⟩
  | 122 => ⟨S_, .i32⟩
  | 123 => ⟨S1024x256x128x3, .i32⟩
  | 124 => ⟨S1024x256x128x3, .i32⟩
  | 125 => ⟨S1024x256x128x3, .i32⟩
  | 126 => ⟨S1024x256x128x3, .i32⟩
  | 127 => ⟨S1024x256x128x3, .i32⟩
  | _ => ⟨S1024x128, .f32⟩

abbrev hbmTy0_1 (i : Nat) : BufTy := match i % 128 with
  | 0 => ⟨S_, .i32⟩
  | 1 => ⟨S1024x256x128x3, .i32⟩
  | 2 => ⟨S1024x256x128x3, .i32⟩
  | 3 => ⟨S_, .i32⟩
  | 4 => ⟨S1024x256x128x3, .i32⟩
  | 5 => ⟨S1024x256x128x3, .i32⟩
  | 6 => ⟨S1024x256x128x3, .i32⟩
  | 7 => ⟨S1024x256x128x3, .i32⟩
  | 8 => ⟨S1024x256x128x3, .i32⟩
  | 9 => ⟨S_, .i32⟩
  | 10 => ⟨S1024x256x128x3, .i32⟩
  | 11 => ⟨S1024x256x128x3, .i32⟩
  | 12 => ⟨S_, .i32⟩
  | 13 => ⟨S1024x256x128x3, .i32⟩
  | 14 => ⟨S1024x256x128x3, .i32⟩
  | 15 => ⟨S1024x256x128x3, .i32⟩
  | 16 => ⟨S1024x256x128x3, .i32⟩
  | 17 => ⟨S1024x256x128x3, .i32⟩
  | 18 => ⟨S_, .i32⟩
  | 19 => ⟨S1024x256x128x3, .i32⟩
  | 20 => ⟨S1024x256x128x3, .i32⟩
  | 21 => ⟨S_, .i32⟩
  | 22 => ⟨S1024x256x128x3, .i32⟩
  | 23 => ⟨S1024x256x128x3, .i32⟩
  | 24 => ⟨S1024x256x128x3, .i32⟩
  | 25 => ⟨S1024x256x128x3, .i32⟩
  | 26 => ⟨S_, .i32⟩
  | 27 => ⟨S1024x256x128x3, .i32⟩
  | 28 => ⟨S1024x256x128x3, .i32⟩
  | 29 => ⟨S_, .i32⟩
  | 30 => ⟨S1024x256x128x3, .i32⟩
  | 31 => ⟨S1024x256x128x3, .i32⟩
  | 32 => ⟨S1024x256x128x3, .i32⟩
  | 33 => ⟨S_, .i32⟩
  | 34 => ⟨S1024x256x128x3, .i32⟩
  | 35 => ⟨S1024x256x128x3, .i32⟩
  | 36 => ⟨S_, .i32⟩
  | 37 => ⟨S1024x256x128x3, .i32⟩
  | 38 => ⟨S1024x256x128x3, .i32⟩
  | 39 => ⟨S1024x256x128x3, .i32⟩
  | 40 => ⟨S1024x256x128x3, .i32⟩
  | 41 => ⟨S1024x256x128x3, .i32⟩
  | 42 => ⟨S_, .i32⟩
  | 43 => ⟨S1024x256x128x3, .i32⟩
  | 44 => ⟨S1024x256x128x3, .i32⟩
  | 45 => ⟨S_, .i32⟩
  | 46 => ⟨S1024x256x128x3, .i32⟩
  | 47 => ⟨S1024x256x128x3, .i32⟩
  | 48 => ⟨S1024x256x128x3, .i32⟩
  | 49 => ⟨S1024x256x128x3, .i32⟩
  | 50 => ⟨S1024x256x128x3, .i32⟩
  | 51 => ⟨S_, .i32⟩
  | 52 => ⟨S1024x256x128x3, .i32⟩
  | 53 => ⟨S1024x256x128x3, .i32⟩
  | 54 => ⟨S_, .i32⟩
  | 55 => ⟨S1024x256x128x3, .i32⟩
  | 56 => ⟨S1024x256x128x3, .i32⟩
  | 57 => ⟨S1024x256x128x3, .i32⟩
  | 58 => ⟨S1024x256x128x3, .i32⟩
  | 59 => ⟨S1024x256x128x3, .i32⟩
  | 60 => ⟨S_, .i32⟩
  | 61 => ⟨S1024x256x128x3, .i32⟩
  | 62 => ⟨S1024x256x128x3, .i32⟩
  | 63 => ⟨S_, .i32⟩
  | 64 => ⟨S1024x256x128x3, .i32⟩
  | 65 => ⟨S1024x256x128x3, .i32⟩
  | 66 => ⟨S1024x256x128x3, .i32⟩
  | 67 => ⟨S1024x256x128x3, .i32⟩
  | 68 => ⟨S_, .i32⟩
  | 69 => ⟨S1024x256x128x3, .i32⟩
  | 70 => ⟨S1024x256x128x3, .i32⟩
  | 71 => ⟨S_, .i32⟩
  | 72 => ⟨S1024x256x128x3, .i32⟩
  | 73 => ⟨S1024x256x128x3, .i32⟩
  | 74 => ⟨S1024x256x128x3, .i32⟩
  | 75 => ⟨S_, .i32⟩
  | 76 => ⟨S1024x256x128x3, .i32⟩
  | 77 => ⟨S1024x256x128x3, .i32⟩
  | 78 => ⟨S_, .i32⟩
  | 79 => ⟨S1024x256x128x3, .i32⟩
  | 80 => ⟨S1024x256x128x3, .i32⟩
  | 81 => ⟨S1024x256x128x3, .i32⟩
  | 82 => ⟨S1024x256x128x3, .i32⟩
  | 83 => ⟨S1024x256x128x3, .i32⟩
  | 84 => ⟨S_, .i32⟩
  | 85 => ⟨S1024x256x128x3, .i32⟩
  | 86 => ⟨S1024x256x128x3, .i32⟩
  | 87 => ⟨S_, .i32⟩
  | 88 => ⟨S1024x256x128x3, .i32⟩
  | 89 => ⟨S1024x256x128x3, .i32⟩
  | 90 => ⟨S1024x256x128x3, .i32⟩
  | 91 => ⟨S1024x256x128x3, .i32⟩
  | 92 => ⟨S1024x256x128x3, .i32⟩
  | 93 => ⟨S_, .i32⟩
  | 94 => ⟨S1024x256x128x3, .i32⟩
  | 95 => ⟨S1024x256x128x3, .i32⟩
  | 96 => ⟨S_, .i32⟩
  | 97 => ⟨S1024x256x128x3, .i32⟩
  | 98 => ⟨S1024x256x128x3, .i32⟩
  | 99 => ⟨S1024x256x128x3, .i32⟩
  | 100 => ⟨S1024x256x128x3, .i32⟩
  | 101 => ⟨S1024x256x128x3, .i32⟩
  | 102 => ⟨S_, .i32⟩
  | 103 => ⟨S1024x256x128x3, .i32⟩
  | 104 => ⟨S1024x256x128x3, .i32⟩
  | 105 => ⟨S_, .i32⟩
  | 106 => ⟨S1024x256x128x3, .i32⟩
  | 107 => ⟨S1024x256x128x3, .i32⟩
  | 108 => ⟨S1024x256x128x3, .i32⟩
  | 109 => ⟨S1024x256x128x3, .i32⟩
  | 110 => ⟨S_, .i32⟩
  | 111 => ⟨S1024x256x128x3, .i32⟩
  | 112 => ⟨S1024x256x128x3, .i32⟩
  | 113 => ⟨S_, .i32⟩
  | 114 => ⟨S1024x256x128x3, .i32⟩
  | 115 => ⟨S1024x256x128x3, .i32⟩
  | 116 => ⟨S1024x256x128x3, .i32⟩
  | 117 => ⟨S_, .i32⟩
  | 118 => ⟨S1024x256x128x3, .i32⟩
  | 119 => ⟨S1024x256x128x3, .i32⟩
  | 120 => ⟨S_, .i32⟩
  | 121 => ⟨S1024x256x128x3, .i32⟩
  | 122 => ⟨S1024x256x128x3, .i32⟩
  | 123 => ⟨S1024x256x128x3, .f32⟩
  | 124 => ⟨S_, .f32⟩
  | 125 => ⟨S1024x256x128x3, .f32⟩
  | 126 => ⟨S1024x256x128x3, .f32⟩
  | 127 => ⟨S_, .f32⟩
  | _ => ⟨S1024x128, .f32⟩

abbrev hbmTy0_2 (i : Nat) : BufTy := match i % 128 with
  | 0 => ⟨S_, .f32⟩
  | 1 => ⟨S_, .f32⟩
  | 2 => ⟨S1024x256x128x3, .f32⟩
  | 3 => ⟨S1024x256x128x3, .f32⟩
  | 4 => ⟨S_, .f32⟩
  | 5 => ⟨S1024x256x128x3, .f32⟩
  | 6 => ⟨S1024x256x128x3, .f32⟩
  | 7 => ⟨S_, .f32⟩
  | 8 => ⟨S1024x256x128x3, .f32⟩
  | 9 => ⟨S1024x256x128x3, .f32⟩
  | 10 => ⟨S1024x256x128x3, .f32⟩
  | 11 => ⟨S1024x256x128x3, .f32⟩
  | 12 => ⟨S1024x256x128x3, .f32⟩
  | 13 => ⟨S1024x256x128x3, .f32⟩
  | 14 => ⟨S1x256x128x3, .f32⟩
  | 15 => ⟨S1024x256x128x3, .f32⟩
  | 16 => ⟨S1024x256x128x3, .f32⟩
  | 17 => ⟨S1024x256x128x1, .f32⟩
  | 18 => ⟨S1024x256x128, .f32⟩
  | 19 => ⟨S1024x256x128x1, .f32⟩
  | 20 => ⟨S1024x256x128, .f32⟩
  | 21 => ⟨S1024x256x128x1, .f32⟩
  | 22 => ⟨S1024x256x128, .f32⟩
  | 23 => ⟨S1024x256x128, .i1⟩
  | 24 => ⟨S1024x256x128, .i1⟩
  | 25 => ⟨S1024x256x128, .i1⟩
  | 26 => ⟨S1024x256x128, .i1⟩
  | 27 => ⟨S_, .i32⟩
  | 28 => ⟨S1024x256x128, .i32⟩
  | 29 => ⟨S_, .i32⟩
  | 30 => ⟨S1024x256x128, .i32⟩
  | 31 => ⟨S1024x256x128, .i32⟩
  | 32 => ⟨S_, .i32⟩
  | 33 => ⟨S1024x256x128, .i32⟩
  | 34 => ⟨S1024x256x128, .i32⟩
  | 35 => ⟨S_, .i32⟩
  | 36 => ⟨S1024x256x128, .i32⟩
  | 37 => ⟨S1024x256x128, .i1⟩
  | 38 => ⟨S_, .i1⟩
  | 39 => ⟨S1024x256, .i1⟩
  | 40 => ⟨S262144, .i32⟩
  | 41 => ⟨S1024x256, .i32⟩
  | 42 => ⟨S_, .i32⟩
  | 43 => ⟨S1024x256, .i32⟩
  | 44 => ⟨S_, .i32⟩
  | 45 => ⟨S1024x256, .i32⟩
  | 46 => ⟨S1024x256, .i32⟩
  | 47 => ⟨S_, .i32⟩
  | 48 => ⟨S1024x256, .i32⟩
  | 49 => ⟨S1024x256, .i32⟩
  | 50 => ⟨S1024x256, .i32⟩
  | 51 => ⟨S_, .i32⟩
  | 52 => ⟨S1024x256, .i32⟩
  | 53 => ⟨S1024x256, .i32⟩
  | 54 => ⟨S_, .i32⟩
  | 55 => ⟨S1024x256, .i32⟩
  | 56 => ⟨S1024x256, .i32⟩
  | 57 => ⟨S1024x256, .i32⟩
  | 58 => ⟨S1024x256, .i32⟩
  | 59 => ⟨S1024x256, .i32⟩
  | 60 => ⟨S_, .i32⟩
  | 61 => ⟨S1024x256, .i32⟩
  | 62 => ⟨S1024x256, .i32⟩
  | 63 => ⟨S_, .i32⟩
  | 64 => ⟨S1024x256, .i32⟩
  | 65 => ⟨S1024x256, .i32⟩
  | 66 => ⟨S1024x256, .i32⟩
  | 67 => ⟨S1024x256, .i32⟩
  | 68 => ⟨S1024x256, .i32⟩
  | 69 => ⟨S_, .i32⟩
  | 70 => ⟨S1024x256, .i32⟩
  | 71 => ⟨S1024x256, .i32⟩
  | 72 => ⟨S_, .i32⟩
  | 73 => ⟨S1024x256, .i32⟩
  | 74 => ⟨S1024x256, .i32⟩
  | 75 => ⟨S1024x256, .i32⟩
  | 76 => ⟨S1024x256, .i32⟩
  | 77 => ⟨S1024x256, .i32⟩
  | 78 => ⟨S_, .i32⟩
  | 79 => ⟨S1024x256, .i32⟩
  | 80 => ⟨S1024x256, .i32⟩
  | 81 => ⟨S_, .i32⟩
  | 82 => ⟨S1024x256, .i32⟩
  | 83 => ⟨S1024x256, .i32⟩
  | 84 => ⟨S1024x256, .i32⟩
  | 85 => ⟨S1024x256, .i32⟩
  | 86 => ⟨S_, .i32⟩
  | 87 => ⟨S1024x256, .i32⟩
  | 88 => ⟨S1024x256, .i32⟩
  | 89 => ⟨S_, .i32⟩
  | 90 => ⟨S1024x256, .i32⟩
  | 91 => ⟨S1024x256, .i32⟩
  | 92 => ⟨S1024x256, .i32⟩
  | 93 => ⟨S_, .i32⟩
  | 94 => ⟨S1024x256, .i32⟩
  | 95 => ⟨S1024x256, .i32⟩
  | 96 => ⟨S_, .i32⟩
  | 97 => ⟨S1024x256, .i32⟩
  | 98 => ⟨S1024x256, .i32⟩
  | 99 => ⟨S1024x256, .i32⟩
  | 100 => ⟨S1024x256, .i32⟩
  | 101 => ⟨S1024x256, .i32⟩
  | 102 => ⟨S_, .i32⟩
  | 103 => ⟨S1024x256, .i32⟩
  | 104 => ⟨S1024x256, .i32⟩
  | 105 => ⟨S_, .i32⟩
  | 106 => ⟨S1024x256, .i32⟩
  | 107 => ⟨S1024x256, .i32⟩
  | 108 => ⟨S1024x256, .i32⟩
  | 109 => ⟨S1024x256, .i32⟩
  | 110 => ⟨S1024x256, .i32⟩
  | 111 => ⟨S_, .i32⟩
  | 112 => ⟨S1024x256, .i32⟩
  | 113 => ⟨S1024x256, .i32⟩
  | 114 => ⟨S_, .i32⟩
  | 115 => ⟨S1024x256, .i32⟩
  | 116 => ⟨S1024x256, .i32⟩
  | 117 => ⟨S1024x256, .i32⟩
  | 118 => ⟨S1024x256, .i32⟩
  | 119 => ⟨S1024x256, .i32⟩
  | 120 => ⟨S_, .i32⟩
  | 121 => ⟨S1024x256, .i32⟩
  | 122 => ⟨S1024x256, .i32⟩
  | 123 => ⟨S_, .i32⟩
  | 124 => ⟨S1024x256, .i32⟩
  | 125 => ⟨S1024x256, .i32⟩
  | 126 => ⟨S1024x256, .i32⟩
  | 127 => ⟨S1024x256, .i32⟩
  | _ => ⟨S1024x128, .f32⟩

abbrev hbmTy0_3 (i : Nat) : BufTy := match i % 128 with
  | 0 => ⟨S_, .i32⟩
  | 1 => ⟨S1024x256, .i32⟩
  | 2 => ⟨S1024x256, .i32⟩
  | 3 => ⟨S_, .i32⟩
  | 4 => ⟨S1024x256, .i32⟩
  | 5 => ⟨S1024x256, .i32⟩
  | 6 => ⟨S1024x256, .i32⟩
  | 7 => ⟨S_, .i32⟩
  | 8 => ⟨S1024x256, .i32⟩
  | 9 => ⟨S1024x256, .i32⟩
  | 10 => ⟨S_, .i32⟩
  | 11 => ⟨S1024x256, .i32⟩
  | 12 => ⟨S1024x256, .i32⟩
  | 13 => ⟨S1024x256, .i32⟩
  | 14 => ⟨S1024x256, .i32⟩
  | 15 => ⟨S1024x256, .i32⟩
  | 16 => ⟨S_, .i32⟩
  | 17 => ⟨S1024x256, .i32⟩
  | 18 => ⟨S1024x256, .i32⟩
  | 19 => ⟨S_, .i32⟩
  | 20 => ⟨S1024x256, .i32⟩
  | 21 => ⟨S1024x256, .i32⟩
  | 22 => ⟨S1024x256, .i32⟩
  | 23 => ⟨S1024x256, .i32⟩
  | 24 => ⟨S1024x256, .i32⟩
  | 25 => ⟨S_, .i32⟩
  | 26 => ⟨S1024x256, .i32⟩
  | 27 => ⟨S1024x256, .i32⟩
  | 28 => ⟨S_, .i32⟩
  | 29 => ⟨S1024x256, .i32⟩
  | 30 => ⟨S1024x256, .i32⟩
  | 31 => ⟨S1024x256, .i32⟩
  | 32 => ⟨S1024x256, .i32⟩
  | 33 => ⟨S1024x256, .i32⟩
  | 34 => ⟨S_, .i32⟩
  | 35 => ⟨S1024x256, .i32⟩
  | 36 => ⟨S1024x256, .i32⟩
  | 37 => ⟨S_, .i32⟩
  | 38 => ⟨S1024x256, .i32⟩
  | 39 => ⟨S1024x256, .i32⟩
  | 40 => ⟨S1024x256, .i32⟩
  | 41 => ⟨S1024x256, .i32⟩
  | 42 => ⟨S_, .i32⟩
  | 43 => ⟨S1024x256, .i32⟩
  | 44 => ⟨S1024x256, .i32⟩
  | 45 => ⟨S_, .i32⟩
  | 46 => ⟨S1024x256, .i32⟩
  | 47 => ⟨S1024x256, .i32⟩
  | 48 => ⟨S1024x256, .i32⟩
  | 49 => ⟨S_, .i32⟩
  | 50 => ⟨S1024x256, .i32⟩
  | 51 => ⟨S1024x256, .i32⟩
  | 52 => ⟨S_, .i32⟩
  | 53 => ⟨S1024x256, .i32⟩
  | 54 => ⟨S1024x256, .i32⟩
  | 55 => ⟨S1024x256, .i32⟩
  | 56 => ⟨S1024x256, .i32⟩
  | 57 => ⟨S1024x256, .i32⟩
  | 58 => ⟨S_, .i32⟩
  | 59 => ⟨S1024x256, .i32⟩
  | 60 => ⟨S1024x256, .i32⟩
  | 61 => ⟨S_, .i32⟩
  | 62 => ⟨S1024x256, .i32⟩
  | 63 => ⟨S1024x256, .i32⟩
  | 64 => ⟨S1024x256, .i32⟩
  | 65 => ⟨S1024x256, .i32⟩
  | 66 => ⟨S1024x256, .i32⟩
  | 67 => ⟨S_, .i32⟩
  | 68 => ⟨S1024x256, .i32⟩
  | 69 => ⟨S1024x256, .i32⟩
  | 70 => ⟨S_, .i32⟩
  | 71 => ⟨S1024x256, .i32⟩
  | 72 => ⟨S1024x256, .i32⟩
  | 73 => ⟨S1024x256, .i32⟩
  | 74 => ⟨S1024x256, .i32⟩
  | 75 => ⟨S1024x256, .i32⟩
  | 76 => ⟨S_, .i32⟩
  | 77 => ⟨S1024x256, .i32⟩
  | 78 => ⟨S1024x256, .i32⟩
  | 79 => ⟨S_, .i32⟩
  | 80 => ⟨S1024x256, .i32⟩
  | 81 => ⟨S1024x256, .i32⟩
  | 82 => ⟨S1024x256, .i32⟩
  | 83 => ⟨S1024x256, .i32⟩
  | 84 => ⟨S_, .i32⟩
  | 85 => ⟨S1024x256, .i32⟩
  | 86 => ⟨S1024x256, .i32⟩
  | 87 => ⟨S_, .i32⟩
  | 88 => ⟨S1024x256, .i32⟩
  | 89 => ⟨S1024x256, .i32⟩
  | 90 => ⟨S1024x256, .i32⟩
  | 91 => ⟨S_, .i32⟩
  | 92 => ⟨S1024x256, .i32⟩
  | 93 => ⟨S1024x256, .i32⟩
  | 94 => ⟨S_, .i32⟩
  | 95 => ⟨S1024x256, .i32⟩
  | 96 => ⟨S1024x256, .i32⟩
  | 97 => ⟨S1024x256, .i32⟩
  | 98 => ⟨S1024x256, .i32⟩
  | 99 => ⟨S1024x256, .i32⟩
  | 100 => ⟨S_, .i32⟩
  | 101 => ⟨S1024x256, .i32⟩
  | 102 => ⟨S1024x256, .i32⟩
  | 103 => ⟨S_, .i32⟩
  | 104 => ⟨S1024x256, .i32⟩
  | 105 => ⟨S1024x256, .i32⟩
  | 106 => ⟨S1024x256, .i32⟩
  | 107 => ⟨S1024x256, .i32⟩
  | 108 => ⟨S1024x256, .i32⟩
  | 109 => ⟨S_, .i32⟩
  | 110 => ⟨S1024x256, .i32⟩
  | 111 => ⟨S1024x256, .i32⟩
  | 112 => ⟨S_, .i32⟩
  | 113 => ⟨S1024x256, .i32⟩
  | 114 => ⟨S1024x256, .i32⟩
  | 115 => ⟨S1024x256, .i32⟩
  | 116 => ⟨S1024x256, .i32⟩
  | 117 => ⟨S1024x256, .i32⟩
  | 118 => ⟨S_, .i32⟩
  | 119 => ⟨S1024x256, .i32⟩
  | 120 => ⟨S1024x256, .i32⟩
  | 121 => ⟨S_, .i32⟩
  | 122 => ⟨S1024x256, .i32⟩
  | 123 => ⟨S1024x256, .i32⟩
  | 124 => ⟨S1024x256, .i32⟩
  | 125 => ⟨S1024x256, .i32⟩
  | 126 => ⟨S_, .i32⟩
  | 127 => ⟨S1024x256, .i32⟩
  | _ => ⟨S1024x128, .f32⟩

abbrev hbmTy0_4 (i : Nat) : BufTy := match i % 128 with
  | 0 => ⟨S1024x256, .i32⟩
  | 1 => ⟨S_, .i32⟩
  | 2 => ⟨S1024x256, .i32⟩
  | 3 => ⟨S1024x256, .i32⟩
  | 4 => ⟨S1024x256, .i32⟩
  | 5 => ⟨S262144, .i32⟩
  | 6 => ⟨S1024x256, .i32⟩
  | 7 => ⟨S_, .i32⟩
  | 8 => ⟨S1024x256, .i32⟩
  | 9 => ⟨S_, .i32⟩
  | 10 => ⟨S1024x256, .i32⟩
  | 11 => ⟨S1024x256, .i32⟩
  | 12 => ⟨S_, .i32⟩
  | 13 => ⟨S1024x256, .i32⟩
  | 14 => ⟨S1024x256, .i32⟩
  | 15 => ⟨S1024x256, .i32⟩
  | 16 => ⟨S_, .i32⟩
  | 17 => ⟨S1024x256, .i32⟩
  | 18 => ⟨S1024x256, .i32⟩
  | 19 => ⟨S_, .i32⟩
  | 20 => ⟨S1024x256, .i32⟩
  | 21 => ⟨S1024x256, .i32⟩
  | 22 => ⟨S1024x256, .i32⟩
  | 23 => ⟨S1024x256, .i32⟩
  | 24 => ⟨S1024x256, .i32⟩
  | 25 => ⟨S_, .i32⟩
  | 26 => ⟨S1024x256, .i32⟩
  | 27 => ⟨S1024x256, .i32⟩
  | 28 => ⟨S_, .i32⟩
  | 29 => ⟨S1024x256, .i32⟩
  | 30 => ⟨S1024x256, .i32⟩
  | 31 => ⟨S1024x256, .i32⟩
  | 32 => ⟨S1024x256, .i32⟩
  | 33 => ⟨S1024x256, .i32⟩
  | 34 => ⟨S_, .i32⟩
  | 35 => ⟨S1024x256, .i32⟩
  | 36 => ⟨S1024x256, .i32⟩
  | 37 => ⟨S_, .i32⟩
  | 38 => ⟨S1024x256, .i32⟩
  | 39 => ⟨S1024x256, .i32⟩
  | 40 => ⟨S1024x256, .i32⟩
  | 41 => ⟨S1024x256, .i32⟩
  | 42 => ⟨S1024x256, .i32⟩
  | 43 => ⟨S_, .i32⟩
  | 44 => ⟨S1024x256, .i32⟩
  | 45 => ⟨S1024x256, .i32⟩
  | 46 => ⟨S_, .i32⟩
  | 47 => ⟨S1024x256, .i32⟩
  | 48 => ⟨S1024x256, .i32⟩
  | 49 => ⟨S1024x256, .i32⟩
  | 50 => ⟨S1024x256, .i32⟩
  | 51 => ⟨S_, .i32⟩
  | 52 => ⟨S1024x256, .i32⟩
  | 53 => ⟨S1024x256, .i32⟩
  | 54 => ⟨S_, .i32⟩
  | 55 => ⟨S1024x256, .i32⟩
  | 56 => ⟨S1024x256, .i32⟩
  | 57 => ⟨S1024x256, .i32⟩
  | 58 => ⟨S_, .i32⟩
  | 59 => ⟨S1024x256, .i32⟩
  | 60 => ⟨S1024x256, .i32⟩
  | 61 => ⟨S_, .i32⟩
  | 62 => ⟨S1024x256, .i32⟩
  | 63 => ⟨S1024x256, .i32⟩
  | 64 => ⟨S1024x256, .i32⟩
  | 65 => ⟨S1024x256, .i32⟩
  | 66 => ⟨S1024x256, .i32⟩
  | 67 => ⟨S_, .i32⟩
  | 68 => ⟨S1024x256, .i32⟩
  | 69 => ⟨S1024x256, .i32⟩
  | 70 => ⟨S_, .i32⟩
  | 71 => ⟨S1024x256, .i32⟩
  | 72 => ⟨S1024x256, .i32⟩
  | 73 => ⟨S1024x256, .i32⟩
  | 74 => ⟨S1024x256, .i32⟩
  | 75 => ⟨S1024x256, .i32⟩
  | 76 => ⟨S_, .i32⟩
  | 77 => ⟨S1024x256, .i32⟩
  | 78 => ⟨S1024x256, .i32⟩
  | 79 => ⟨S_, .i32⟩
  | 80 => ⟨S1024x256, .i32⟩
  | 81 => ⟨S1024x256, .i32⟩
  | 82 => ⟨S1024x256, .i32⟩
  | 83 => ⟨S1024x256, .i32⟩
  | 84 => ⟨S1024x256, .i32⟩
  | 85 => ⟨S_, .i32⟩
  | 86 => ⟨S1024x256, .i32⟩
  | 87 => ⟨S1024x256, .i32⟩
  | 88 => ⟨S_, .i32⟩
  | 89 => ⟨S1024x256, .i32⟩
  | 90 => ⟨S1024x256, .i32⟩
  | 91 => ⟨S1024x256, .i32⟩
  | 92 => ⟨S1024x256, .i32⟩
  | 93 => ⟨S_, .i32⟩
  | 94 => ⟨S1024x256, .i32⟩
  | 95 => ⟨S1024x256, .i32⟩
  | 96 => ⟨S_, .i32⟩
  | 97 => ⟨S1024x256, .i32⟩
  | 98 => ⟨S1024x256, .i32⟩
  | 99 => ⟨S1024x256, .i32⟩
  | 100 => ⟨S_, .i32⟩
  | 101 => ⟨S1024x256, .i32⟩
  | 102 => ⟨S1024x256, .i32⟩
  | 103 => ⟨S_, .i32⟩
  | 104 => ⟨S1024x256, .i32⟩
  | 105 => ⟨S1024x256, .i32⟩
  | 106 => ⟨S1024x256, .i32⟩
  | 107 => ⟨S1024x256, .i32⟩
  | 108 => ⟨S1024x256, .i32⟩
  | 109 => ⟨S_, .i32⟩
  | 110 => ⟨S1024x256, .i32⟩
  | 111 => ⟨S1024x256, .i32⟩
  | 112 => ⟨S_, .i32⟩
  | 113 => ⟨S1024x256, .i32⟩
  | 114 => ⟨S1024x256, .i32⟩
  | 115 => ⟨S1024x256, .i32⟩
  | 116 => ⟨S1024x256, .i32⟩
  | 117 => ⟨S1024x256, .i32⟩
  | 118 => ⟨S_, .i32⟩
  | 119 => ⟨S1024x256, .i32⟩
  | 120 => ⟨S1024x256, .i32⟩
  | 121 => ⟨S_, .i32⟩
  | 122 => ⟨S1024x256, .i32⟩
  | 123 => ⟨S1024x256, .i32⟩
  | 124 => ⟨S1024x256, .i32⟩
  | 125 => ⟨S1024x256, .i32⟩
  | 126 => ⟨S1024x256, .i32⟩
  | 127 => ⟨S_, .i32⟩
  | _ => ⟨S1024x128, .f32⟩

abbrev hbmTy0_5 (i : Nat) : BufTy := match i % 128 with
  | 0 => ⟨S1024x256, .i32⟩
  | 1 => ⟨S1024x256, .i32⟩
  | 2 => ⟨S_, .i32⟩
  | 3 => ⟨S1024x256, .i32⟩
  | 4 => ⟨S1024x256, .i32⟩
  | 5 => ⟨S1024x256, .i32⟩
  | 6 => ⟨S1024x256, .i32⟩
  | 7 => ⟨S_, .i32⟩
  | 8 => ⟨S1024x256, .i32⟩
  | 9 => ⟨S1024x256, .i32⟩
  | 10 => ⟨S_, .i32⟩
  | 11 => ⟨S1024x256, .i32⟩
  | 12 => ⟨S1024x256, .i32⟩
  | 13 => ⟨S1024x256, .i32⟩
  | 14 => ⟨S_, .i32⟩
  | 15 => ⟨S1024x256, .i32⟩
  | 16 => ⟨S1024x256, .i32⟩
  | 17 => ⟨S_, .i32⟩
  | 18 => ⟨S1024x256, .i32⟩
  | 19 => ⟨S1024x256, .i32⟩
  | 20 => ⟨S1024x256, .i32⟩
  | 21 => ⟨S1024x256, .i32⟩
  | 22 => ⟨S1024x256, .i32⟩
  | 23 => ⟨S_, .i32⟩
  | 24 => ⟨S1024x256, .i32⟩
  | 25 => ⟨S1024x256, .i32⟩
  | 26 => ⟨S_, .i32⟩
  | 27 => ⟨S1024x256, .i32⟩
  | 28 => ⟨S1024x256, .i32⟩
  | 29 => ⟨S1024x256, .i32⟩
  | 30 => ⟨S1024x256, .i32⟩
  | 31 => ⟨S1024x256, .i32⟩
  | 32 => ⟨S_, .i32⟩
  | 33 => ⟨S1024x256, .i32⟩
  | 34 => ⟨S1024x256, .i32⟩
  | 35 => ⟨S_, .i32⟩
  | 36 => ⟨S1024x256, .i32⟩
  | 37 => ⟨S1024x256, .i32⟩
  | 38 => ⟨S1024x256, .i32⟩
  | 39 => ⟨S1024x256, .i32⟩
  | 40 => ⟨S1024x256, .i32⟩
  | 41 => ⟨S_, .i32⟩
  | 42 => ⟨S1024x256, .i32⟩
  | 43 => ⟨S1024x256, .i32⟩
  | 44 => ⟨S_, .i32⟩
  | 45 => ⟨S1024x256, .i32⟩
  | 46 => ⟨S1024x256, .i32⟩
  | 47 => ⟨S1024x256, .i32⟩
  | 48 => ⟨S1024x256, .i32⟩
  | 49 => ⟨S_, .i32⟩
  | 50 => ⟨S1024x256, .i32⟩
  | 51 => ⟨S1024x256, .i32⟩
  | 52 => ⟨S_, .i32⟩
  | 53 => ⟨S1024x256, .i32⟩
  | 54 => ⟨S1024x256, .i32⟩
  | 55 => ⟨S1024x256, .i32⟩
  | 56 => ⟨S_, .i32⟩
  | 57 => ⟨S1024x256, .i32⟩
  | 58 => ⟨S1024x256, .i32⟩
  | 59 => ⟨S_, .i32⟩
  | 60 => ⟨S1024x256, .i32⟩
  | 61 => ⟨S1024x256, .i32⟩
  | 62 => ⟨S1024x256, .i32⟩
  | 63 => ⟨S1024x256, .i32⟩
  | 64 => ⟨S1024x256, .i32⟩
  | 65 => ⟨S_, .i32⟩
  | 66 => ⟨S1024x256, .i32⟩
  | 67 => ⟨S1024x256, .i32⟩
  | 68 => ⟨S_, .i32⟩
  | 69 => ⟨S1024x256, .i32⟩
  | 70 => ⟨S1024x256, .i32⟩
  | 71 => ⟨S1024x256, .i32⟩
  | 72 => ⟨S1024x256, .i32⟩
  | 73 => ⟨S1024x256, .i32⟩
  | 74 => ⟨S_, .i32⟩
  | 75 => ⟨S1024x256, .i32⟩
  | 76 => ⟨S1024x256, .i32⟩
  | 77 => ⟨S_, .i32⟩
  | 78 => ⟨S1024x256, .i32⟩
  | 79 => ⟨S1024x256, .i32⟩
  | 80 => ⟨S1024x256, .i32⟩
  | 81 => ⟨S1024x256, .i32⟩
  | 82 => ⟨S1024x256, .i32⟩
  | 83 => ⟨S_, .i32⟩
  | 84 => ⟨S1024x256, .i32⟩
  | 85 => ⟨S1024x256, .i32⟩
  | 86 => ⟨S_, .i32⟩
  | 87 => ⟨S1024x256, .i32⟩
  | 88 => ⟨S1024x256, .i32⟩
  | 89 => ⟨S1024x256, .i32⟩
  | 90 => ⟨S1024x256, .i32⟩
  | 91 => ⟨S_, .i32⟩
  | 92 => ⟨S1024x256, .i32⟩
  | 93 => ⟨S1024x256, .i32⟩
  | 94 => ⟨S_, .i32⟩
  | 95 => ⟨S1024x256, .i32⟩
  | 96 => ⟨S1024x256, .i32⟩
  | 97 => ⟨S1024x256, .i32⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S1024x256, .i32⟩
  | 106 => ⟨S1024x256, .i32⟩
  | 107 => ⟨S1024x256, .i32⟩
  | 108 => ⟨S1024x256, .i32⟩
  | 109 => ⟨S_, .i32⟩
  | 110 => ⟨S1024x256, .i32⟩
  | 111 => ⟨S1024x256, .i32⟩
  | 112 => ⟨S1024x256, .i32⟩
  | 113 => ⟨S_, .i32⟩
  | 114 => ⟨S1024x256, .i32⟩
  | 115 => ⟨S1024x256, .i32⟩
  | 116 => ⟨S1024x256, .i32⟩
  | 117 => ⟨S_, .i32⟩
  | 118 => ⟨S1024x256, .i32⟩
  | 119 => ⟨S1024x256, .i32⟩
  | 120 => ⟨S128, .i32⟩
  | 121 => ⟨S1x1x128, .i32⟩
  | 122 => ⟨S1024x256x1, .i32⟩
  | 123 => ⟨S1024x256x128, .i32⟩
  | 124 => ⟨S1024x256x128, .i32⟩
  | 125 => ⟨S1024x256x128, .i1⟩
  | 126 => ⟨S1024x256x1, .i1⟩
  | 127 => ⟨S1024x256x128, .i1⟩
  | _ => ⟨S1024x128, .f32⟩

abbrev hbmTy0_6 (i : Nat) : BufTy := match i % 128 with
  | 0 => ⟨S1024x256x128, .i1⟩
  | 1 => ⟨S_, .i32⟩
  | 2 => ⟨S1024x256x128, .i32⟩
  | 3 => ⟨S1024x256x128, .i32⟩
  | 4 => ⟨S1024x1x128, .f32⟩
  | 5 => ⟨S_, .i32⟩
  | 6 => ⟨S1024x256x128, .i32⟩
  | 7 => ⟨S1024x256x128, .i1⟩
  | 8 => ⟨S_, .i32⟩
  | 9 => ⟨S1024x256x128, .i32⟩
  | 10 => ⟨S1024x256x128, .i1⟩
  | 11 => ⟨S_, .f32⟩
  | 12 => ⟨S1024x1x128, .f32⟩
  | 13 => ⟨S1024x1x128, .f32⟩
  | 14 => ⟨S1024x256x128, .f32⟩
  | 15 => ⟨S_, .f32⟩
  | 16 => ⟨S1024x256x128, .f32⟩
  | 17 => ⟨S1024x256x128, .f32⟩
  | 18 => ⟨S1024x256x128, .f32⟩
  | 19 => ⟨S1024x256x128, .f32⟩
  | 20 => ⟨S_, .i32⟩
  | 21 => ⟨S256, .i32⟩
  | 22 => ⟨S256, .i1⟩
  | 23 => ⟨S_, .f32⟩
  | 24 => ⟨S256, .f32⟩
  | 25 => ⟨S_, .f32⟩
  | 26 => ⟨S256, .f32⟩
  | 27 => ⟨S256, .f32⟩
  | 28 => ⟨S_, .i32⟩
  | 29 => ⟨S1024x256x128, .i32⟩
  | 30 => ⟨S1024x256x128, .i1⟩
  | 31 => ⟨S1x256x1, .f32⟩
  | 32 => ⟨S1024x256x128, .f32⟩
  | 33 => ⟨S_, .f32⟩
  | 34 => ⟨S1024x256x128, .f32⟩
  | 35 => ⟨S1024x256x128, .f32⟩
  | 36 => ⟨S1024x256x128, .f32⟩
  | 37 => ⟨S1x256, .i1⟩
  | 38 => ⟨S1024x256, .i1⟩
  | 39 => ⟨S_, .f32⟩
  | 40 => ⟨S1024x256, .f32⟩
  | 41 => ⟨S_, .f32⟩
  | 42 => ⟨S1024x256, .f32⟩
  | 43 => ⟨S1024x256, .f32⟩
  | _ => ⟨S1024x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_c_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_8 : Ref sig .tc := ⟨.hbm, 44, rfl⟩
abbrev main_v31 : Ref sig .tc := ⟨.hbm, 45, rfl⟩
abbrev main_v32 : Ref sig .tc := ⟨.hbm, 46, rfl⟩
abbrev main_c_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_10 : Ref sig .tc := ⟨.hbm, 53, rfl⟩
abbrev main_v38 : Ref sig .tc := ⟨.hbm, 54, rfl⟩
abbrev main_v39 : Ref sig .tc := ⟨.hbm, 55, rfl⟩
abbrev main_c_11 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_12 : Ref sig .tc := ⟨.hbm, 62, rfl⟩
abbrev main_v45 : Ref sig .tc := ⟨.hbm, 63, rfl⟩
abbrev main_v46 : Ref sig .tc := ⟨.hbm, 64, rfl⟩
abbrev main_c_13 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_14 : Ref sig .tc := ⟨.hbm, 70, rfl⟩
abbrev main_v51 : Ref sig .tc := ⟨.hbm, 71, rfl⟩
abbrev main_v52 : Ref sig .tc := ⟨.hbm, 72, rfl⟩
abbrev main_c_15 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_16 : Ref sig .tc := ⟨.hbm, 77, rfl⟩
abbrev main_v56 : Ref sig .tc := ⟨.hbm, 78, rfl⟩
abbrev main_v57 : Ref sig .tc := ⟨.hbm, 79, rfl⟩
abbrev main_c_17 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_18 : Ref sig .tc := ⟨.hbm, 86, rfl⟩
abbrev main_v63 : Ref sig .tc := ⟨.hbm, 87, rfl⟩
abbrev main_v64 : Ref sig .tc := ⟨.hbm, 88, rfl⟩
abbrev main_c_19 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_20 : Ref sig .tc := ⟨.hbm, 95, rfl⟩
abbrev main_v70 : Ref sig .tc := ⟨.hbm, 96, rfl⟩
abbrev main_v71 : Ref sig .tc := ⟨.hbm, 97, rfl⟩
abbrev main_c_21 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_22 : Ref sig .tc := ⟨.hbm, 104, rfl⟩
abbrev main_v77 : Ref sig .tc := ⟨.hbm, 105, rfl⟩
abbrev main_v78 : Ref sig .tc := ⟨.hbm, 106, rfl⟩
abbrev main_c_23 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_24 : Ref sig .tc := ⟨.hbm, 112, rfl⟩
abbrev main_v83 : Ref sig .tc := ⟨.hbm, 113, rfl⟩
abbrev main_v84 : Ref sig .tc := ⟨.hbm, 114, rfl⟩
abbrev main_c_25 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_c_26 : Ref sig .tc := ⟨.hbm, 119, rfl⟩
abbrev main_v88 : Ref sig .tc := ⟨.hbm, 120, rfl⟩
abbrev main_v89 : Ref sig .tc := ⟨.hbm, 121, rfl⟩
abbrev main_c_27 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_c_28 : Ref sig .tc := ⟨.hbm, 128, rfl⟩
abbrev main_v95 : Ref sig .tc := ⟨.hbm, 129, rfl⟩
abbrev main_v96 : Ref sig .tc := ⟨.hbm, 130, rfl⟩
abbrev main_c_29 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_c_30 : Ref sig .tc := ⟨.hbm, 137, rfl⟩
abbrev main_v102 : Ref sig .tc := ⟨.hbm, 138, rfl⟩
abbrev main_v103 : Ref sig .tc := ⟨.hbm, 139, rfl⟩
abbrev main_c_31 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_c_32 : Ref sig .tc := ⟨.hbm, 146, rfl⟩
abbrev main_v109 : Ref sig .tc := ⟨.hbm, 147, rfl⟩
abbrev main_v110 : Ref sig .tc := ⟨.hbm, 148, rfl⟩
abbrev main_c_33 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_c_34 : Ref sig .tc := ⟨.hbm, 154, rfl⟩
abbrev main_v115 : Ref sig .tc := ⟨.hbm, 155, rfl⟩
abbrev main_v116 : Ref sig .tc := ⟨.hbm, 156, rfl⟩
abbrev main_c_35 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_c_36 : Ref sig .tc := ⟨.hbm, 161, rfl⟩
abbrev main_v120 : Ref sig .tc := ⟨.hbm, 162, rfl⟩
abbrev main_v121 : Ref sig .tc := ⟨.hbm, 163, rfl⟩
abbrev main_c_37 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_c_38 : Ref sig .tc := ⟨.hbm, 170, rfl⟩
abbrev main_v127 : Ref sig .tc := ⟨.hbm, 171, rfl⟩
abbrev main_v128 : Ref sig .tc := ⟨.hbm, 172, rfl⟩
abbrev main_c_39 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_c_40 : Ref sig .tc := ⟨.hbm, 179, rfl⟩
abbrev main_v134 : Ref sig .tc := ⟨.hbm, 180, rfl⟩
abbrev main_v135 : Ref sig .tc := ⟨.hbm, 181, rfl⟩
abbrev main_c_41 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_c_42 : Ref sig .tc := ⟨.hbm, 188, rfl⟩
abbrev main_v141 : Ref sig .tc := ⟨.hbm, 189, rfl⟩
abbrev main_v142 : Ref sig .tc := ⟨.hbm, 190, rfl⟩
abbrev main_c_43 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_c_44 : Ref sig .tc := ⟨.hbm, 196, rfl⟩
abbrev main_v147 : Ref sig .tc := ⟨.hbm, 197, rfl⟩
abbrev main_v148 : Ref sig .tc := ⟨.hbm, 198, rfl⟩
abbrev main_c_45 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_c_46 : Ref sig .tc := ⟨.hbm, 203, rfl⟩
abbrev main_v152 : Ref sig .tc := ⟨.hbm, 204, rfl⟩
abbrev main_v153 : Ref sig .tc := ⟨.hbm, 205, rfl⟩
abbrev main_c_47 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_c_48 : Ref sig .tc := ⟨.hbm, 212, rfl⟩
abbrev main_v159 : Ref sig .tc := ⟨.hbm, 213, rfl⟩
abbrev main_v160 : Ref sig .tc := ⟨.hbm, 214, rfl⟩
abbrev main_c_49 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_c_50 : Ref sig .tc := ⟨.hbm, 221, rfl⟩
abbrev main_v166 : Ref sig .tc := ⟨.hbm, 222, rfl⟩
abbrev main_v167 : Ref sig .tc := ⟨.hbm, 223, rfl⟩
abbrev main_c_51 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_c_52 : Ref sig .tc := ⟨.hbm, 230, rfl⟩
abbrev main_v173 : Ref sig .tc := ⟨.hbm, 231, rfl⟩
abbrev main_v174 : Ref sig .tc := ⟨.hbm, 232, rfl⟩
abbrev main_c_53 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_c_54 : Ref sig .tc := ⟨.hbm, 238, rfl⟩
abbrev main_v179 : Ref sig .tc := ⟨.hbm, 239, rfl⟩
abbrev main_v180 : Ref sig .tc := ⟨.hbm, 240, rfl⟩
abbrev main_c_55 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_c_56 : Ref sig .tc := ⟨.hbm, 245, rfl⟩
abbrev main_v184 : Ref sig .tc := ⟨.hbm, 246, rfl⟩
abbrev main_v185 : Ref sig .tc := ⟨.hbm, 247, rfl⟩
abbrev main_c_57 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_cst : Ref sig .tc := ⟨.hbm, 252, rfl⟩
abbrev main_v189 : Ref sig .tc := ⟨.hbm, 253, rfl⟩
abbrev main_v190 : Ref sig .tc := ⟨.hbm, 254, rfl⟩
abbrev main_cst_58 : Ref sig .tc := ⟨.hbm, 255, rfl⟩
abbrev main_cst_59 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_cst_60 : Ref sig .tc := ⟨.hbm, 260, rfl⟩
abbrev main_v194 : Ref sig .tc := ⟨.hbm, 261, rfl⟩
abbrev main_v195 : Ref sig .tc := ⟨.hbm, 262, rfl⟩
abbrev main_cst_61 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_c_62 : Ref sig .tc := ⟨.hbm, 283, rfl⟩
abbrev main_v215 : Ref sig .tc := ⟨.hbm, 284, rfl⟩
abbrev main_c_63 : Ref sig .tc := ⟨.hbm, 285, rfl⟩
abbrev main_v216 : Ref sig .tc := ⟨.hbm, 286, rfl⟩
abbrev main_v217 : Ref sig .tc := ⟨.hbm, 287, rfl⟩
abbrev main_c_64 : Ref sig .tc := ⟨.hbm, 288, rfl⟩
abbrev main_v218 : Ref sig .tc := ⟨.hbm, 289, rfl⟩
abbrev main_v219 : Ref sig .tc := ⟨.hbm, 290, rfl⟩
abbrev main_c_65 : Ref sig .tc := ⟨.hbm, 291, rfl⟩
abbrev main_v220 : Ref sig .tc := ⟨.hbm, 292, rfl⟩
abbrev main_v221 : Ref sig .tc := ⟨.hbm, 293, rfl⟩
abbrev main_c_66 : Ref sig .tc := ⟨.hbm, 294, rfl⟩
abbrev main_v222 : Ref sig .tc := ⟨.hbm, 295, rfl⟩
abbrev main_v223 : Ref sig .tc := ⟨.hbm, 296, rfl⟩
abbrev main_v224 : Ref sig .tc := ⟨.hbm, 297, rfl⟩
abbrev main_c_67 : Ref sig .tc := ⟨.hbm, 298, rfl⟩
abbrev main_v225 : Ref sig .tc := ⟨.hbm, 299, rfl⟩
abbrev main_c_68 : Ref sig .tc := ⟨.hbm, 300, rfl⟩
abbrev main_v226 : Ref sig .tc := ⟨.hbm, 301, rfl⟩
abbrev main_v227 : Ref sig .tc := ⟨.hbm, 302, rfl⟩
abbrev main_c_69 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_c_70 : Ref sig .tc := ⟨.hbm, 307, rfl⟩
abbrev main_v231 : Ref sig .tc := ⟨.hbm, 308, rfl⟩
abbrev main_v232 : Ref sig .tc := ⟨.hbm, 309, rfl⟩
abbrev main_c_71 : Ref sig .tc := ⟨.hbm, 310, rfl⟩
abbrev main_v233 : Ref sig .tc := ⟨.hbm, 311, rfl⟩
abbrev main_v234 : Ref sig .tc := ⟨.hbm, 312, rfl⟩
abbrev main_v235 : Ref sig .tc := ⟨.hbm, 313, rfl⟩
abbrev main_v236 : Ref sig .tc := ⟨.hbm, 314, rfl⟩
abbrev main_v237 : Ref sig .tc := ⟨.hbm, 315, rfl⟩
abbrev main_c_72 : Ref sig .tc := ⟨.hbm, 316, rfl⟩
abbrev main_v238 : Ref sig .tc := ⟨.hbm, 317, rfl⟩
abbrev main_v239 : Ref sig .tc := ⟨.hbm, 318, rfl⟩
abbrev main_c_73 : Ref sig .tc := ⟨.hbm, 319, rfl⟩
abbrev main_v240 : Ref sig .tc := ⟨.hbm, 320, rfl⟩
abbrev main_v241 : Ref sig .tc := ⟨.hbm, 321, rfl⟩
abbrev main_v242 : Ref sig .tc := ⟨.hbm, 322, rfl⟩
abbrev main_v243 : Ref sig .tc := ⟨.hbm, 323, rfl⟩
abbrev main_v244 : Ref sig .tc := ⟨.hbm, 324, rfl⟩
abbrev main_c_74 : Ref sig .tc := ⟨.hbm, 325, rfl⟩
abbrev main_v245 : Ref sig .tc := ⟨.hbm, 326, rfl⟩
abbrev main_v246 : Ref sig .tc := ⟨.hbm, 327, rfl⟩
abbrev main_c_75 : Ref sig .tc := ⟨.hbm, 328, rfl⟩
abbrev main_v247 : Ref sig .tc := ⟨.hbm, 329, rfl⟩
abbrev main_v248 : Ref sig .tc := ⟨.hbm, 330, rfl⟩
abbrev main_v249 : Ref sig .tc := ⟨.hbm, 331, rfl⟩
abbrev main_v250 : Ref sig .tc := ⟨.hbm, 332, rfl⟩
abbrev main_v251 : Ref sig .tc := ⟨.hbm, 333, rfl⟩
abbrev main_c_76 : Ref sig .tc := ⟨.hbm, 334, rfl⟩
abbrev main_v252 : Ref sig .tc := ⟨.hbm, 335, rfl⟩
abbrev main_v253 : Ref sig .tc := ⟨.hbm, 336, rfl⟩
abbrev main_c_77 : Ref sig .tc := ⟨.hbm, 337, rfl⟩
abbrev main_v254 : Ref sig .tc := ⟨.hbm, 338, rfl⟩
abbrev main_v255 : Ref sig .tc := ⟨.hbm, 339, rfl⟩
abbrev main_v256 : Ref sig .tc := ⟨.hbm, 340, rfl⟩
abbrev main_v257 : Ref sig .tc := ⟨.hbm, 341, rfl⟩
abbrev main_c_78 : Ref sig .tc := ⟨.hbm, 342, rfl⟩
abbrev main_v258 : Ref sig .tc := ⟨.hbm, 343, rfl⟩
abbrev main_v259 : Ref sig .tc := ⟨.hbm, 344, rfl⟩
abbrev main_c_79 : Ref sig .tc := ⟨.hbm, 345, rfl⟩
abbrev main_v260 : Ref sig .tc := ⟨.hbm, 346, rfl⟩
abbrev main_v261 : Ref sig .tc := ⟨.hbm, 347, rfl⟩
abbrev main_v262 : Ref sig .tc := ⟨.hbm, 348, rfl⟩
abbrev main_c_80 : Ref sig .tc := ⟨.hbm, 349, rfl⟩
abbrev main_v263 : Ref sig .tc := ⟨.hbm, 350, rfl⟩
abbrev main_v264 : Ref sig .tc := ⟨.hbm, 351, rfl⟩
abbrev main_c_81 : Ref sig .tc := ⟨.hbm, 352, rfl⟩
abbrev main_v265 : Ref sig .tc := ⟨.hbm, 353, rfl⟩
abbrev main_v266 : Ref sig .tc := ⟨.hbm, 354, rfl⟩
abbrev main_v267 : Ref sig .tc := ⟨.hbm, 355, rfl⟩
abbrev main_v268 : Ref sig .tc := ⟨.hbm, 356, rfl⟩
abbrev main_v269 : Ref sig .tc := ⟨.hbm, 357, rfl⟩
abbrev main_c_82 : Ref sig .tc := ⟨.hbm, 358, rfl⟩
abbrev main_v270 : Ref sig .tc := ⟨.hbm, 359, rfl⟩
abbrev main_v271 : Ref sig .tc := ⟨.hbm, 360, rfl⟩
abbrev main_c_83 : Ref sig .tc := ⟨.hbm, 361, rfl⟩
abbrev main_v272 : Ref sig .tc := ⟨.hbm, 362, rfl⟩
abbrev main_v273 : Ref sig .tc := ⟨.hbm, 363, rfl⟩
abbrev main_v274 : Ref sig .tc := ⟨.hbm, 364, rfl⟩
abbrev main_v275 : Ref sig .tc := ⟨.hbm, 365, rfl⟩
abbrev main_v276 : Ref sig .tc := ⟨.hbm, 366, rfl⟩
abbrev main_c_84 : Ref sig .tc := ⟨.hbm, 367, rfl⟩
abbrev main_v277 : Ref sig .tc := ⟨.hbm, 368, rfl⟩
abbrev main_v278 : Ref sig .tc := ⟨.hbm, 369, rfl⟩
abbrev main_c_85 : Ref sig .tc := ⟨.hbm, 370, rfl⟩
abbrev main_v279 : Ref sig .tc := ⟨.hbm, 371, rfl⟩
abbrev main_v280 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_c_86 : Ref sig .tc := ⟨.hbm, 376, rfl⟩
abbrev main_v284 : Ref sig .tc := ⟨.hbm, 377, rfl⟩
abbrev main_v285 : Ref sig .tc := ⟨.hbm, 378, rfl⟩
abbrev main_c_87 : Ref sig .tc := ⟨.hbm, 379, rfl⟩
abbrev main_v286 : Ref sig .tc := ⟨.hbm, 380, rfl⟩
abbrev main_v287 : Ref sig .tc := ⟨.hbm, 381, rfl⟩
abbrev main_v288 : Ref sig .tc := ⟨.hbm, 382, rfl⟩
abbrev main_v289 : Ref sig .tc := ⟨.hbm, 383, rfl⟩
abbrev main_c_88 : Ref sig .tc := ⟨.hbm, 384, rfl⟩
abbrev main_v290 : Ref sig .tc := ⟨.hbm, 385, rfl⟩
abbrev main_v291 : Ref sig .tc := ⟨.hbm, 386, rfl⟩
abbrev main_c_89 : Ref sig .tc := ⟨.hbm, 387, rfl⟩
abbrev main_v292 : Ref sig .tc := ⟨.hbm, 388, rfl⟩
abbrev main_v293 : Ref sig .tc := ⟨.hbm, 389, rfl⟩
abbrev main_v294 : Ref sig .tc := ⟨.hbm, 390, rfl⟩
abbrev main_c_90 : Ref sig .tc := ⟨.hbm, 391, rfl⟩
abbrev main_v295 : Ref sig .tc := ⟨.hbm, 392, rfl⟩
abbrev main_v296 : Ref sig .tc := ⟨.hbm, 393, rfl⟩
abbrev main_c_91 : Ref sig .tc := ⟨.hbm, 394, rfl⟩
abbrev main_v297 : Ref sig .tc := ⟨.hbm, 395, rfl⟩
abbrev main_v298 : Ref sig .tc := ⟨.hbm, 396, rfl⟩
abbrev main_v299 : Ref sig .tc := ⟨.hbm, 397, rfl⟩
abbrev main_v300 : Ref sig .tc := ⟨.hbm, 398, rfl⟩
abbrev main_v301 : Ref sig .tc := ⟨.hbm, 399, rfl⟩
abbrev main_c_92 : Ref sig .tc := ⟨.hbm, 400, rfl⟩
abbrev main_v302 : Ref sig .tc := ⟨.hbm, 401, rfl⟩
abbrev main_v303 : Ref sig .tc := ⟨.hbm, 402, rfl⟩
abbrev main_c_93 : Ref sig .tc := ⟨.hbm, 403, rfl⟩
abbrev main_v304 : Ref sig .tc := ⟨.hbm, 404, rfl⟩
abbrev main_v305 : Ref sig .tc := ⟨.hbm, 405, rfl⟩
abbrev main_v306 : Ref sig .tc := ⟨.hbm, 406, rfl⟩
abbrev main_v307 : Ref sig .tc := ⟨.hbm, 407, rfl⟩
abbrev main_v308 : Ref sig .tc := ⟨.hbm, 408, rfl⟩
abbrev main_c_94 : Ref sig .tc := ⟨.hbm, 409, rfl⟩
abbrev main_v309 : Ref sig .tc := ⟨.hbm, 410, rfl⟩
abbrev main_v310 : Ref sig .tc := ⟨.hbm, 411, rfl⟩
abbrev main_c_95 : Ref sig .tc := ⟨.hbm, 412, rfl⟩
abbrev main_v311 : Ref sig .tc := ⟨.hbm, 413, rfl⟩
abbrev main_v312 : Ref sig .tc := ⟨.hbm, 414, rfl⟩
abbrev main_v313 : Ref sig .tc := ⟨.hbm, 415, rfl⟩
abbrev main_v314 : Ref sig .tc := ⟨.hbm, 416, rfl⟩
abbrev main_v315 : Ref sig .tc := ⟨.hbm, 417, rfl⟩
abbrev main_c_96 : Ref sig .tc := ⟨.hbm, 418, rfl⟩
abbrev main_v316 : Ref sig .tc := ⟨.hbm, 419, rfl⟩
abbrev main_v317 : Ref sig .tc := ⟨.hbm, 420, rfl⟩
abbrev main_c_97 : Ref sig .tc := ⟨.hbm, 421, rfl⟩
abbrev main_v318 : Ref sig .tc := ⟨.hbm, 422, rfl⟩
abbrev main_v319 : Ref sig .tc := ⟨.hbm, 423, rfl⟩
abbrev main_v320 : Ref sig .tc := ⟨.hbm, 424, rfl⟩
abbrev main_v321 : Ref sig .tc := ⟨.hbm, 425, rfl⟩
abbrev main_c_98 : Ref sig .tc := ⟨.hbm, 426, rfl⟩
abbrev main_v322 : Ref sig .tc := ⟨.hbm, 427, rfl⟩
abbrev main_v323 : Ref sig .tc := ⟨.hbm, 428, rfl⟩
abbrev main_c_99 : Ref sig .tc := ⟨.hbm, 429, rfl⟩
abbrev main_v324 : Ref sig .tc := ⟨.hbm, 430, rfl⟩
abbrev main_v325 : Ref sig .tc := ⟨.hbm, 431, rfl⟩
abbrev main_v326 : Ref sig .tc := ⟨.hbm, 432, rfl⟩
abbrev main_c_100 : Ref sig .tc := ⟨.hbm, 433, rfl⟩
abbrev main_v327 : Ref sig .tc := ⟨.hbm, 434, rfl⟩
abbrev main_v328 : Ref sig .tc := ⟨.hbm, 435, rfl⟩
abbrev main_c_101 : Ref sig .tc := ⟨.hbm, 436, rfl⟩
abbrev main_v329 : Ref sig .tc := ⟨.hbm, 437, rfl⟩
abbrev main_v330 : Ref sig .tc := ⟨.hbm, 438, rfl⟩
abbrev main_v331 : Ref sig .tc := ⟨.hbm, 439, rfl⟩
abbrev main_v332 : Ref sig .tc := ⟨.hbm, 440, rfl⟩
abbrev main_v333 : Ref sig .tc := ⟨.hbm, 441, rfl⟩
abbrev main_c_102 : Ref sig .tc := ⟨.hbm, 442, rfl⟩
abbrev main_v334 : Ref sig .tc := ⟨.hbm, 443, rfl⟩
abbrev main_v335 : Ref sig .tc := ⟨.hbm, 444, rfl⟩
abbrev main_c_103 : Ref sig .tc := ⟨.hbm, 445, rfl⟩
abbrev main_v336 : Ref sig .tc := ⟨.hbm, 446, rfl⟩
abbrev main_v337 : Ref sig .tc := ⟨.hbm, 447, rfl⟩
abbrev main_v338 : Ref sig .tc := ⟨.hbm, 448, rfl⟩
abbrev main_v339 : Ref sig .tc := ⟨.hbm, 449, rfl⟩
abbrev main_v340 : Ref sig .tc := ⟨.hbm, 450, rfl⟩
abbrev main_c_104 : Ref sig .tc := ⟨.hbm, 451, rfl⟩
abbrev main_v341 : Ref sig .tc := ⟨.hbm, 452, rfl⟩
abbrev main_v342 : Ref sig .tc := ⟨.hbm, 453, rfl⟩
abbrev main_c_105 : Ref sig .tc := ⟨.hbm, 454, rfl⟩
abbrev main_v343 : Ref sig .tc := ⟨.hbm, 455, rfl⟩
abbrev main_v344 : Ref sig .tc := ⟨.hbm, 456, rfl⟩
abbrev main_v345 : Ref sig .tc := ⟨.hbm, 457, rfl⟩
abbrev main_v346 : Ref sig .tc := ⟨.hbm, 458, rfl⟩
abbrev main_v347 : Ref sig .tc := ⟨.hbm, 459, rfl⟩
abbrev main_c_106 : Ref sig .tc := ⟨.hbm, 460, rfl⟩
abbrev main_v348 : Ref sig .tc := ⟨.hbm, 461, rfl⟩
abbrev main_v349 : Ref sig .tc := ⟨.hbm, 462, rfl⟩
abbrev main_c_107 : Ref sig .tc := ⟨.hbm, 463, rfl⟩
abbrev main_v350 : Ref sig .tc := ⟨.hbm, 464, rfl⟩
abbrev main_v351 : Ref sig .tc := ⟨.hbm, 465, rfl⟩
abbrev main_v352 : Ref sig .tc := ⟨.hbm, 466, rfl⟩
abbrev main_v353 : Ref sig .tc := ⟨.hbm, 467, rfl⟩
abbrev main_c_108 : Ref sig .tc := ⟨.hbm, 468, rfl⟩
abbrev main_v354 : Ref sig .tc := ⟨.hbm, 469, rfl⟩
abbrev main_v355 : Ref sig .tc := ⟨.hbm, 470, rfl⟩
abbrev main_c_109 : Ref sig .tc := ⟨.hbm, 471, rfl⟩
abbrev main_v356 : Ref sig .tc := ⟨.hbm, 472, rfl⟩
abbrev main_v357 : Ref sig .tc := ⟨.hbm, 473, rfl⟩
abbrev main_v358 : Ref sig .tc := ⟨.hbm, 474, rfl⟩
abbrev main_c_110 : Ref sig .tc := ⟨.hbm, 475, rfl⟩
abbrev main_v359 : Ref sig .tc := ⟨.hbm, 476, rfl⟩
abbrev main_v360 : Ref sig .tc := ⟨.hbm, 477, rfl⟩
abbrev main_c_111 : Ref sig .tc := ⟨.hbm, 478, rfl⟩
abbrev main_v361 : Ref sig .tc := ⟨.hbm, 479, rfl⟩
abbrev main_v362 : Ref sig .tc := ⟨.hbm, 480, rfl⟩
abbrev main_v363 : Ref sig .tc := ⟨.hbm, 481, rfl⟩
abbrev main_v364 : Ref sig .tc := ⟨.hbm, 482, rfl⟩
abbrev main_v365 : Ref sig .tc := ⟨.hbm, 483, rfl⟩
abbrev main_c_112 : Ref sig .tc := ⟨.hbm, 484, rfl⟩
abbrev main_v366 : Ref sig .tc := ⟨.hbm, 485, rfl⟩
abbrev main_v367 : Ref sig .tc := ⟨.hbm, 486, rfl⟩
abbrev main_c_113 : Ref sig .tc := ⟨.hbm, 487, rfl⟩
abbrev main_v368 : Ref sig .tc := ⟨.hbm, 488, rfl⟩
abbrev main_v369 : Ref sig .tc := ⟨.hbm, 489, rfl⟩
abbrev main_v370 : Ref sig .tc := ⟨.hbm, 490, rfl⟩
abbrev main_v371 : Ref sig .tc := ⟨.hbm, 491, rfl⟩
abbrev main_v372 : Ref sig .tc := ⟨.hbm, 492, rfl⟩
abbrev main_c_114 : Ref sig .tc := ⟨.hbm, 493, rfl⟩
abbrev main_v373 : Ref sig .tc := ⟨.hbm, 494, rfl⟩
abbrev main_v374 : Ref sig .tc := ⟨.hbm, 495, rfl⟩
abbrev main_c_115 : Ref sig .tc := ⟨.hbm, 496, rfl⟩
abbrev main_v375 : Ref sig .tc := ⟨.hbm, 497, rfl⟩
abbrev main_v376 : Ref sig .tc := ⟨.hbm, 498, rfl⟩
abbrev main_v377 : Ref sig .tc := ⟨.hbm, 499, rfl⟩
abbrev main_v378 : Ref sig .tc := ⟨.hbm, 500, rfl⟩
abbrev main_v379 : Ref sig .tc := ⟨.hbm, 501, rfl⟩
abbrev main_c_116 : Ref sig .tc := ⟨.hbm, 502, rfl⟩
abbrev main_v380 : Ref sig .tc := ⟨.hbm, 503, rfl⟩
abbrev main_v381 : Ref sig .tc := ⟨.hbm, 504, rfl⟩
abbrev main_c_117 : Ref sig .tc := ⟨.hbm, 505, rfl⟩
abbrev main_v382 : Ref sig .tc := ⟨.hbm, 506, rfl⟩
abbrev main_v383 : Ref sig .tc := ⟨.hbm, 507, rfl⟩
abbrev main_v384 : Ref sig .tc := ⟨.hbm, 508, rfl⟩
abbrev main_v385 : Ref sig .tc := ⟨.hbm, 509, rfl⟩
abbrev main_c_118 : Ref sig .tc := ⟨.hbm, 510, rfl⟩
abbrev main_v386 : Ref sig .tc := ⟨.hbm, 511, rfl⟩
abbrev main_v387 : Ref sig .tc := ⟨.hbm, 512, rfl⟩
abbrev main_c_119 : Ref sig .tc := ⟨.hbm, 513, rfl⟩
abbrev main_v388 : Ref sig .tc := ⟨.hbm, 514, rfl⟩
abbrev main_v389 : Ref sig .tc := ⟨.hbm, 515, rfl⟩
abbrev main_v390 : Ref sig .tc := ⟨.hbm, 516, rfl⟩
abbrev main_v391 : Ref sig .tc := ⟨.hbm, 517, rfl⟩
abbrev main_v392 : Ref sig .tc := ⟨.hbm, 518, rfl⟩
abbrev main_c_120 : Ref sig .tc := ⟨.hbm, 519, rfl⟩
abbrev main_v393 : Ref sig .tc := ⟨.hbm, 520, rfl⟩
abbrev main_c_121 : Ref sig .tc := ⟨.hbm, 521, rfl⟩
abbrev main_v394 : Ref sig .tc := ⟨.hbm, 522, rfl⟩
abbrev main_v395 : Ref sig .tc := ⟨.hbm, 523, rfl⟩
abbrev main_c_122 : Ref sig .tc := ⟨.hbm, 524, rfl⟩
abbrev main_v396 : Ref sig .tc := ⟨.hbm, 525, rfl⟩
abbrev main_v397 : Ref sig .tc := ⟨.hbm, 526, rfl⟩
abbrev main_v398 : Ref sig .tc := ⟨.hbm, 527, rfl⟩
abbrev main_c_123 : Ref sig .tc := ⟨.hbm, 528, rfl⟩
abbrev main_v399 : Ref sig .tc := ⟨.hbm, 529, rfl⟩
abbrev main_v400 : Ref sig .tc := ⟨.hbm, 530, rfl⟩
abbrev main_c_124 : Ref sig .tc := ⟨.hbm, 531, rfl⟩
abbrev main_v401 : Ref sig .tc := ⟨.hbm, 532, rfl⟩
abbrev main_v402 : Ref sig .tc := ⟨.hbm, 533, rfl⟩
abbrev main_v403 : Ref sig .tc := ⟨.hbm, 534, rfl⟩
abbrev main_v404 : Ref sig .tc := ⟨.hbm, 535, rfl⟩
abbrev main_v405 : Ref sig .tc := ⟨.hbm, 536, rfl⟩
abbrev main_c_125 : Ref sig .tc := ⟨.hbm, 537, rfl⟩
abbrev main_v406 : Ref sig .tc := ⟨.hbm, 538, rfl⟩
abbrev main_v407 : Ref sig .tc := ⟨.hbm, 539, rfl⟩
abbrev main_c_126 : Ref sig .tc := ⟨.hbm, 540, rfl⟩
abbrev main_v408 : Ref sig .tc := ⟨.hbm, 541, rfl⟩
abbrev main_v409 : Ref sig .tc := ⟨.hbm, 542, rfl⟩
abbrev main_v410 : Ref sig .tc := ⟨.hbm, 543, rfl⟩
abbrev main_v411 : Ref sig .tc := ⟨.hbm, 544, rfl⟩
abbrev main_v412 : Ref sig .tc := ⟨.hbm, 545, rfl⟩
abbrev main_c_127 : Ref sig .tc := ⟨.hbm, 546, rfl⟩
abbrev main_v413 : Ref sig .tc := ⟨.hbm, 547, rfl⟩
abbrev main_v414 : Ref sig .tc := ⟨.hbm, 548, rfl⟩
abbrev main_c_128 : Ref sig .tc := ⟨.hbm, 549, rfl⟩
abbrev main_v415 : Ref sig .tc := ⟨.hbm, 550, rfl⟩
abbrev main_v416 : Ref sig .tc := ⟨.hbm, 551, rfl⟩
abbrev main_v417 : Ref sig .tc := ⟨.hbm, 552, rfl⟩
abbrev main_v418 : Ref sig .tc := ⟨.hbm, 553, rfl⟩
abbrev main_v419 : Ref sig .tc := ⟨.hbm, 554, rfl⟩
abbrev main_c_129 : Ref sig .tc := ⟨.hbm, 555, rfl⟩
abbrev main_v420 : Ref sig .tc := ⟨.hbm, 556, rfl⟩
abbrev main_v421 : Ref sig .tc := ⟨.hbm, 557, rfl⟩
abbrev main_c_130 : Ref sig .tc := ⟨.hbm, 558, rfl⟩
abbrev main_v422 : Ref sig .tc := ⟨.hbm, 559, rfl⟩
abbrev main_v423 : Ref sig .tc := ⟨.hbm, 560, rfl⟩
abbrev main_v424 : Ref sig .tc := ⟨.hbm, 561, rfl⟩
abbrev main_v425 : Ref sig .tc := ⟨.hbm, 562, rfl⟩
abbrev main_c_131 : Ref sig .tc := ⟨.hbm, 563, rfl⟩
abbrev main_v426 : Ref sig .tc := ⟨.hbm, 564, rfl⟩
abbrev main_v427 : Ref sig .tc := ⟨.hbm, 565, rfl⟩
abbrev main_c_132 : Ref sig .tc := ⟨.hbm, 566, rfl⟩
abbrev main_v428 : Ref sig .tc := ⟨.hbm, 567, rfl⟩
abbrev main_v429 : Ref sig .tc := ⟨.hbm, 568, rfl⟩
abbrev main_v430 : Ref sig .tc := ⟨.hbm, 569, rfl⟩
abbrev main_c_133 : Ref sig .tc := ⟨.hbm, 570, rfl⟩
abbrev main_v431 : Ref sig .tc := ⟨.hbm, 571, rfl⟩
abbrev main_v432 : Ref sig .tc := ⟨.hbm, 572, rfl⟩
abbrev main_c_134 : Ref sig .tc := ⟨.hbm, 573, rfl⟩
abbrev main_v433 : Ref sig .tc := ⟨.hbm, 574, rfl⟩
abbrev main_v434 : Ref sig .tc := ⟨.hbm, 575, rfl⟩
abbrev main_v435 : Ref sig .tc := ⟨.hbm, 576, rfl⟩
abbrev main_v436 : Ref sig .tc := ⟨.hbm, 577, rfl⟩
abbrev main_v437 : Ref sig .tc := ⟨.hbm, 578, rfl⟩
abbrev main_c_135 : Ref sig .tc := ⟨.hbm, 579, rfl⟩
abbrev main_v438 : Ref sig .tc := ⟨.hbm, 580, rfl⟩
abbrev main_v439 : Ref sig .tc := ⟨.hbm, 581, rfl⟩
abbrev main_c_136 : Ref sig .tc := ⟨.hbm, 582, rfl⟩
abbrev main_v440 : Ref sig .tc := ⟨.hbm, 583, rfl⟩
abbrev main_v441 : Ref sig .tc := ⟨.hbm, 584, rfl⟩
abbrev main_v442 : Ref sig .tc := ⟨.hbm, 585, rfl⟩
abbrev main_v443 : Ref sig .tc := ⟨.hbm, 586, rfl⟩
abbrev main_v444 : Ref sig .tc := ⟨.hbm, 587, rfl⟩
abbrev main_c_137 : Ref sig .tc := ⟨.hbm, 588, rfl⟩
abbrev main_v445 : Ref sig .tc := ⟨.hbm, 589, rfl⟩
abbrev main_v446 : Ref sig .tc := ⟨.hbm, 590, rfl⟩
abbrev main_c_138 : Ref sig .tc := ⟨.hbm, 591, rfl⟩
abbrev main_v447 : Ref sig .tc := ⟨.hbm, 592, rfl⟩
abbrev main_v448 : Ref sig .tc := ⟨.hbm, 593, rfl⟩
abbrev main_v449 : Ref sig .tc := ⟨.hbm, 594, rfl⟩
abbrev main_v450 : Ref sig .tc := ⟨.hbm, 595, rfl⟩
abbrev main_v451 : Ref sig .tc := ⟨.hbm, 596, rfl⟩
abbrev main_c_139 : Ref sig .tc := ⟨.hbm, 597, rfl⟩
abbrev main_v452 : Ref sig .tc := ⟨.hbm, 598, rfl⟩
abbrev main_v453 : Ref sig .tc := ⟨.hbm, 599, rfl⟩
abbrev main_c_140 : Ref sig .tc := ⟨.hbm, 600, rfl⟩
abbrev main_v454 : Ref sig .tc := ⟨.hbm, 601, rfl⟩
abbrev main_v455 : Ref sig .tc := ⟨.hbm, 602, rfl⟩
abbrev main_v456 : Ref sig .tc := ⟨.hbm, 603, rfl⟩
abbrev main_v457 : Ref sig .tc := ⟨.hbm, 604, rfl⟩
abbrev main_c_141 : Ref sig .tc := ⟨.hbm, 605, rfl⟩
abbrev main_v458 : Ref sig .tc := ⟨.hbm, 606, rfl⟩
abbrev main_v459 : Ref sig .tc := ⟨.hbm, 607, rfl⟩
abbrev main_c_142 : Ref sig .tc := ⟨.hbm, 608, rfl⟩
abbrev main_v460 : Ref sig .tc := ⟨.hbm, 609, rfl⟩
abbrev main_v461 : Ref sig .tc := ⟨.hbm, 610, rfl⟩
abbrev main_v462 : Ref sig .tc := ⟨.hbm, 611, rfl⟩
abbrev main_c_143 : Ref sig .tc := ⟨.hbm, 612, rfl⟩
abbrev main_v463 : Ref sig .tc := ⟨.hbm, 613, rfl⟩
abbrev main_v464 : Ref sig .tc := ⟨.hbm, 614, rfl⟩
abbrev main_c_144 : Ref sig .tc := ⟨.hbm, 615, rfl⟩
abbrev main_v465 : Ref sig .tc := ⟨.hbm, 616, rfl⟩
abbrev main_v466 : Ref sig .tc := ⟨.hbm, 617, rfl⟩
abbrev main_v467 : Ref sig .tc := ⟨.hbm, 618, rfl⟩
abbrev main_v468 : Ref sig .tc := ⟨.hbm, 619, rfl⟩
abbrev main_v469 : Ref sig .tc := ⟨.hbm, 620, rfl⟩
abbrev main_c_145 : Ref sig .tc := ⟨.hbm, 621, rfl⟩
abbrev main_v470 : Ref sig .tc := ⟨.hbm, 622, rfl⟩
abbrev main_v471 : Ref sig .tc := ⟨.hbm, 623, rfl⟩
abbrev main_c_146 : Ref sig .tc := ⟨.hbm, 624, rfl⟩
abbrev main_v472 : Ref sig .tc := ⟨.hbm, 625, rfl⟩
abbrev main_v473 : Ref sig .tc := ⟨.hbm, 626, rfl⟩
abbrev main_v474 : Ref sig .tc := ⟨.hbm, 627, rfl⟩
abbrev main_v475 : Ref sig .tc := ⟨.hbm, 628, rfl⟩
abbrev main_v476 : Ref sig .tc := ⟨.hbm, 629, rfl⟩
abbrev main_c_147 : Ref sig .tc := ⟨.hbm, 630, rfl⟩
abbrev main_v477 : Ref sig .tc := ⟨.hbm, 631, rfl⟩
abbrev main_v478 : Ref sig .tc := ⟨.hbm, 632, rfl⟩
abbrev main_c_148 : Ref sig .tc := ⟨.hbm, 633, rfl⟩
abbrev main_v479 : Ref sig .tc := ⟨.hbm, 634, rfl⟩
abbrev main_v480 : Ref sig .tc := ⟨.hbm, 635, rfl⟩
abbrev main_v481 : Ref sig .tc := ⟨.hbm, 636, rfl⟩
abbrev main_v482 : Ref sig .tc := ⟨.hbm, 637, rfl⟩
abbrev main_v483 : Ref sig .tc := ⟨.hbm, 638, rfl⟩
abbrev main_c_149 : Ref sig .tc := ⟨.hbm, 639, rfl⟩
abbrev main_v484 : Ref sig .tc := ⟨.hbm, 640, rfl⟩
abbrev main_v485 : Ref sig .tc := ⟨.hbm, 641, rfl⟩
abbrev main_c_150 : Ref sig .tc := ⟨.hbm, 642, rfl⟩
abbrev main_v486 : Ref sig .tc := ⟨.hbm, 643, rfl⟩
abbrev main_v487 : Ref sig .tc := ⟨.hbm, 644, rfl⟩
abbrev main_v488 : Ref sig .tc := ⟨.hbm, 645, rfl⟩
abbrev main_v489 : Ref sig .tc := ⟨.hbm, 646, rfl⟩
abbrev main_c_151 : Ref sig .tc := ⟨.hbm, 647, rfl⟩
abbrev main_v490 : Ref sig .tc := ⟨.hbm, 648, rfl⟩
abbrev main_v491 : Ref sig .tc := ⟨.hbm, 649, rfl⟩
abbrev main_c_152 : Ref sig .tc := ⟨.hbm, 650, rfl⟩
abbrev main_v492 : Ref sig .tc := ⟨.hbm, 651, rfl⟩
abbrev main_v493 : Ref sig .tc := ⟨.hbm, 652, rfl⟩
abbrev main_v494 : Ref sig .tc := ⟨.hbm, 653, rfl⟩
abbrev main_c_153 : Ref sig .tc := ⟨.hbm, 654, rfl⟩
abbrev main_v495 : Ref sig .tc := ⟨.hbm, 655, rfl⟩
abbrev main_v496 : Ref sig .tc := ⟨.hbm, 656, rfl⟩
abbrev main_c_154 : Ref sig .tc := ⟨.hbm, 657, rfl⟩
abbrev main_v497 : Ref sig .tc := ⟨.hbm, 658, rfl⟩
abbrev main_v498 : Ref sig .tc := ⟨.hbm, 659, rfl⟩
abbrev main_v499 : Ref sig .tc := ⟨.hbm, 660, rfl⟩
abbrev main_v500 : Ref sig .tc := ⟨.hbm, 661, rfl⟩
abbrev main_v501 : Ref sig .tc := ⟨.hbm, 662, rfl⟩
abbrev main_c_155 : Ref sig .tc := ⟨.hbm, 663, rfl⟩
abbrev main_v502 : Ref sig .tc := ⟨.hbm, 664, rfl⟩
abbrev main_v503 : Ref sig .tc := ⟨.hbm, 665, rfl⟩
abbrev main_c_156 : Ref sig .tc := ⟨.hbm, 666, rfl⟩
abbrev main_v504 : Ref sig .tc := ⟨.hbm, 667, rfl⟩
abbrev main_v505 : Ref sig .tc := ⟨.hbm, 668, rfl⟩
abbrev main_v506 : Ref sig .tc := ⟨.hbm, 669, rfl⟩
abbrev main_v507 : Ref sig .tc := ⟨.hbm, 670, rfl⟩
abbrev main_v508 : Ref sig .tc := ⟨.hbm, 671, rfl⟩
abbrev main_c_157 : Ref sig .tc := ⟨.hbm, 672, rfl⟩
abbrev main_v509 : Ref sig .tc := ⟨.hbm, 673, rfl⟩
abbrev main_v510 : Ref sig .tc := ⟨.hbm, 674, rfl⟩
abbrev main_c_158 : Ref sig .tc := ⟨.hbm, 675, rfl⟩
abbrev main_v511 : Ref sig .tc := ⟨.hbm, 676, rfl⟩
abbrev main_v512 : Ref sig .tc := ⟨.hbm, 677, rfl⟩
abbrev main_v513 : Ref sig .tc := ⟨.hbm, 678, rfl⟩
abbrev main_v514 : Ref sig .tc := ⟨.hbm, 679, rfl⟩
abbrev main_v515 : Ref sig .tc := ⟨.hbm, 680, rfl⟩
abbrev main_c_159 : Ref sig .tc := ⟨.hbm, 681, rfl⟩
abbrev main_v516 : Ref sig .tc := ⟨.hbm, 682, rfl⟩
abbrev main_v517 : Ref sig .tc := ⟨.hbm, 683, rfl⟩
abbrev main_c_160 : Ref sig .tc := ⟨.hbm, 684, rfl⟩
abbrev main_v518 : Ref sig .tc := ⟨.hbm, 685, rfl⟩
abbrev main_v519 : Ref sig .tc := ⟨.hbm, 686, rfl⟩
abbrev main_v520 : Ref sig .tc := ⟨.hbm, 687, rfl⟩
abbrev main_v521 : Ref sig .tc := ⟨.hbm, 688, rfl⟩
abbrev main_c_161 : Ref sig .tc := ⟨.hbm, 689, rfl⟩
abbrev main_v522 : Ref sig .tc := ⟨.hbm, 690, rfl⟩
abbrev main_v523 : Ref sig .tc := ⟨.hbm, 691, rfl⟩
abbrev main_c_162 : Ref sig .tc := ⟨.hbm, 692, rfl⟩
abbrev main_v524 : Ref sig .tc := ⟨.hbm, 693, rfl⟩
abbrev main_v525 : Ref sig .tc := ⟨.hbm, 694, rfl⟩
abbrev main_v526 : Ref sig .tc := ⟨.hbm, 695, rfl⟩
abbrev main_c_163 : Ref sig .tc := ⟨.hbm, 696, rfl⟩
abbrev main_v527 : Ref sig .tc := ⟨.hbm, 697, rfl⟩
abbrev main_v528 : Ref sig .tc := ⟨.hbm, 698, rfl⟩
abbrev main_c_164 : Ref sig .tc := ⟨.hbm, 699, rfl⟩
abbrev main_v529 : Ref sig .tc := ⟨.hbm, 700, rfl⟩
abbrev main_v530 : Ref sig .tc := ⟨.hbm, 701, rfl⟩
abbrev main_v531 : Ref sig .tc := ⟨.hbm, 702, rfl⟩
abbrev main_v532 : Ref sig .tc := ⟨.hbm, 703, rfl⟩
abbrev main_v533 : Ref sig .tc := ⟨.hbm, 704, rfl⟩
abbrev main_c_165 : Ref sig .tc := ⟨.hbm, 705, rfl⟩
abbrev main_v534 : Ref sig .tc := ⟨.hbm, 706, rfl⟩
abbrev main_v535 : Ref sig .tc := ⟨.hbm, 707, rfl⟩
abbrev main_c_166 : Ref sig .tc := ⟨.hbm, 708, rfl⟩
abbrev main_v536 : Ref sig .tc := ⟨.hbm, 709, rfl⟩
abbrev main_v537 : Ref sig .tc := ⟨.hbm, 710, rfl⟩
abbrev main_v538 : Ref sig .tc := ⟨.hbm, 711, rfl⟩
abbrev main_v539 : Ref sig .tc := ⟨.hbm, 712, rfl⟩
abbrev main_v540 : Ref sig .tc := ⟨.hbm, 713, rfl⟩
abbrev main_c_167 : Ref sig .tc := ⟨.hbm, 714, rfl⟩
abbrev main_v541 : Ref sig .tc := ⟨.hbm, 715, rfl⟩
abbrev main_v542 : Ref sig .tc := ⟨.hbm, 716, rfl⟩
abbrev main_c_168 : Ref sig .tc := ⟨.hbm, 717, rfl⟩
abbrev main_v543 : Ref sig .tc := ⟨.hbm, 718, rfl⟩
abbrev main_v544 : Ref sig .tc := ⟨.hbm, 719, rfl⟩
abbrev main_v545 : Ref sig .tc := ⟨.hbm, 720, rfl⟩
abbrev main_v546 : Ref sig .tc := ⟨.hbm, 721, rfl⟩
abbrev main_v547 : Ref sig .tc := ⟨.hbm, 722, rfl⟩
abbrev main_c_169 : Ref sig .tc := ⟨.hbm, 723, rfl⟩
abbrev main_v548 : Ref sig .tc := ⟨.hbm, 724, rfl⟩
abbrev main_v549 : Ref sig .tc := ⟨.hbm, 725, rfl⟩
abbrev main_c_170 : Ref sig .tc := ⟨.hbm, 726, rfl⟩
abbrev main_v550 : Ref sig .tc := ⟨.hbm, 727, rfl⟩
abbrev main_v551 : Ref sig .tc := ⟨.hbm, 728, rfl⟩
abbrev main_v552 : Ref sig .tc := ⟨.hbm, 729, rfl⟩
abbrev main_v553 : Ref sig .tc := ⟨.hbm, 730, rfl⟩
abbrev main_c_171 : Ref sig .tc := ⟨.hbm, 731, rfl⟩
abbrev main_v554 : Ref sig .tc := ⟨.hbm, 732, rfl⟩
abbrev main_v555 : Ref sig .tc := ⟨.hbm, 733, rfl⟩
abbrev main_c_172 : Ref sig .tc := ⟨.hbm, 734, rfl⟩
abbrev main_v556 : Ref sig .tc := ⟨.hbm, 735, rfl⟩
abbrev main_v557 : Ref sig .tc := ⟨.hbm, 736, rfl⟩
abbrev main_v558 : Ref sig .tc := ⟨.hbm, 737, rfl⟩
abbrev main_c_173 : Ref sig .tc := ⟨.hbm, 738, rfl⟩
abbrev main_c_174 : Ref sig .tc := ⟨.hbm, 739, rfl⟩
abbrev main_v559 : Ref sig .tc := ⟨.hbm, 740, rfl⟩
abbrev main_v560 : Ref sig .tc := ⟨.hbm, 741, rfl⟩
abbrev main_c_175 : Ref sig .tc := ⟨.hbm, 742, rfl⟩
abbrev main_v561 : Ref sig .tc := ⟨.hbm, 743, rfl⟩
abbrev main_c_176 : Ref sig .tc := ⟨.hbm, 744, rfl⟩
abbrev main_v562 : Ref sig .tc := ⟨.hbm, 745, rfl⟩
abbrev main_v563 : Ref sig .tc := ⟨.hbm, 746, rfl⟩
abbrev main_v564 : Ref sig .tc := ⟨.hbm, 747, rfl⟩
abbrev main_v565 : Ref sig .tc := ⟨.hbm, 748, rfl⟩
abbrev main_c_177 : Ref sig .tc := ⟨.hbm, 749, rfl⟩
abbrev main_v566 : Ref sig .tc := ⟨.hbm, 750, rfl⟩
abbrev main_v567 : Ref sig .tc := ⟨.hbm, 751, rfl⟩
abbrev main_v568 : Ref sig .tc := ⟨.hbm, 752, rfl⟩
abbrev main_c_178 : Ref sig .tc := ⟨.hbm, 753, rfl⟩
abbrev main_v569 : Ref sig .tc := ⟨.hbm, 754, rfl⟩
abbrev main_v570 : Ref sig .tc := ⟨.hbm, 755, rfl⟩
abbrev main_v571 : Ref sig .tc := ⟨.hbm, 756, rfl⟩
abbrev main_c_179 : Ref sig .tc := ⟨.hbm, 757, rfl⟩
abbrev main_v572 : Ref sig .tc := ⟨.hbm, 758, rfl⟩
abbrev main_v573 : Ref sig .tc := ⟨.hbm, 759, rfl⟩
abbrev main_v574 : Ref sig .tc := ⟨.hbm, 760, rfl⟩
abbrev main_v575 : Ref sig .tc := ⟨.hbm, 761, rfl⟩
abbrev main_v576 : Ref sig .tc := ⟨.hbm, 762, rfl⟩
abbrev main_v577 : Ref sig .tc := ⟨.hbm, 763, rfl⟩
abbrev main_v578 : Ref sig .tc := ⟨.hbm, 764, rfl⟩
abbrev main_v579 : Ref sig .tc := ⟨.hbm, 765, rfl⟩
abbrev main_v580 : Ref sig .tc := ⟨.hbm, 766, rfl⟩
abbrev main_v581 : Ref sig .tc := ⟨.hbm, 767, rfl⟩
abbrev main_v582 : Ref sig .tc := ⟨.hbm, 768, rfl⟩
abbrev main_c_180 : Ref sig .tc := ⟨.hbm, 769, rfl⟩
abbrev main_v583 : Ref sig .tc := ⟨.hbm, 770, rfl⟩
abbrev main_v584 : Ref sig .tc := ⟨.hbm, 771, rfl⟩
abbrev main_v585 : Ref sig .tc := ⟨.hbm, 772, rfl⟩
abbrev main_c_181 : Ref sig .tc := ⟨.hbm, 773, rfl⟩
abbrev main_v586 : Ref sig .tc := ⟨.hbm, 774, rfl⟩
abbrev main_v587 : Ref sig .tc := ⟨.hbm, 775, rfl⟩
abbrev main_c_182 : Ref sig .tc := ⟨.hbm, 776, rfl⟩
abbrev main_v588 : Ref sig .tc := ⟨.hbm, 777, rfl⟩
abbrev main_v589 : Ref sig .tc := ⟨.hbm, 778, rfl⟩
abbrev main_cst_183 : Ref sig .tc := ⟨.hbm, 779, rfl⟩
abbrev main_v590 : Ref sig .tc := ⟨.hbm, 780, rfl⟩
abbrev main_v591 : Ref sig .tc := ⟨.hbm, 781, rfl⟩
abbrev main_v592 : Ref sig .tc := ⟨.hbm, 782, rfl⟩
abbrev main_cst_184 : Ref sig .tc := ⟨.hbm, 783, rfl⟩
abbrev main_v593 : Ref sig .tc := ⟨.hbm, 784, rfl⟩
abbrev main_v594 : Ref sig .tc := ⟨.hbm, 785, rfl⟩
abbrev main_v595 : Ref sig .tc := ⟨.hbm, 786, rfl⟩
abbrev main_v596 : Ref sig .tc := ⟨.hbm, 787, rfl⟩
abbrev main_c_185 : Ref sig .tc := ⟨.hbm, 788, rfl⟩
abbrev main_v597 : Ref sig .tc := ⟨.hbm, 789, rfl⟩
abbrev main_v598 : Ref sig .tc := ⟨.hbm, 790, rfl⟩
abbrev main_cst_186 : Ref sig .tc := ⟨.hbm, 791, rfl⟩
abbrev main_v599 : Ref sig .tc := ⟨.hbm, 792, rfl⟩
abbrev main_cst_187 : Ref sig .tc := ⟨.hbm, 793, rfl⟩
abbrev main_v600 : Ref sig .tc := ⟨.hbm, 794, rfl⟩
abbrev main_v601 : Ref sig .tc := ⟨.hbm, 795, rfl⟩
abbrev main_c_188 : Ref sig .tc := ⟨.hbm, 796, rfl⟩
abbrev main_v602 : Ref sig .tc := ⟨.hbm, 797, rfl⟩
abbrev main_v603 : Ref sig .tc := ⟨.hbm, 798, rfl⟩
abbrev main_v604 : Ref sig .tc := ⟨.hbm, 799, rfl⟩
abbrev main_v605 : Ref sig .tc := ⟨.hbm, 800, rfl⟩
abbrev main_cst_189 : Ref sig .tc := ⟨.hbm, 801, rfl⟩
abbrev main_v606 : Ref sig .tc := ⟨.hbm, 802, rfl⟩
abbrev main_v607 : Ref sig .tc := ⟨.hbm, 803, rfl⟩
abbrev main_v608 : Ref sig .tc := ⟨.hbm, 804, rfl⟩
abbrev main_v609 : Ref sig .tc := ⟨.hbm, 805, rfl⟩
abbrev main_v610 : Ref sig .tc := ⟨.hbm, 806, rfl⟩
abbrev main_cst_190 : Ref sig .tc := ⟨.hbm, 807, rfl⟩
abbrev main_v611 : Ref sig .tc := ⟨.hbm, 808, rfl⟩
abbrev main_cst_191 : Ref sig .tc := ⟨.hbm, 809, rfl⟩
abbrev main_v612 : Ref sig .tc := ⟨.hbm, 810, rfl⟩
abbrev main_v613 : Ref sig .tc := ⟨.hbm, 811, rfl⟩

abbrev nD : Nat := 1
abbrev τ : Topo := Topo.v7x

variable {F : FTy → Type} [FloatOps F]
-- ==== Proof.Setup.lean ====
/-
  The two programs of the kernel have one text; this module names, for that text over any float values `F`, what the
  launch theorem of the SparseCore needs to be told: the configuration, the table of bodies, the resource algebra, the
  locations of the arrays and the memrefs of the SparseCore body.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Sc

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type}

/-- The labels below the SparseCore's: the pipeline's. -/
abbrev ΛP : Labels := Pipeline.Sig Λ₀ (Fin 1) fun p => (pcfgs (F := F) p).Adm
/-- The SparseCore configuration of the program. -/
abbrev K : SparseCore.Cfg τ sig (ΛP (F := F)) 1 := sc (F := F)
theorem nSub_zero : (K (F := F)).nSub 0 = 16 := rfl
theorem nCore_zero : (K (F := F)).nCore 0 = 2 := rfl
/-- The bodies below the SparseCore's labels. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The pipeline's rounds: one duty a staging cell. -/
abbrev UP : Type := URounds (GSem nD τ sig) Unit
/-- The user algebra: the handshakes', then the pipeline's and the transfers' counters. -/
abbrev UU : Type := UH × (UP × Counters)

local notation "𝕄" => MT nD τ sig (HIx 1) (Elt F) ℕ UU ℕ

abbrev EH : Emb UH (MT nD τ sig (HIx 1) (Elt F) ℕ UU ℕ) := embL

end Cert.Proof.Sc

end
-- ==== Proof.Region.lean ====
/-
  The TensorCore's kernel: one block of the result from a block of the features, the operator words and the grid point.
-/
module

public import proofs.«01_k».proof.Proof.Setup
public import Idealize.ShloMosaic.Lib.Pipeline.Regions
public import Idealize.ShloMosaic.Lib.Pipeline.Value
public import Idealize.ShloMosaic.Lib.Pipeline.FrameBody
public import Idealize.ShloMosaic.Lib.Tactic

@[expose] public section

noncomputable section

namespace Cert.Proof.Sc

open Cert.KernelIdeal Cert.KernelIdeal.Gen

open Idealize.ShloMosaic Idealize.ShloMosaic.TcCoe
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

local notation "𝕄" => MT nD τ sig (HIx 1) (Elt F) ℕ UU ℕ

/-- The first draw of bits of a block: the payloads in the order the kernel computes them. -/
def tcA3 (i : grid0.Coords) : IVec S16x256x128 32 × IVec S16x256x128 32 :=
  (k0_pay20 (k0_pay8 i) (k0_pay9 i), k0_pay21 (k0_pay8 i) (k0_pay9 i))
def tcA4 (i : grid0.Coords) : IVec S16x256x128 32 × IVec S16x256x128 32 :=
  (k0_pay32 (tcA3 i).1 (tcA3 i).2 13#32, k0_pay33 (tcA3 i).1 (tcA3 i).2 13#32)
def tcA (i : grid0.Coords) : IVec S16x256x128 32 :=
  k0_pay46 (k0_pay43 (tcA4 i).1 (tcA4 i).2 16#32) (k0_pay44 (tcA4 i).1 (tcA4 i).2 16#32) k0_pay45

/-- The second draw. -/
def tcB3 (i : grid0.Coords) : IVec S16x256x128 32 × IVec S16x256x128 32 :=
  (k0_pay67 (k0_pay55 (k0_pay2 i)) (k0_pay56 (k0_pay2 i)) 17#32, k0_pay68 (k0_pay55 (k0_pay2 i)) (k0_pay56 (k0_pay2 i)) 17#32)
def tcB4 (i : grid0.Coords) : IVec S16x256x128 32 × IVec S16x256x128 32 × IVec S16x256x128 32 :=
  (k0_pay78 (tcB3 i).1 (tcB3 i).2 26#32, k0_pay79 (tcB3 i).1 (tcB3 i).2 26#32, k0_pay80)
def tcB (i : grid0.Coords) : IVec S16x256x128 32 := k0_pay81 (tcB4 i).1 (tcB4 i).2.1 (tcB4 i).2.2

/-- The third, to the words its last part reads. -/
def tcC3 (i : grid0.Coords) : IVec S16x256x128 32 × IVec S16x256x128 32 :=
  (k0_pay94 (k0_pay82 (k0_pay2 i)) (k0_pay83 (k0_pay2 i)) 13#32, k0_pay95 (k0_pay82 (k0_pay2 i)) (k0_pay83 (k0_pay2 i)) 13#32)
def tcC4 (i : grid0.Coords) : IVec S16x256x128 32 × IVec S16x256x128 32 × IVec S16x256x128 32 :=
  (k0_pay105 (tcC3 i).1 (tcC3 i).2 16#32, k0_pay106 (tcC3 i).1 (tcC3 i).2 16#32, k0_pay107)
def tcC5 (i : grid0.Coords) : IVec S16x256x128 32 × IVec S16x256x128 32 × IVec S16x256x128 32 :=
  (k0_pay118 (tcC4 i).1 (tcC4 i).2.1 (tcC4 i).2.2, k0_pay119 (tcC4 i).1 (tcC4 i).2.1 (tcC4 i).2.2, k0_pay120 (tcC4 i).1 (tcC4 i).2.1 (tcC4 i).2.2)

/-- The block's minima and maxima over the active features. -/
def tcMin (i : grid0.Coords) (x : FVec F S16x128 .f32) : FVec F S16x256 .f32 :=
  k0_pay124 (tcA i) (tcB i) (tcC5 i).1 (tcC5 i).2.1 (tcC5 i).2.2 17#32 x
def tcMax (i : grid0.Coords) (x : FVec F S16x128 .f32) : FVec F S16x256 .f32 :=
  k0_pay125 (tcA i) (tcB i) (tcC5 i).1 (tcC5 i).2.1 (tcC5 i).2.2 17#32 x
/-- The block of the result. -/
def tcBlk (i : grid0.Coords) (x : FVec F S16x128 .f32) (op : IVec S1x256 32) : FVec F S16x256 .f32 := k0_pay1 (tcMin i x) (tcMax i x) op

/-- The kernel, its words gathered: it reads its two operands and its result's old block, and stores the block. -/
def tcProg (i : grid0.Coords) (arg2 : Memref sig .tc .vmem S16x128 .f32) (arg3 : Memref sig .tc .vmem S1x256 .i32) (arg4 : Memref sig .tc .vmem S16x256 .f32) :
    Prog (TpuEff nD τ sig (Elt F) Λ₀ .tc) PUnit := do
  let x : Vec F S16x128 .f32 ← Prog.lift (.load arg2 (Rect.unit (s := S16x128) ![0, 0] S16x128.size inb_S16x128_S16x128_0_0).toLoadRect (View.loadsAt_vmem h_S16x128))
  let op : Vec F S1x256 .i32 ← Prog.lift (.load arg3 (Rect.unit (s := S1x256) ![0, 0] S1x256.size inb_S1x256_S1x256_0_0).toLoadRect (View.loadsAt_vmem h_S1x256))
  let _ : Vec F S16x256 .f32 ← Prog.lift (.load arg4 (Rect.unit (s := S16x256) ![0, 0] S16x256.size inb_S16x256_S16x256_0_0).toLoadRect (View.loadsAt_vmem h_S16x256))
  Prog.lift (.store arg4 (Rect.unit (s := S16x256) ![0, 0] S16x256.size inb_S16x256_S16x256_0_0) (tcBlk i x op) Finset.univ (View.stores_vmem_bits_univ h_S16x256 rfl) (.inl rfl))
  pure ⟨⟩

theorem tc_eq (i : grid0.Coords) (arg2 : Memref sig .tc .vmem S16x128 .f32) (harg2 : arg2.IsWhole) (arg3 : Memref sig .tc .vmem S1x256 .i32) (harg3 : arg3.IsWhole)
    (arg4 : Memref sig .tc .vmem S16x256 .f32) (harg4 : arg4.IsWhole) :
    cc0__fwd_kernel_tc (F := F) i arg2 harg2 arg3 harg3 arg4 harg4 = tcProg i arg2 arg3 arg4 := by
  rw [cc0__fwd_kernel_tc_eq_skeleton]
  unfold cc0__fwd_kernel_tc_skel
  rw [k0_part1_eq_skeleton, k0_part2_eq_skeleton, k0_part3_eq_skeleton, k0_part4_eq_skeleton, k0_part5_eq_skeleton, k0_part6_eq_skeleton,
      k0_part7_eq_skeleton, k0_part8_eq_skeleton, k0_part9_eq_skeleton, k0_part10_eq_skeleton, k0_part11_eq_skeleton, k0_part12_eq_skeleton]
  rfl

theorem read_x0 (c : Dev nD) (f : Buf (Elt F) ((c : Thread nD τ).loc cc0_stg0_0)) :
    View.readAt (Elt F) (Memref.whole cc0_stg0_0).view (Rect.unit (s := S16x128) ![0, 0] ![16, 128] inb_S16x128_S16x128_0_0).toLoadRect f = f := by
  funext y
  refine congrArg f (funext fun a => Fin.ext ?_)
  match a with
  | ⟨0, _⟩ => show 0 + 1 * (y 0).val = (y 0).val; omega
  | ⟨1, _⟩ => show 0 + 1 * (y 1).val = (y 1).val; omega

theorem read_x1 (c : Dev nD) (f : Buf (Elt F) ((c : Thread nD τ).loc cc0_stg0_1)) :
    View.readAt (Elt F) (Memref.whole cc0_stg0_1).view (Rect.unit (s := S16x128) ![0, 0] ![16, 128] inb_S16x128_S16x128_0_0).toLoadRect f = f := by
  funext y
  refine congrArg f (funext fun a => Fin.ext ?_)
  match a with
  | ⟨0, _⟩ => show 0 + 1 * (y 0).val = (y 0).val; omega
  | ⟨1, _⟩ => show 0 + 1 * (y 1).val = (y 1).val; omega

theorem read_op (c : Dev nD) (f : Buf (Elt F) ((c : Thread nD τ).loc cc0_stg1_0)) :
    View.readAt (Elt F) (Memref.whole cc0_stg1_0).view (Rect.unit (s := S1x256) ![0, 0] ![1, 256] inb_S1x256_S1x256_0_0).toLoadRect f = f := by
  funext y
  refine congrArg f (funext fun a => Fin.ext ?_)
  match a with
  | ⟨0, _⟩ => show 0 + 1 * (y 0).val = (y 0).val; omega
  | ⟨1, _⟩ => show 0 + 1 * (y 1).val = (y 1).val; omega

theorem emb_out (y : S16x256.Idx) : (Rect.unit (s := S16x256) ![0, 0] ![16, 256] inb_S16x256_S16x256_0_0).emb y = y := by
  funext a
  apply Fin.ext
  rw [Rect.emb_apply]
  match a with
  | ⟨0, _⟩ => show 0 + 1 * (y 0).val = (y 0).val; omega
  | ⟨1, _⟩ => show 0 + 1 * (y 1).val = (y 1).val; omega

theorem write_out0 (c : Dev nD) (f : Buf (Elt F) ((c : Thread nD τ).loc cc0_stg2_0)) (v : FVec F S16x256 .f32) :
    (Memref.whole cc0_stg2_0).view.writes (Elt F) f [⟨Rect.unit (s := S16x256) ![0, 0] ![16, 256] inb_S16x256_S16x256_0_0, v⟩] = v := by
  funext y
  have h := View.read_writes_cons_emb (Val := Elt F) (Memref.whole cc0_stg2_0).view f (Rect.unit (s := S16x256) ![0, 0] ![16, 256] inb_S16x256_S16x256_0_0) v [] y
  rw [emb_out] at h
  exact h

theorem write_out1 (c : Dev nD) (f : Buf (Elt F) ((c : Thread nD τ).loc cc0_stg2_1)) (v : FVec F S16x256 .f32) :
    (Memref.whole cc0_stg2_1).view.writes (Elt F) f [⟨Rect.unit (s := S16x256) ![0, 0] ![16, 256] inb_S16x256_S16x256_0_0, v⟩] = v := by
  funext y
  have h := View.read_writes_cons_emb (Val := Elt F) (Memref.whole cc0_stg2_1).view f (Rect.unit (s := S16x256) ![0, 0] ![16, 256] inb_S16x256_S16x256_0_0) v [] y
  rw [emb_out] at h
  exact h

theorem tc_body (c : Dev nD) (i : grid0.Coords) (s0 : Fin 2) (s1 : Fin 1) (s2 : Fin 2) (x : FVec F S16x128 .f32) (op : IVec S1x256 32) (Q : PUnit → sProp 𝕄) :
    iprop(owns (c : Thread nD τ) (stage0_0 s0) fullShare x ∗ owns (c : Thread nD τ) (stage0_1 s1) fullShare op
        ∗ (∃ y, owns (c : Thread nD τ) (stage0_2 s2) fullShare y)
        ∗ (iprop(owns (c : Thread nD τ) (stage0_0 s0) fullShare x ∗ owns (c : Thread nD τ) (stage0_1 s1) fullShare op
            ∗ owns (c : Thread nD τ) (stage0_2 s2) fullShare (tcBlk i x op)) -∗ Q ⟨⟩))
      ⊢ wp frame (wpE (defs₀ (F := F)) 𝒱₀ (c : Thread nD τ) none) Set.univ
          (cc0__fwd_kernel_tc (F := F) i (stage0_0 s0) (hstage0_0 s0) (stage0_1 s1) (hstage0_1 s1) (stage0_2 s2) (hstage0_2 s2)) Q := by
  obtain rfl := Subsingleton.elim s1 0
  refine match s0, s2 with | 0, 0 => ?_ | 0, 1 => ?_ | 1, 0 => ?_ | 1, 1 => ?_
  all_goals
    rw [tc_eq]
    unfold tcProg
    dsimp only [stage0_0, stage0_1, stage0_2]
    simp only [owns_whole_eq]
    iintro ⟨⟨%f0, %h0, H0⟩, ⟨%f1, %h1, H1⟩, ⟨%f2, %f2', -, H2⟩, Hk⟩
    subst h0; subst h1
  · ihave H0 := (show _ ⊢ ((Memref.whole cc0_stg0_0).view.loc (c : Thread nD τ) ↦{fullShare} f0 : sProp 𝕄) from .rfl) $$ H0
    ihave H1 := (show _ ⊢ ((Memref.whole cc0_stg1_0).view.loc (c : Thread nD τ) ↦{fullShare} f1 : sProp 𝕄) from .rfl) $$ H1
    ihave H2 := (show _ ⊢ ((Memref.whole cc0_stg2_0).view.loc (c : Thread nD τ) ↦{fullShare} f2' : sProp 𝕄) from .rfl) $$ H2
    sl_exec
    sl_step
    rw [read_x0 c f0, read_op c f1, write_out0 c f2' (tcBlk i f0 f1)]
    iapply Hk
    isplitl [H0]; · iexists f0; isplitr; swap; (· iexact H0); ipureintro; rfl
    isplitl [H1]; · iexists f1; isplitr; swap; (· iexact H1); ipureintro; rfl
    iexists (tcBlk i f0 f1); isplitr; swap; (· iexact H2); ipureintro; rfl
  · ihave H0 := (show _ ⊢ ((Memref.whole cc0_stg0_0).view.loc (c : Thread nD τ) ↦{fullShare} f0 : sProp 𝕄) from .rfl) $$ H0
    ihave H1 := (show _ ⊢ ((Memref.whole cc0_stg1_0).view.loc (c : Thread nD τ) ↦{fullShare} f1 : sProp 𝕄) from .rfl) $$ H1
    ihave H2 := (show _ ⊢ ((Memref.whole cc0_stg2_1).view.loc (c : Thread nD τ) ↦{fullShare} f2' : sProp 𝕄) from .rfl) $$ H2
    sl_exec
    sl_step
    rw [read_x0 c f0, read_op c f1, write_out1 c f2' (tcBlk i f0 f1)]
    iapply Hk
    isplitl [H0]; · iexists f0; isplitr; swap; (· iexact H0); ipureintro; rfl
    isplitl [H1]; · iexists f1; isplitr; swap; (· iexact H1); ipureintro; rfl
    iexists (tcBlk i f0 f1); isplitr; swap; (· iexact H2); ipureintro; rfl
  · ihave H0 := (show _ ⊢ ((Memref.whole cc0_stg0_1).view.loc (c : Thread nD τ) ↦{fullShare} f0 : sProp 𝕄) from .rfl) $$ H0
    ihave H1 := (show _ ⊢ ((Memref.whole cc0_stg1_0).view.loc (c : Thread nD τ) ↦{fullShare} f1 : sProp 𝕄) from .rfl) $$ H1
    ihave H2 := (show _ ⊢ ((Memref.whole cc0_stg2_0).view.loc (c : Thread nD τ) ↦{fullShare} f2' : sProp 𝕄) from .rfl) $$ H2
    sl_exec
    sl_step
    rw [read_x1 c f0, read_op c f1, write_out0 c f2' (tcBlk i f0 f1)]
    iapply Hk
    isplitl [H0]; · iexists f0; isplitr; swap; (· iexact H0); ipureintro; rfl
    isplitl [H1]; · iexists f1; isplitr; swap; (· iexact H1); ipureintro; rfl
    iexists (tcBlk i f0 f1); isplitr; swap; (· iexact H2); ipureintro; rfl
  · ihave H0 := (show _ ⊢ ((Memref.whole cc0_stg0_1).view.loc (c : Thread nD τ) ↦{fullShare} f0 : sProp 𝕄) from .rfl) $$ H0
    ihave H1 := (show _ ⊢ ((Memref.whole cc0_stg1_0).view.loc (c : Thread nD τ) ↦{fullShare} f1 : sProp 𝕄) from .rfl) $$ H1
    ihave H2 := (show _ ⊢ ((Memref.whole cc0_stg2_1).view.loc (c : Thread nD τ) ↦{fullShare} f2' : sProp 𝕄) from .rfl) $$ H2
    sl_exec
    sl_step
    rw [read_x1 c f0, read_op c f1, write_out1 c f2' (tcBlk i f0 f1)]
    iapply Hk
    isplitl [H0]; · iexists f0; isplitr; swap; (· iexact H0); ipureintro; rfl
    isplitl [H1]; · iexists f1; isplitr; swap; (· iexact H1); ipureintro; rfl
    iexists (tcBlk i f0 f1); isplitr; swap; (· iexact H2); ipureintro; rfl

section Reg

variable (V : (c : Dev nD) → (b : Ref sig .tc) → Buf (Elt F) ((c : Thread nD τ).loc b))

/-- The operands' blocks at a point, and the block computed from them. -/
def xBlk (c : Dev nD) (t : Fin cfg0.N) : FVec F S16x128 .f32 := ((cfg0.win 0).blk t).view.read (Elt F) (V c main_v1)
def pBlk (c : Dev nD) (t : Fin cfg0.N) : IVec S1x256 32 := ((cfg0.win 1).blk t).view.read (Elt F) (V c main_v0)
def oBlk (c : Dev nD) (t : Fin cfg0.N) : FVec F S16x256 .f32 := tcBlk (grid0.coords t) (xBlk V c t) (pBlk V c t)

/-- The region's data: the arrays at the entry contents; after a point the operands' buffers as fetched and the
    result's at the block; what the core owes is what it owed before. -/
def dat (c : Dev nD) : Pipeline.Dat τ (Elt F) (HIx 1) ℕ UU ℕ cfg0 c where
  A w := V c (Pipeline.arrRef spec0 w)
  after w t := match w with
    | ⟨0, _⟩ => xBlk V c t
    | ⟨1, _⟩ => pBlk V c t
    | ⟨2, _⟩ => oBlk V c t
  Φ _ := Pipeline.scopedRest (Ix := HIx 1) (Name := ℕ) (U := UU) (Lvl := ℕ) (Val := Elt F) spec0 c
  q _ := fullShare
  owed _ := (K (F := F)).Otc c 0
  recorded _ := {p | (K (F := F)).lev (T c, p.1) p.2 ≤ 8 * SparseCore.Cfg.Blocks.fst (Q := 1) (N := 1) 0}

theorem before_x (c : Dev nD) (t : Fin cfg0.N) (d) : (dat V c).before 0 t d = xBlk V c t :=
  ((dat V c).before_in_eq_fetched 0 rfl (fun _ => rfl) (fun _ _ _ => rfl) (fun _ => rfl) t d).trans rfl

theorem before_p (c : Dev nD) (t : Fin cfg0.N) (d) : (dat V c).before 1 t d = pBlk V c t :=
  ((dat V c).before_in_eq_fetched 1 rfl (fun _ => rfl) (fun _ _ _ => rfl) (fun _ => rfl) t d).trans rfl

theorem body_obligation (c : Dev nD) : Pipeline.BodyObligation (dat V c) (defs₀ (F := F)) 𝒱₀ (none : HIx 1) Set.univ := fun t => by
  rw [bigSep_W0, bigSep_W0]
  rw [show (dat V c).Φ t.castSucc = (dat V c).Φ t.succ from rfl,
    show (dat V c).owesAt (none : HIx 1) t.succ = (dat V c).owesAt (none : HIx 1) t.castSucc from rfl]
  iintro ⟨HΦ, Howes, ⟨%d0, H0⟩, ⟨%d1, H1⟩, ⟨%d2, H2⟩⟩
  rw [before_x, before_p]
  iapply (tc_body c (grid0.coords t) (cfg0.slots t 0) (cfg0.slots t 1) (cfg0.slots t 2) (xBlk V c t) (pBlk V c t) _)
  isplitl [H0]; · iexact H0
  isplitl [H1]; · iexact H1
  isplitl [H2]; · iexists _; iexact H2
  iintro ⟨H0, H1, H2⟩
  isplitl [HΦ]; · iexact HΦ
  isplitl [Howes]; · iexact Howes
  isplitl [H0]; · iexact H0
  isplitl [H1]; · iexact H1
  iexact H2

end Reg

end Cert.Proof.Sc

end
-- ==== Proof.RegionSeg.lean ====
/-
  The TensorCore's kernel over its grid: entered from every unscoped buffer at a valuation, left with the result's array
  at what the grid's points write back; and that array, element by element.
-/
module

public import proofs.«01_k».proof.Proof.Region
public import Idealize.ShloMosaic.Lib.Pipeline.RegionsLoop

@[expose] public section

noncomputable section

namespace Cert.Proof.Sc

open Cert.KernelIdeal Cert.KernelIdeal.Gen

open Idealize.ShloMosaic Idealize.ShloMosaic.TcCoe
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

local notation "𝕄" => MT nD τ sig (HIx 1) (Elt F) ℕ UU ℕ

section Reg

variable (V : (c : Dev nD) → (b : Ref sig .tc) → Buf (Elt F) ((c : Thread nD τ).loc b))

/-- The prefetched tables' admissible contents: no table. -/
abbrev adm : (p : Fin 1) → (pcfgs (F := F) p).Adm := fun p => (cfgs p).toPCfg_adm

/-- The proof data of the program's one pipeline. -/
def pdats : (p : Fin 1) → (c : Dev nD) → Pipeline.Dat τ (Elt F) (HIx 1) ℕ UU ℕ (Pipeline.pin (pcfgs (F := F)) adm p) c
  | ⟨0, _⟩ => fun c => dat V c

/-- The result's array after the grid. -/
def tcRes (c : Dev nD) : Buf (Elt F) ((c : Thread nD τ).loc main_v2) := (dat V c).arrAt 2 cfg0.N

/-- What the core owes the SparseCore's calls sits at no wait of the pipeline's. -/
theorem Otc_none (c : Dev nD) (g : GSem nD τ sig) : (K (F := F)).Otc (N := 1) c 0 g none = 0 := by
  unfold SparseCore.Cfg.Otc
  simp only [Finset.univ_unique, Finset.sum_singleton]
  split
  · rw [Finset.sum_apply, Finsupp.finset_sum_apply]
    exact Finset.sum_eq_zero fun _ _ => by rw [tallyAt_apply, if_neg fun h => nomatch h.2]
  · rfl

/-- What the core owes, with the waits it has recorded all at the lowest level. -/
abbrev owesLow (c : Dev nD) : sProp 𝕄 :=
  iprop(∃ W, ⌜(K (F := F)).WBelow (T c) W (8 * SparseCore.Cfg.Blocks.fst (Q := 1) (N := 1) 0)⌝ ∗ owes (T c) ((K (F := F)).Otc (N := 1) c 0) W)

variable (Vp : (c : Dev nD) → (b : Ref sig .tc) → Buf (Elt F) ((c : Thread nD τ).loc b))

-- the library's lemmas at the pinned configuration unify only when plain definitions may be unfolded in types
set_option backward.isDefEq.respectTransparency.types false in
/-- The region over every unscoped buffer at `V`, left at `Vp`: `V` but for the result's array. -/
def reg (hVp_out : ∀ c, Vp c main_v2 = tcRes V c)
    (hVp_ne : ∀ c (b : Ref sig .tc), b ≠ main_v2 → Vp c b = V c b) :
    Pipeline.RegionSeg (pcfgs (F := F)) adm (pdats V) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ (pdats V) none 0 c fun _ _ _ => (K (F := F)).mayWait_none _ (Otc_none c)
  pre c := iprop(unscopedBufs c (V c) ∗ owesLow c)
  post c := iprop(unscopedBufs c (Vp c) ∗ owesLow c)
  X _ := BI.emp
  Y _ := BI.emp
  Z c := iprop(Pipeline.unscopedRest (Ix := HIx 1) (Name := ℕ) (U := UU) (Lvl := ℕ) spec0 c (V c))
  hentry c := by
    rw [Pipeline.ownSems0_none]
    have hsplit := Pipeline.arrays_of_unscopedBufs (p := 0) (pcfgs (F := F)) adm (pdats V) launch0.win launch0.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V) ((pdats V 0 c).share_full fun _ => rfl) (V c) (Vp c) ((pdats V 0 c).arrAt · cfg0.N)
      (fun w => by
        fin_cases w
        · exact ((pdats V 0 c).arrAt_in 0 rfl _).trans (hVp_ne c main_v1 (by decide)).symm
        · exact ((pdats V 0 c).arrAt_in 1 rfl _).trans (hVp_ne c main_v0 (by decide)).symm
        · exact (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; intro p hp
      rcases hW hp with h | ⟨w, s, h⟩
      · exact h
      · rw [h]; exact Nat.zero_le _
    iexact HO

end Reg

end Cert.Proof.Sc

end
-- ==== Proof.Trip.lean ====
/-
  What one trip of the SparseCore kernel's innermost loop computes, as a function of the row it reads: the two pairs of
  hash words (one pair for each of the trip's two features) and the two accumulators after the trip; then the accumulators
  after every trip, and the sixteen results of a group of lanes.
-/
module

public import proofs.«01_k».proof.Proof.Setup

@[expose] public section

noncomputable section

namespace Cert.Proof.Sc

open Cert.KernelIdeal Cert.KernelIdeal.Gen
open Idealize.ShloMosaic

variable {F : FTy → Type} [FloatOps F]

/-- The trip's first feature: the words of categories 0, 1 and (before its last shift) 2. -/
def scBitsA0 (v : IVec S16 32) (t : Fin k1_t3_loop.trips) : IVec S16 32 :=
  let v81 := k1_pay19 v 0#32 1#32 t
  let v82 := k1_pay20 v 0#32 1#32 t
  let v84 := k1_pay21 v 0#32 1#32 t
  let v125 := k1_pay31 v81 v82 v84 26#32
  let v130 := k1_pay32 v81 v82 v84 26#32
  let v171 := k1_pay44 v125 v130
  let v176 := k1_pay45 v125 v130
  let v221 := k1_pay46 v171 v176
  k1_pay47 v221 9#32

def scBitsA1 (v53 : IVec S16 32) : IVec S16 32 :=
  let v261 := k1_pay57 v53
  let v266 := k1_pay58 v53
  let v307 := k1_pay70 v261 v266
  let v312 := k1_pay71 v261 v266
  let v356 := k1_pay82 v307 v312
  let v357 := k1_pay83 v307 v312
  k1_pay84 v356 v357 13#32

/-- The third word's state: the pair its last operations read. -/
def scStateA2 (v53 : IVec S16 32) : IVec S16 32 × IVec S16 32 :=
  let v397 := k1_pay86 v53
  let v402 := k1_pay87 v53
  let v443 := k1_pay99 v397 v402
  let v448 := k1_pay100 v397 v402
  let v492 := k1_pay111 v443 v448
  let v493 := k1_pay112 v443 v448
  (k1_pay123 v492 v493 17#32, k1_pay124 v492 v493 17#32)

def scBitsB0 (v : IVec S16 32) (v45 : BitVec 32) : IVec S16 32 :=
  let v582 := k1_pay132 v v45
  let v584 := k1_pay133 v v45
  let v629 := k1_pay144 v582 v584
  let v630 := k1_pay145 v582 v584
  let v669 := k1_pay155 v629 v630
  let v675 := k1_pay156 v629 v630
  let v718 := k1_pay167 v669 v675 1264997412#32
  let v719 := k1_pay168 v669 v675 1264997412#32
  let v721 := k1_pay169 v669 v675 1264997412#32
  k1_pay170 v718 v719 v721

def scBitsB1 (v576 : IVec S16 32) : IVec S16 32 :=
  let v765 := k1_pay175 v576
  let v766 := k1_pay176 v576
  let v805 := k1_pay186 v765 v766
  let v811 := k1_pay187 v765 v766
  let v854 := k1_pay198 v805 v811 3332384945#32
  let v855 := k1_pay199 v805 v811 3332384945#32
  let v857 := k1_pay200 v805 v811 3332384945#32
  let v900 := k1_pay211 v854 v855 v857
  let v901 := k1_pay212 v854 v855 v857
  let v903 := k1_pay213 v854 v855 v857
  k1_pay214 v900 v901 v903

def scStateB2 (v576 : IVec S16 32) : IVec S16 32 × IVec S16 32 × IVec S16 32 :=
  let v941 := k1_pay222 v576
  let v947 := k1_pay223 v576
  let v990 := k1_pay234 v941 v947 2518116175#32
  let v991 := k1_pay235 v941 v947 2518116175#32
  let v993 := k1_pay236 v941 v947 2518116175#32
  (k1_pay247 v990 v991 v993, k1_pay248 v990 v991 v993, k1_pay249 v990 v991 v993)

/-- Twice the trip's number, as the body computes it: the trip's first feature. -/
def scFeat (t : Fin k1_t3_loop.trips) : BitVec 32 := Scalar.addi 0#32 (Scalar.muli (Scf.iv 0#32 1#32 t) 2#32)

/-- The minimum's accumulator after the trip's first feature. -/
def scMidMin (v : IVec S16 32) (t : Fin k1_t3_loop.trips) (x0 : Vec F S1x16 .f32) (a : Vec F S16 .f32) : FVec F S16 .f32 :=
  let v53 := k1_pay11 v 0#32 1#32 t
  k1_pay128 (k1_pay9 a) (k1_pay12 x0) (scBitsA0 v t) (scBitsA1 v53) (scStateA2 v53).1 (scStateA2 v53).2 26#32

/-- The maximum's accumulator after the trip's first feature. -/
def scMidMax (v : IVec S16 32) (t : Fin k1_t3_loop.trips) (x0 : Vec F S1x16 .f32) (a : Vec F S16 .f32) : FVec F S16 .f32 :=
  let v53 := k1_pay11 v 0#32 1#32 t
  k1_pay129 (k1_pay10 a) (k1_pay12 x0) (scBitsA0 v t) (scBitsA1 v53) (scStateA2 v53).1 (scStateA2 v53).2 26#32

/-- Whether the trip's second feature takes category 1, and category 2. -/
def scTakeB1 (v : IVec S16 32) (t : Fin k1_t3_loop.trips) : IVec S16 1 :=
  let v576 := k1_pay130 v (scFeat t)
  k1_pay250 (scBitsB0 v (scFeat t)) (scBitsB1 v576)

def scTakeB2 (v : IVec S16 32) (t : Fin k1_t3_loop.trips) : IVec S16 1 :=
  let v576 := k1_pay130 v (scFeat t)
  k1_pay251 (scBitsB0 v (scFeat t)) (scBitsB1 v576) (scStateB2 v576).1 (scStateB2 v576).2.1 (scStateB2 v576).2.2

/-- The minimum's accumulator after a trip. -/
def scStepMin (v : IVec S16 32) (t : Fin k1_t3_loop.trips) (x0 x1 : Vec F S1x16 .f32) (a : Vec F S16 .f32) : FVec F S16 .f32 :=
  k1_pay6 (scMidMin v t x0 a) (k1_pay131 x1) (scTakeB1 v t) (scTakeB2 v t)

/-- The maximum's accumulator after a trip. -/
def scStepMax (v : IVec S16 32) (t : Fin k1_t3_loop.trips) (x0 x1 : Vec F S1x16 .f32) (a : Vec F S16 .f32) : FVec F S16 .f32 :=
  k1_pay7 (scMidMax v t x0 a) (k1_pay131 x1) (scTakeB1 v t) (scTakeB2 v t)

/-- Row `r` of the sixteen-fold row buffer. -/
abbrev xbRow (x : FVec F S128x16 .f32) (t : Fin k1_t3_loop.trips) (r : Fin 2) : FVec F S1x16 .f32 :=
  fun j => x ((Rect.unit (s := S128x16) (k1_off2 t (BitVec.ofNat 32 r.val)) S1x16.size (k1_off2_inb t r)).emb j)

/-- The minimum's accumulator before trip `n`. -/
def scMin (v : IVec S16 32) (x : FVec F S128x16 .f32) : ℕ → FVec F S16 .f32
  | 0 => k1_pay2
  | n + 1 => if h : n < k1_t3_loop.trips then scStepMin v ⟨n, h⟩ (xbRow x ⟨n, h⟩ 0) (xbRow x ⟨n, h⟩ 1) (scMin v x n) else scMin v x n

/-- The maximum's accumulator before trip `n`. -/
def scMax (v : IVec S16 32) (x : FVec F S128x16 .f32) : ℕ → FVec F S16 .f32
  | 0 => k1_pay3
  | n + 1 => if h : n < k1_t3_loop.trips then scStepMax v ⟨n, h⟩ (xbRow x ⟨n, h⟩ 0) (xbRow x ⟨n, h⟩ 1) (scMax v x n) else scMax v x n

/-- Group `j`'s sixteen results, of the row `k` of task `i`. -/
def scGroup (i : grid1.Coords) (k : Fin k1_t1_loop.trips) (x : FVec F S128x16 .f32) (op : IVec S16x16 32) (j : Fin k1_t2_loop.trips) : FVec F S16 .f32 :=
  k1_pay8 (F := F) (fun l => op ((Rect.unit (s := S16x16) (k1_off3 j) S1x16.size (k1_off3_inb j)).emb l))
    (scMin (k1_pay1 i k j) x k1_t3_loop.trips) (scMax (k1_pay1 i k j) x k1_t3_loop.trips)

end Cert.Proof.Sc

end
-- ==== Proof.TileLoop.lean ====
module

public import proofs.«01_k».proof.Proof.Trip
public import Idealize.ShloMosaic.Lib.WritesUnit

@[expose] public section

noncomputable section

namespace Cert.Proof.Sc

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

local notation "𝕄" => MT nD τ sig (HIx 1) (Elt F) ℕ UU ℕ

local notation "xV" => (Memref.whole Cert.KernelIdeal.main_v5_scv : Memref Cert.KernelIdeal.sig Kind.scVector Space.hbm Cert.KernelIdeal.S256x128x16 EltTy.f32)
local notation "iV" => (Memref.whole Cert.KernelIdeal.main_v6_scv : Memref Cert.KernelIdeal.sig Kind.scVector Space.hbm Cert.KernelIdeal.S16x16 EltTy.i32)
local notation "oV" => (Memref.whole Cert.KernelIdeal.main_v7_scv : Memref Cert.KernelIdeal.sig Kind.scVector Space.hbm Cert.KernelIdeal.S256x256 EltTy.f32)
local notation "sX" => (Memref.whole Cert.KernelIdeal.cc1_scratch0 : Memref Cert.KernelIdeal.sig Kind.scVector Space.vmem Cert.KernelIdeal.S128x16 EltTy.f32)
local notation "sI" => (Memref.whole Cert.KernelIdeal.cc1_scratch1 : Memref Cert.KernelIdeal.sig Kind.scVector Space.vmem Cert.KernelIdeal.S16x16 EltTy.i32)
local notation "sO" => (Memref.whole Cert.KernelIdeal.cc1_scratch2 : Memref Cert.KernelIdeal.sig Kind.scVector Space.vmem Cert.KernelIdeal.S256 EltTy.f32)
local notation "sN" => (Memref.whole Cert.KernelIdeal.cc1_scratch3 : Memref Cert.KernelIdeal.sig Kind.scVector Space.vmem Cert.KernelIdeal.S16 EltTy.f32)
local notation "sM" => (Memref.whole Cert.KernelIdeal.cc1_scratch4 : Memref Cert.KernelIdeal.sig Kind.scVector Space.vmem Cert.KernelIdeal.S16 EltTy.f32)

variable (d : Dev nD) (L : grid1.Coords)

abbrev cV (L : grid1.Coords) : Fin τ.nSC := (L 0).castLE hcore1
abbrev jV (L : grid1.Coords) : Fin τ.nSub := (L 1).castLE hsub1

/-- A store of all sixteen lanes leaves what it stores. -/
theorem read_store16 {κ : Kind} {sp : Space} {e : EltTy} (v : View sig κ sp S16 e) (f : v.ty.Contents (Elt F)) (w : S16.Idx → Elt F e) :
    v.read (Elt F) (v.writes (Elt F) f [⟨Rect.unit (s := S16) ![0] S16.size inb_S16_S16_0, w⟩]) = w := by
  funext y
  have hy : (Rect.unit (s := S16) ![0] S16.size inb_S16_S16_0).emb y = y := by
    funext a
    match a with
    | 0 => apply Fin.ext; simp [Rect.emb, Rect.unit]
  have h := View.read_writes_cons_emb v f (Rect.unit (s := S16) ![0] S16.size inb_S16_S16_0) w [] y
  rw [hy] at h
  exact h

theorem storeN (f w : FVec F S16 .f32) : (sN).view.writes (Elt F) f [⟨Rect.unit (s := S16) ![0] S16.size inb_S16_S16_0, w⟩] = w :=
  (View.read_whole cc1_scratch3 _).symm.trans (read_store16 (sN).view f w)
theorem storeM (f w : FVec F S16 .f32) : (sM).view.writes (Elt F) f [⟨Rect.unit (s := S16) ![0] S16.size inb_S16_S16_0, w⟩] = w :=
  (View.read_whole cc1_scratch4 _).symm.trans (read_store16 (sM).view f w)

/-- A load of all sixteen lanes reads what is there. -/
theorem emb16 (y : S16.Idx) : (Rect.unit (s := S16) ![0] S16.size inb_S16_S16_0).emb y = y := by
  funext a
  match a with
  | 0 => apply Fin.ext; simp [Rect.emb, Rect.unit]

theorem loadN (a : FVec F S16 .f32) : View.readAt (Elt F) (sN).view (Rect.unit (s := S16) ![0] S16.size inb_S16_S16_0).toLoadRect a = a :=
  funext fun y => congrArg a (emb16 y)
theorem loadM (a : FVec F S16 .f32) : View.readAt (Elt F) (sM).view (Rect.unit (s := S16) ![0] S16.size inb_S16_S16_0).toLoadRect a = a :=
  funext fun y => congrArg a (emb16 y)

/-- The innermost loop's trip. -/
theorem trip3 (k : Fin k1_t1_loop.trips) (j : Fin k1_t2_loop.trips) (t : Fin k1_t3_loop.trips)
    (x : FVec F S128x16 .f32) (a b : FVec F S16 .f32) :
    iprop(((sX).view.loc (V d (cV L) (jV L)) ↦{fullShare} x) ∗ ((sN).view.loc (V d (cV L) (jV L)) ↦{fullShare} a)
        ∗ ((sM).view.loc (V d (cV L) (jV L)) ↦{fullShare} b) : sProp 𝕄)
      ⊢ wp frame (wpE (defs₀ (F := F)) 𝒱₀ (V d (cV L) (jV L)) none) Set.univ
          (k1_t3_body (F := F) L xV (Memref.isWhole_whole _) iV (Memref.isWhole_whole _) oV (Memref.isWhole_whole _) sX (Memref.isWhole_whole _)
            sI (Memref.isWhole_whole _) sO (Memref.isWhole_whole _) sN (Memref.isWhole_whole _) sM (Memref.isWhole_whole _) cc1_scoped0 cc1_scoped1 cc1_scoped2 k j t ⟨⟩)
          fun _ => iprop(((sX).view.loc (V d (cV L) (jV L)) ↦{fullShare} x)
            ∗ ((sN).view.loc (V d (cV L) (jV L)) ↦{fullShare} (scStepMin (k1_pay1 L k j) t (xbRow x t 0) (xbRow x t 1) a))
            ∗ ((sM).view.loc (V d (cV L) (jV L)) ↦{fullShare} (scStepMax (k1_pay1 L k j) t (xbRow x t 0) (xbRow x t 1) b))) := by
  iintro ⟨Hx, Ha, Hb⟩
  sl_unfold [k1_t3_body]
  sl_exec
  sl_step
  have h47 : trip3.sl.v47 a = k1_pay9 a := by
    unfold trip3.sl.v47; rw [loadN]; rfl
  have h49 : trip3.sl.v49 b = k1_pay10 b := by
    unfold trip3.sl.v49; rw [loadM]; rfl
  have h57 : trip3.sl.v57 t x = k1_pay12 (xbRow x t 0) := rfl
  have h223 : trip3.sl.v223 L k j t = scBitsA0 (k1_pay1 L k j) t := rfl
  have h391 : trip3.sl.v391 L k j t = scBitsA1 (k1_pay11 (k1_pay1 L k j) 0#32 1#32 t) := rfl
  have h538 : trip3.sl.v538 L k j t = (scStateA2 (k1_pay11 (k1_pay1 L k j) 0#32 1#32 t)).1 := rfl
  have h539 : trip3.sl.v539 L k j t = (scStateA2 (k1_pay11 (k1_pay1 L k j) 0#32 1#32 t)).2 := rfl
  have hb1 : trip3.sl.v1083 L k j t = scTakeB1 (k1_pay1 L k j) t := rfl
  have hb2 : trip3.sl.v1085 L k j t = scTakeB2 (k1_pay1 L k j) t := rfl
  have h3 : trip3.sl.r_3 t x = k1_pay131 (xbRow x t 1) := rfl
  have e1 : k1_pay6 (trip3.sl.r L k j t x a) (trip3.sl.r_3 t x) (trip3.sl.v1083 L k j t) (trip3.sl.v1085 L k j t)
      = scStepMin (k1_pay1 L k j) t (xbRow x t 0) (xbRow x t 1) a := by
    unfold trip3.sl.r
    rw [h47, h57, h223, h391, h538, h539, hb1, hb2, h3]; rfl
  have e2 : k1_pay7 (trip3.sl.r_1 L k j t x b) (trip3.sl.r_3 t x) (trip3.sl.v1083 L k j t) (trip3.sl.v1085 L k j t)
      = scStepMax (k1_pay1 L k j) t (xbRow x t 0) (xbRow x t 1) b := by
    unfold trip3.sl.r_1
    rw [h49, h57, h223, h391, h538, h539, hb1, hb2, h3]; rfl
  rw [storeN, storeM, e1, e2]
  isplitl [Hx]; · iexact Hx
  isplitl [Ha] <;> iassumption

/-- An accumulator's buffer, as a whole store leaves it. -/
abbrev accN (w : FVec F S16 .f32) := (sN).view.writes (Elt F) (sN).view.junk [⟨Rect.unit (s := S16) ![0] S16.size inb_S16_S16_0, w⟩]
abbrev accM (w : FVec F S16 .f32) := (sM).view.writes (Elt F) (sM).view.junk [⟨Rect.unit (s := S16) ![0] S16.size inb_S16_S16_0, w⟩]

/-- The innermost loop: the accumulators before trip `n`. -/
@[instance_reducible] def inv3 (k : Fin k1_t1_loop.trips) (j : Fin k1_t2_loop.trips) (x : FVec F S128x16 .f32) :
    LoopInv (M := 𝕄) frame (wpE (defs₀ (F := F)) 𝒱₀ (V d (cV L) (jV L)) none) Set.univ k1_t3_loop.lb k1_t3_loop.ub k1_t3_loop.st k1_t3_ok PUnit.unit
      (k1_t3_body (F := F) L xV (Memref.isWhole_whole _) iV (Memref.isWhole_whole _) oV (Memref.isWhole_whole _) sX (Memref.isWhole_whole _)
            sI (Memref.isWhole_whole _) sO (Memref.isWhole_whole _) sN (Memref.isWhole_whole _) sM (Memref.isWhole_whole _) cc1_scoped0 cc1_scoped1 cc1_scoped2 k j) where
  inv n _ := iprop(((sX).view.loc (V d (cV L) (jV L)) ↦{fullShare} x) ∗ ((sN).view.loc (V d (cV L) (jV L)) ↦{fullShare} accN (scMin (k1_pay1 L k j) x n))
      ∗ ((sM).view.loc (V d (cV L) (jV L)) ↦{fullShare} accM (scMax (k1_pay1 L k j) x n)))
  step n _ := by
    have e1 : scMin (k1_pay1 L k j) x (n.val + 1) = scStepMin (k1_pay1 L k j) n (xbRow x n 0) (xbRow x n 1) (scMin (k1_pay1 L k j) x n) := by
      rw [scMin, dif_pos n.isLt]
    have e2 : scMax (k1_pay1 L k j) x (n.val + 1) = scStepMax (k1_pay1 L k j) n (xbRow x n 0) (xbRow x n 1) (scMax (k1_pay1 L k j) x n) := by
      rw [scMax, dif_pos n.isLt]
    rw [e1, e2]; unfold accN accM; rw [storeN, storeN, storeM, storeM]
    exact trip3 d L k j n x _ _

/-- Lane `n` of sixteen. -/
abbrev lane16 (n : ℕ) (h : n < 16) : S16.Idx := fun | 0 => ⟨n, h⟩

/-- The row's results after the first `n` groups, over what the buffer held. -/
def scRowTo (L : grid1.Coords) (k : Fin k1_t1_loop.trips) (x : FVec F S128x16 .f32) (op : IVec S16x16 32) (f : FVec F S256 .f32) (n : ℕ) : FVec F S256 .f32 :=
  fun y => if h : (y 0).val / 16 < n ∧ (y 0).val / 16 < k1_t2_loop.trips then scGroup L k x op ⟨(y 0).val / 16, h.2⟩ (lane16 ((y 0).val % 16) (Nat.mod_lt _ (by decide))) else f y

theorem store_row (k : Fin k1_t1_loop.trips) (x : FVec F S128x16 .f32) (op : IVec S16x16 32) (f : FVec F S256 .f32) (j : Fin k1_t2_loop.trips) :
    (sO).view.writes (Elt F) (scRowTo L k x op f j.val) [⟨Rect.unit (s := S256) (k1_off4 j) S16.size (k1_off4_inb j), scGroup L k x op j⟩]
      = scRowTo L k x op f (j.val + 1) := by
  refine (View.read_whole cc1_scratch2 _).symm.trans ?_
  funext y
  have hj : j.val < 16 := lt_of_lt_of_le j.isLt k1_t2_abs.2.1
  by_cases hy : (y 0).val / 16 = j.val
  · have h := View.read_writes_cons_unit_of_mem (Val := Elt F) (sO).view (scRowTo L k x op f j.val) (k1_off4_inb j) (scGroup L k x op j) [] y
      (lane16 ((y 0).val % 16) (Nat.mod_lt _ (by decide))) (k1_off4_eq j)
      (fun a => by match a with | 0 => show (y 0).val = 16 * j.val + (y 0).val % 16; omega)
    refine h.trans ?_
    have hc : (y 0).val / 16 < j.val + 1 ∧ (y 0).val / 16 < k1_t2_loop.trips := ⟨by omega, by have := j.isLt; omega⟩
    unfold scRowTo
    rw [dif_pos hc]
    have : (⟨(y 0).val / 16, hc.2⟩ : Fin k1_t2_loop.trips) = j := Fin.ext hy
    rw [this]
  · refine (View.read_writes_cons_unit_of_not_mem (Val := Elt F) (sO).view (scRowTo L k x op f j.val) (k1_off4_inb j) (scGroup L k x op j) [] y
      (k1_off4_eq j) 0 (by show (y 0).val < 16 * j.val ∨ 16 * j.val + 16 ≤ (y 0).val; omega)).trans ?_
    show scRowTo L k x op f j.val y = _
    unfold scRowTo
    by_cases h1 : (y 0).val / 16 < j.val ∧ (y 0).val / 16 < k1_t2_loop.trips
    · rw [dif_pos h1, dif_pos ⟨by omega, h1.2⟩]
    · rw [dif_neg h1, dif_neg (fun h2 => h1 ⟨by omega, h2.2⟩)]

theorem trip2 (k : Fin k1_t1_loop.trips) (j : Fin k1_t2_loop.trips)
    (x : FVec F S128x16 .f32) (op : IVec S16x16 32) (f : FVec F S256 .f32) (a b : FVec F S16 .f32) :
    iprop(((sX).view.loc (V d (cV L) (jV L)) ↦{fullShare} x) ∗ ((sI).view.loc (V d (cV L) (jV L)) ↦{fullShare} op)
        ∗ ((sO).view.loc (V d (cV L) (jV L)) ↦{fullShare} f)
        ∗ ((sN).view.loc (V d (cV L) (jV L)) ↦{fullShare} a) ∗ ((sM).view.loc (V d (cV L) (jV L)) ↦{fullShare} b) : sProp 𝕄)
      ⊢ wp frame (wpE (defs₀ (F := F)) 𝒱₀ (V d (cV L) (jV L)) none) Set.univ
          (k1_t2_body (F := F) L xV (Memref.isWhole_whole _) iV (Memref.isWhole_whole _) oV (Memref.isWhole_whole _) sX (Memref.isWhole_whole _)
            sI (Memref.isWhole_whole _) sO (Memref.isWhole_whole _) sN (Memref.isWhole_whole _) sM (Memref.isWhole_whole _) cc1_scoped0 cc1_scoped1 cc1_scoped2 k j ⟨⟩)
          fun _ => iprop(((sX).view.loc (V d (cV L) (jV L)) ↦{fullShare} x) ∗ ((sI).view.loc (V d (cV L) (jV L)) ↦{fullShare} op)
            ∗ ((sO).view.loc (V d (cV L) (jV L)) ↦{fullShare} (sO).view.writes (Elt F) f [⟨Rect.unit (s := S256) (k1_off4 j) S16.size (k1_off4_inb j), scGroup L k x op j⟩])
            ∗ ((sN).view.loc (V d (cV L) (jV L)) ↦{fullShare} accN (scMin (k1_pay1 L k j) x k1_t3_loop.trips))
            ∗ ((sM).view.loc (V d (cV L) (jV L)) ↦{fullShare} accM (scMax (k1_pay1 L k j) x k1_t3_loop.trips))) := by
  iintro ⟨Hx, Hi, Ho, Ha, Hb⟩
  let L3 := inv3 d L k j x
  sl_unfold [k1_t2_body]
  sl_exec
  have h34 : trip2.sl.v34 L k j x = scMin (k1_pay1 L k j) x k1_t3_loop.trips := by
    unfold trip2.sl.v34
    exact (loadN _).trans (storeN _ _)
  have h36 : trip2.sl.v36 L k j x = scMax (k1_pay1 L k j) x k1_t3_loop.trips := by
    unfold trip2.sl.v36
    exact (loadM _).trans (storeM _ _)
  rw [h34, h36]
  sl_step
  isplitl [Hx]; · iexact Hx
  isplitl [Hi]; · iexact Hi
  isplitl [Ho]; · iexact Ho
  isplitl [Ha]; · iexact Ha
  iexact Hb

end Cert.Proof.Sc

end
-- ==== Proof.TileRow.lean ====
/-
  One row of the SparseCore kernel: the row is copied in, its sixteen groups are done one after the other, and the row of
  results is copied out.
-/
module

public import proofs.«01_k».proof.Proof.TileLoop

@[expose] public section

noncomputable section

namespace Cert.Proof.Sc

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

local notation "𝕄" => MT nD τ sig (HIx 1) (Elt F) ℕ UU ℕ

local notation "xV" => (Memref.whole Cert.KernelIdeal.main_v5_scv : Memref Cert.KernelIdeal.sig Kind.scVector Space.hbm Cert.KernelIdeal.S256x128x16 EltTy.f32)
local notation "iV" => (Memref.whole Cert.KernelIdeal.main_v6_scv : Memref Cert.KernelIdeal.sig Kind.scVector Space.hbm Cert.KernelIdeal.S16x16 EltTy.i32)
local notation "oV" => (Memref.whole Cert.KernelIdeal.main_v7_scv : Memref Cert.KernelIdeal.sig Kind.scVector Space.hbm Cert.KernelIdeal.S256x256 EltTy.f32)
local notation "sX" => (Memref.whole Cert.KernelIdeal.cc1_scratch0 : Memref Cert.KernelIdeal.sig Kind.scVector Space.vmem Cert.KernelIdeal.S128x16 EltTy.f32)
local notation "sI" => (Memref.whole Cert.KernelIdeal.cc1_scratch1 : Memref Cert.KernelIdeal.sig Kind.scVector Space.vmem Cert.KernelIdeal.S16x16 EltTy.i32)
local notation "sO" => (Memref.whole Cert.KernelIdeal.cc1_scratch2 : Memref Cert.KernelIdeal.sig Kind.scVector Space.vmem Cert.KernelIdeal.S256 EltTy.f32)
local notation "sN" => (Memref.whole Cert.KernelIdeal.cc1_scratch3 : Memref Cert.KernelIdeal.sig Kind.scVector Space.vmem Cert.KernelIdeal.S16 EltTy.f32)
local notation "sM" => (Memref.whole Cert.KernelIdeal.cc1_scratch4 : Memref Cert.KernelIdeal.sig Kind.scVector Space.vmem Cert.KernelIdeal.S16 EltTy.f32)

variable (d : Dev nD) (L : grid1.Coords)

/-- The row buffer before group `n`. -/
def rowBuf (L : grid1.Coords) (k : Fin k1_t1_loop.trips) (x : FVec F S128x16 .f32) (op : IVec S16x16 32) (f : FVec F S256 .f32) : ℕ → FVec F S256 .f32
  | 0 => f
  | n + 1 => if h : n < k1_t2_loop.trips then
      (sO).view.writes (Elt F) (rowBuf L k x op f n) [⟨Rect.unit (s := S256) (k1_off4 ⟨n, h⟩) S16.size (k1_off4_inb ⟨n, h⟩), scGroup L k x op ⟨n, h⟩⟩]
    else rowBuf L k x op f n

/-- The accumulators before group `n`. -/
def minBuf (L : grid1.Coords) (k : Fin k1_t1_loop.trips) (x : FVec F S128x16 .f32) (a : FVec F S16 .f32) : ℕ → FVec F S16 .f32
  | 0 => a
  | n + 1 => if h : n < k1_t2_loop.trips then accN (scMin (k1_pay1 L k ⟨n, h⟩) x k1_t3_loop.trips) else minBuf L k x a n
def maxBuf (L : grid1.Coords) (k : Fin k1_t1_loop.trips) (x : FVec F S128x16 .f32) (a : FVec F S16 .f32) : ℕ → FVec F S16 .f32
  | 0 => a
  | n + 1 => if h : n < k1_t2_loop.trips then accM (scMax (k1_pay1 L k ⟨n, h⟩) x k1_t3_loop.trips) else maxBuf L k x a n

theorem rowBuf_eq (k : Fin k1_t1_loop.trips) (x : FVec F S128x16 .f32) (op : IVec S16x16 32) (f : FVec F S256 .f32) (n : ℕ)
    (hn : n ≤ k1_t2_loop.trips) : rowBuf L k x op f n = scRowTo L k x op f n := by
  induction n with
  | zero => funext y; simp [rowBuf, scRowTo]
  | succ n ih =>
    rw [rowBuf, dif_pos (by omega), ih (by omega)]
    exact store_row L k x op f ⟨n, by omega⟩

/-- The loop over the groups. -/
@[instance_reducible] def inv2 (k : Fin k1_t1_loop.trips) (x : FVec F S128x16 .f32) (op : IVec S16x16 32) (f : FVec F S256 .f32) (a b : FVec F S16 .f32) :
    LoopInv (M := 𝕄) frame (wpE (defs₀ (F := F)) 𝒱₀ (V d (cV L) (jV L)) none) Set.univ k1_t2_loop.lb k1_t2_loop.ub k1_t2_loop.st k1_t2_ok PUnit.unit
      (k1_t2_body (F := F) L xV (Memref.isWhole_whole _) iV (Memref.isWhole_whole _) oV (Memref.isWhole_whole _) sX (Memref.isWhole_whole _)
            sI (Memref.isWhole_whole _) sO (Memref.isWhole_whole _) sN (Memref.isWhole_whole _) sM (Memref.isWhole_whole _) cc1_scoped0 cc1_scoped1 cc1_scoped2 k) where
  inv n _ := iprop(((sX).view.loc (V d (cV L) (jV L)) ↦{fullShare} x) ∗ ((sI).view.loc (V d (cV L) (jV L)) ↦{fullShare} op)
      ∗ ((sO).view.loc (V d (cV L) (jV L)) ↦{fullShare} rowBuf L k x op f n)
      ∗ ((sN).view.loc (V d (cV L) (jV L)) ↦{fullShare} minBuf L k x a n)
      ∗ ((sM).view.loc (V d (cV L) (jV L)) ↦{fullShare} maxBuf L k x b n))
  step n _ := by
    rw [rowBuf, minBuf, maxBuf, dif_pos n.isLt, dif_pos n.isLt, dif_pos n.isLt]
    exact trip2 d L k n x op _ _ _

abbrev rowX (k : Fin k1_t1_loop.trips) : Memref sig .scVector .hbm S128x16 .f32 :=
  ((xV).slice (Rect.unit (s := S256x128x16) (k1_off1 L k) S1x128x16.size (k1_off1_inb L k)) (fun _ => rfl)).squeeze S128x16 squeezes_S1x128x16_S128x16
abbrev rowO (k : Fin k1_t1_loop.trips) : Memref sig .scVector .hbm S256 .f32 :=
  ((oV).slice (Rect.unit (s := S256x256) (k1_off5 L k) S1x256.size (k1_off5_inb L k)) (fun _ => rfl)).squeeze S256 squeezes_S1x256_S256

abbrev cB : GSem nD τ sig := (V d (cV L) (jV L), .dma cc1_scoped1.sem)
abbrev cC : GSem nD τ sig := (V d (cV L) (jV L), .dma cc1_scoped2.sem)

theorem trips1 : k1_t1_loop.trips = 8 := by decide +kernel
theorem trips2 : k1_t2_loop.trips = 16 := by decide +kernel
theorem trips3 : k1_t3_loop.trips = 64 := by decide +kernel

/-- The task and the trip that do row `b` of the SparseCore's 256. -/
def taskOf (b : Fin 256) : grid1.Coords :=
  fun | 0 => ⟨b.val / 128, by show _ < 2; omega⟩ | 1 => ⟨b.val % 128 / 8, by show _ < 16; omega⟩ | ⟨_ + 2, h⟩ => absurd h (Nat.not_lt.2 (Nat.le_add_left _ _))
def tripOf (b : Fin 256) : Fin k1_t1_loop.trips := ⟨b.val % 8, by rw [trips1]; omega⟩

/-- Row `b` of the SparseCore's features, each sixteen times. -/
def xRow (X : FVec F S256x128x16 .f32) (b : Fin 256) : FVec F S128x16 .f32 := fun y => X (Fin.cons b y)

/-- What the SparseCore's part leaves in its output. -/
def scOut (X : FVec F S256x128x16 .f32) (OP : IVec S16x16 32) : FVec F S256x256 .f32 :=
  fun y => scGroup (taskOf (y 0)) (tripOf (y 0)) (xRow X (y 0)) OP ⟨(y 1).val / 16, by rw [trips2]; have : (y 1).val < 256 := (y 1).isLt; omega⟩
    (lane16 ((y 1).val % 16) (Nat.mod_lt _ (by decide)))

/-- The row that a task's trip does. -/
def rowIx (k : Fin k1_t1_loop.trips) : Fin 256 := ⟨128 * (L 0).val + 8 * (L 1).val + k.val, by
  have h0 : (L 0).val < 2 := (L 0).isLt
  have h1 : (L 1).val < 16 := (L 1).isLt
  have h2 := lt_of_lt_of_eq k.isLt trips1
  omega⟩

theorem taskOf_rowIx (k : Fin k1_t1_loop.trips) : taskOf (rowIx L k) = L := by
  have h0 : (L 0).val < 2 := (L 0).isLt
  have h1 : (L 1).val < 16 := (L 1).isLt
  have h2 := lt_of_lt_of_eq k.isLt trips1
  funext a
  match a with
  | 0 => apply Fin.ext; show (128 * (L 0).val + 8 * (L 1).val + k.val) / 128 = (L 0).val; omega
  | 1 => apply Fin.ext; show (128 * (L 0).val + 8 * (L 1).val + k.val) % 128 / 8 = (L 1).val; omega

theorem rowIx_taskOf (b : Fin 256) : rowIx (taskOf b) (tripOf b) = b := by
  apply Fin.ext
  show 128 * (b.val / 128) + 8 * (b.val % 128 / 8) + b.val % 8 = b.val
  omega

theorem tripOf_rowIx (k : Fin k1_t1_loop.trips) : tripOf (rowIx L k) = k := by
  have h2 := lt_of_lt_of_eq k.isLt trips1
  apply Fin.ext; show (128 * (L 0).val + 8 * (L 1).val + k.val) % 8 = k.val; omega

theorem rowX_read (k : Fin k1_t1_loop.trips) (X : FVec F S256x128x16 .f32) : (rowX L k).view.read (Elt F) X = xRow X (rowIx L k) := by
  funext y
  show X ((Rect.unit (s := S256x128x16) (k1_off1 L k) S1x128x16.size (k1_off1_inb L k)).emb (Shape.reshapeEquiv squeezes_S1x128x16_S128x16.numel_eq y)) = _
  rw [show Shape.reshapeEquiv squeezes_S1x128x16_S128x16.numel_eq y = (Fin.cons ⟨0, Nat.one_pos⟩ y : S1x128x16.Idx) from Shape.reshapeEquiv_cons_one _ y]
  unfold xRow
  congr 1
  funext a
  apply Fin.ext
  rw [Rect.emb_apply]
  have e := congrFun (k1_off1_eq L k)
  match a with
  | ⟨0, _⟩ => show k1_off1 L k 0 + 1 * 0 = 128 * (L 0).val + 8 * (L 1).val + k.val; rw [e 0]; rfl
  | ⟨1, _⟩ => show k1_off1 L k 1 + 1 * (y 0).val = (y 0).val; rw [e 1]; show 0 + 1 * (y 0).val = _; omega
  | ⟨2, _⟩ => show k1_off1 L k 2 + 1 * (y 1).val = (y 1).val; rw [e 2]; show 0 + 1 * (y 1).val = _; omega

theorem rowO_emb (k : Fin k1_t1_loop.trips) (y : S256.Idx) : (rowO L k).view.emb y = (Fin.cons (rowIx L k) y : S256x256.Idx) := by
  show (Rect.unit (s := S256x256) (k1_off5 L k) S1x256.size (k1_off5_inb L k)).emb (Shape.reshapeEquiv squeezes_S1x256_S256.numel_eq y) = _
  rw [show Shape.reshapeEquiv squeezes_S1x256_S256.numel_eq y = (Fin.cons ⟨0, Nat.one_pos⟩ y : S1x256.Idx) from Shape.reshapeEquiv_cons_one _ y]
  funext a
  apply Fin.ext
  rw [Rect.emb_apply]
  have e := congrFun (k1_off5_eq L k)
  match a with
  | ⟨0, _⟩ => show k1_off5 L k 0 + 1 * 0 = 128 * (L 0).val + 8 * (L 1).val + k.val; rw [e 0]; rfl
  | ⟨1, _⟩ => show k1_off5 L k 1 + 1 * (y 0).val = (y 0).val; rw [e 1]; show 0 + 1 * (y 0).val = _; omega

theorem mem_rowO (k : Fin k1_t1_loop.trips) (z : S256x256.Idx) : z ∈ (rowO L k).view.set ↔ z 0 = rowIx L k := by
  constructor
  · intro h
    obtain ⟨x, _, hx⟩ := Finset.mem_map.mp h
    rw [← hx, rowO_emb]; rfl
  · intro h
    have : z = (rowO L k).view.emb (Fin.tail z) := by
      exact (Fin.cons_self_tail z).symm.trans ((congrArg (fun b => (Fin.cons b (Fin.tail z) : S256x256.Idx)) h).trans (rowO_emb L k (Fin.tail z)).symm)
    rw [this]
    exact View.emb_mem_set _ _

/-- What a row's trip copies out, at the row's places. -/
theorem row_written (k : Fin k1_t1_loop.trips) (X : FVec F S256x128x16 .f32) (op : IVec S16x16 32) (f : FVec F S256 .f32) (o : FVec F S256x256 .f32)
    (z : S256x256.Idx) (hz : z ∈ (rowO L k).view.set) :
    (rowO L k).view.writes (Elt F) o [⟨Rect.whole S256, rowBuf L k ((rowX L k).view.read (Elt F) X) op f k1_t2_loop.trips⟩] z = scOut X op z := by
  obtain ⟨y, _, rfl⟩ := Finset.mem_map.mp hz
  have h := View.read_writes_cons_emb (Val := Elt F) (rowO L k).view o (Rect.whole S256) (rowBuf L k ((rowX L k).view.read (Elt F) X) op f k1_t2_loop.trips) [] y
  rw [show (Rect.whole S256).emb y = y from funext fun a => Fin.ext (by show 0 + 1 * (y a).val = (y a).val; omega)] at h
  refine (show _ = _ from h).trans ?_
  rw [rowBuf_eq _ _ _ _ _ _ le_rfl, rowX_read, rowO_emb]
  have hy : (y 0).val < 256 := (y 0).isLt
  unfold scRowTo
  rw [dif_pos ⟨by rw [trips2]; omega, by rw [trips2]; omega⟩]
  show _ = scGroup (taskOf (rowIx L k)) (tripOf (rowIx L k)) (xRow X (rowIx L k)) op _ _
  rw [taskOf_rowIx, tripOf_rowIx]
  rfl

theorem trip1 (O : CellTallies nD τ sig (HIx 1)) (W : Waits sig (HIx 1)) (hO : ∀ g, O g none = 0) (q : PosShare TreeShare)
    (k : Fin k1_t1_loop.trips) (X : FVec F S256x128x16 .f32)
    (x : FVec F S128x16 .f32) (op : IVec S16x16 32) (f : FVec F S256 .f32) (a b : FVec F S16 .f32) (o : FVec F S256x256 .f32) :
    iprop(levAts (K (F := F)).L (K (F := F)).lev ∗ ((xV).view.loc (V d (cV L) (jV L)) ↦{q} X) ∗ ((rowO L k).view.loc (V d (cV L) (jV L)) ↦[(rowO L k).view.set]{fullShare} o)
        ∗ ((sX).view.loc (V d (cV L) (jV L)) ↦{fullShare} x) ∗ ((sI).view.loc (V d (cV L) (jV L)) ↦{fullShare} op)
        ∗ ((sO).view.loc (V d (cV L) (jV L)) ↦{fullShare} f)
        ∗ ((sN).view.loc (V d (cV L) (jV L)) ↦{fullShare} a) ∗ ((sM).view.loc (V d (cV L) (jV L)) ↦{fullShare} b)
        ∗ semVal (cB d L) 0 ∗ semVal (cC d L) 0 ∗ owes (V d (cV L) (jV L)) O W : sProp 𝕄)
      ⊢ wp frame (wpE (defs₀ (F := F)) 𝒱₀ (V d (cV L) (jV L)) none) Set.univ
          (k1_t1_body (F := F) L xV (Memref.isWhole_whole _) iV (Memref.isWhole_whole _) oV (Memref.isWhole_whole _) sX (Memref.isWhole_whole _)
            sI (Memref.isWhole_whole _) sO (Memref.isWhole_whole _) sN (Memref.isWhole_whole _) sM (Memref.isWhole_whole _) cc1_scoped0 cc1_scoped1 cc1_scoped2 k ⟨⟩)
          fun _ => iprop(((xV).view.loc (V d (cV L) (jV L)) ↦{q} X) ∗ ((rowO L k).view.loc (V d (cV L) (jV L)) ↦[(rowO L k).view.set]{fullShare} scOut X op)
        ∗ (∃ x, (sX).view.loc (V d (cV L) (jV L)) ↦{fullShare} x) ∗ ((sI).view.loc (V d (cV L) (jV L)) ↦{fullShare} op)
        ∗ (∃ f, (sO).view.loc (V d (cV L) (jV L)) ↦{fullShare} f)
        ∗ (∃ a, (sN).view.loc (V d (cV L) (jV L)) ↦{fullShare} a) ∗ (∃ b, (sM).view.loc (V d (cV L) (jV L)) ↦{fullShare} b)
        ∗ semVal (cB d L) 0 ∗ semVal (cC d L) 0 ∗ (∃ W, owes (V d (cV L) (jV L)) O W)) := by
  iintro ⟨#Hlv, HX, HO, Hx, Hi, Hr, Ha, Hb, HsB, HsC, How⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_unfold [k1_t1_body]
  sl_exec
  have ex : View.write (Elt F) (sX).view x (trip1.sl.dma0 L k X) Finset.univ = (rowX L k).view.read (Elt F) X := View.write_whole_univ _ _ _
  rw [ex]
  let L2 := inv2 d L k ((rowX L k).view.read (Elt F) X) op f a b
  sl_exec
  sl_step
  isplitl [HX]; · iexact HX
  isplitl [HO]
  · ihave HO' := (Entails.of_eq (pointsTo_congr (fun z hz => row_written L k X op f o z hz))) $$ HO
    iexact HO'
  isplitl [Hx]; · iexists _; iexact Hx
  isplitl [Hi]; · iexact Hi
  isplitl [Hr]; · iexists _; iexact Hr
  isplitl [Ha]; · iexists _; iexact Ha
  isplitl [Hb]; · iexists _; iexact Hb
  isplitl [HsB]; · iexact HsB
  isplitl [HsC]; · iexact HsC
  iexists _; iexact How

end Cert.Proof.Sc

end
-- ==== Proof.Tile.lean ====
/-
  A vector subcore's whole task: the operator words are copied in, then its eight rows are done one after the other.
-/
module

public import proofs.«01_k».proof.Proof.TileRow

@[expose] public section

noncomputable section

namespace Cert.Proof.Sc

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

local notation "𝕄" => MT nD τ sig (HIx 1) (Elt F) ℕ UU ℕ

local notation "xV" => (Memref.whole Cert.KernelIdeal.main_v5_scv : Memref Cert.KernelIdeal.sig Kind.scVector Space.hbm Cert.KernelIdeal.S256x128x16 EltTy.f32)
local notation "iV" => (Memref.whole Cert.KernelIdeal.main_v6_scv : Memref Cert.KernelIdeal.sig Kind.scVector Space.hbm Cert.KernelIdeal.S16x16 EltTy.i32)
local notation "oV" => (Memref.whole Cert.KernelIdeal.main_v7_scv : Memref Cert.KernelIdeal.sig Kind.scVector Space.hbm Cert.KernelIdeal.S256x256 EltTy.f32)
local notation "sX" => (Memref.whole Cert.KernelIdeal.cc1_scratch0 : Memref Cert.KernelIdeal.sig Kind.scVector Space.vmem Cert.KernelIdeal.S128x16 EltTy.f32)
local notation "sI" => (Memref.whole Cert.KernelIdeal.cc1_scratch1 : Memref Cert.KernelIdeal.sig Kind.scVector Space.vmem Cert.KernelIdeal.S16x16 EltTy.i32)
local notation "sO" => (Memref.whole Cert.KernelIdeal.cc1_scratch2 : Memref Cert.KernelIdeal.sig Kind.scVector Space.vmem Cert.KernelIdeal.S256 EltTy.f32)
local notation "sN" => (Memref.whole Cert.KernelIdeal.cc1_scratch3 : Memref Cert.KernelIdeal.sig Kind.scVector Space.vmem Cert.KernelIdeal.S16 EltTy.f32)
local notation "sM" => (Memref.whole Cert.KernelIdeal.cc1_scratch4 : Memref Cert.KernelIdeal.sig Kind.scVector Space.vmem Cert.KernelIdeal.S16 EltTy.f32)

variable (d : Dev nD) (L : grid1.Coords)

/-- A task's eight output rows, the first `n` of them done. -/
def rowsAt (o : FVec F S256x256 .f32) (out : FVec F S256x256 .f32) (n : ℕ) : sProp 𝕄 :=
  bigSep Finset.univ fun r : Fin k1_t1_loop.trips =>
    ((rowO L r).view.loc (V d (cV L) (jV L)) ↦[(rowO L r).view.set]{fullShare} (if r.val < n then out else o))

theorem rowsAt_zero (o out : FVec F S256x256 .f32) :
    rowsAt (F := F) d L o out 0 = bigSep Finset.univ fun r : Fin k1_t1_loop.trips =>
      ((rowO L r).view.loc (V d (cV L) (jV L)) ↦[(rowO L r).view.set]{fullShare} o) := by
  unfold rowsAt; exact bigSep_congr fun r _ => by rw [if_neg (by omega)]

theorem rowsAt_end (o out : FVec F S256x256 .f32) :
    rowsAt (F := F) d L o out k1_t1_loop.trips = bigSep Finset.univ fun r : Fin k1_t1_loop.trips =>
      ((rowO L r).view.loc (V d (cV L) (jV L)) ↦[(rowO L r).view.set]{fullShare} out) := by
  unfold rowsAt; exact bigSep_congr fun r _ => by rw [if_pos r.isLt]

/-- The rows but one. -/
def rowsBut (o out : FVec F S256x256 .f32) (k : Fin k1_t1_loop.trips) : sProp 𝕄 :=
  bigSep (Finset.univ.erase k) fun r : Fin k1_t1_loop.trips =>
    ((rowO L r).view.loc (V d (cV L) (jV L)) ↦[(rowO L r).view.set]{fullShare} (if r.val < k.val then out else o))

theorem rowsAt_take (o out : FVec F S256x256 .f32) (k : Fin k1_t1_loop.trips) :
    rowsAt (F := F) d L o out k.val = iprop(((rowO L k).view.loc (V d (cV L) (jV L)) ↦[(rowO L k).view.set]{fullShare} o) ∗ rowsBut d L o out k) := by
  unfold rowsAt rowsBut
  rw [SparseCore.bigSep_erase' (Finset.mem_univ k), if_neg (lt_irrefl _)]

theorem rowsAt_put (o out : FVec F S256x256 .f32) (k : Fin k1_t1_loop.trips) :
    rowsAt (F := F) d L o out (k.val + 1) = iprop(((rowO L k).view.loc (V d (cV L) (jV L)) ↦[(rowO L k).view.set]{fullShare} out) ∗ rowsBut d L o out k) := by
  unfold rowsAt rowsBut
  rw [SparseCore.bigSep_erase' (Finset.mem_univ k), if_pos (Nat.lt_succ_self _)]
  congr 1
  refine bigSep_congr fun r hr => ?_
  have hne : r.val ≠ k.val := fun e => (Finset.mem_erase.mp hr).1 (Fin.ext e)
  by_cases h : r.val < k.val
  · rw [if_pos h, if_pos (by omega)]
  · rw [if_neg h, if_neg (by omega)]

/-- What a task holds before its row `n`. -/
def atRow (O : CellTallies nD τ sig (HIx 1)) (q : PosShare TreeShare) (X : FVec F S256x128x16 .f32) (op : IVec S16x16 32)
    (o : FVec F S256x256 .f32) (n : ℕ) : sProp 𝕄 :=
  iprop(levAts (K (F := F)).L (K (F := F)).lev ∗ ((xV).view.loc (V d (cV L) (jV L)) ↦{q} X) ∗ rowsAt d L o (scOut X op) n
        ∗ (∃ x, (sX).view.loc (V d (cV L) (jV L)) ↦{fullShare} x) ∗ ((sI).view.loc (V d (cV L) (jV L)) ↦{fullShare} op)
        ∗ (∃ f, (sO).view.loc (V d (cV L) (jV L)) ↦{fullShare} f)
        ∗ (∃ a, (sN).view.loc (V d (cV L) (jV L)) ↦{fullShare} a) ∗ (∃ b, (sM).view.loc (V d (cV L) (jV L)) ↦{fullShare} b)
        ∗ semVal (cB d L) 0 ∗ semVal (cC d L) 0 ∗ (∃ W, owes (V d (cV L) (jV L)) O W))

/-- The loop over the rows. -/
@[instance_reducible] def inv1 (O : CellTallies nD τ sig (HIx 1)) (hO : ∀ g, O g none = 0) (q : PosShare TreeShare) (X : FVec F S256x128x16 .f32) (op : IVec S16x16 32)
    (o : FVec F S256x256 .f32) :
    LoopInv (M := 𝕄) frame (wpE (defs₀ (F := F)) 𝒱₀ (V d (cV L) (jV L)) none) Set.univ k1_t1_loop.lb k1_t1_loop.ub k1_t1_loop.st k1_t1_ok PUnit.unit
      (k1_t1_body (F := F) L xV (Memref.isWhole_whole _) iV (Memref.isWhole_whole _) oV (Memref.isWhole_whole _) sX (Memref.isWhole_whole _)
            sI (Memref.isWhole_whole _) sO (Memref.isWhole_whole _) sN (Memref.isWhole_whole _) sM (Memref.isWhole_whole _) cc1_scoped0 cc1_scoped1 cc1_scoped2) where
  inv n _ := atRow d L O q X op o n
  step n _ := by
    unfold atRow; rw [rowsAt_take, rowsAt_put]
    iintro ⟨#Hlv, HX, ⟨HO, Hbut⟩, ⟨%x, Hx⟩, Hi, ⟨%f, Hr⟩, ⟨%a, Ha⟩, ⟨%b, Hb⟩, HsB, HsC, ⟨%W, How⟩⟩
    ihave Hw := (trip1 d L O W hO q n X x op f a b o) $$ [Hlv HX HO Hx Hi Hr Ha Hb HsB HsC How]
    · isplitr; · iexact Hlv
      isplitl [HX]; · iexact HX
      isplitl [HO]; · iexact HO
      isplitl [Hx]; · iexact Hx
      isplitl [Hi]; · iexact Hi
      isplitl [Hr]; · iexact Hr
      isplitl [Ha]; · iexact Ha
      isplitl [Hb]; · iexact Hb
      isplitl [HsB]; · iexact HsB
      isplitl [HsC]; · iexact HsC
      iexact How
    ihave Hf := (wp_wand _ _ _) $$ Hw
    iapply Hf
    iintro %_ ⟨HX, HO, Hx, Hi, Hr, Ha, Hb, HsB, HsC, How⟩
    isplitr; · iexact Hlv
    isplitl [HX]; · iexact HX
    isplitl [HO Hbut]
    · isplitl [HO] <;> iassumption
    isplitl [Hx]; · iexact Hx
    isplitl [Hi]; · iexact Hi
    isplitl [Hr]; · iexact Hr
    isplitl [Ha]; · iexact Ha
    isplitl [Hb]; · iexact Hb
    isplitl [HsB]; · iexact HsB
    isplitl [HsC]; · iexact HsC
    iexact How

/-- The cell of the operator words' copy. -/
abbrev cA : GSem nD τ sig := (V d (cV L) (jV L), .dma cc1_scoped0.sem)

/-- Its other cells. -/
def restSems : sProp 𝕄 := bigSep ((((SparseCore.Cfg.ownCells (V d (cV L) (jV L))).erase (cA d L)).erase (cB d L)).erase (cC d L)) fun g => semVal g 0

/-- A vector subcore's cells of its own: the three copies' cells, and the rest. -/
theorem ownSems0_tile :
    (SparseCore.Cfg.ownSems0 (V d (cV L) (jV L)) : sProp 𝕄)
      = iprop(semVal (cA d L) 0 ∗ semVal (cB d L) 0 ∗ semVal (cC d L) 0
          ∗ restSems d L) := by
  unfold SparseCore.Cfg.ownSems0 restSems
  rw [SparseCore.bigSep_erase' ((SparseCore.Cfg.mem_ownCells (g := cA d L)).mpr ⟨rfl, by
      show (SemLoc.dma cc1_scoped0.sem : SemLoc sig).isScoped .scVector = true; decide⟩),
    SparseCore.bigSep_erase' (Finset.mem_erase.mpr ⟨by simp [cA, cB]; decide, (SparseCore.Cfg.mem_ownCells (g := cB d L)).mpr ⟨rfl, by
      show (SemLoc.dma cc1_scoped1.sem : SemLoc sig).isScoped .scVector = true; decide⟩⟩),
    SparseCore.bigSep_erase' (Finset.mem_erase.mpr ⟨by simp [cB, cC]; decide, Finset.mem_erase.mpr ⟨by simp [cA, cC]; decide,
      (SparseCore.Cfg.mem_ownCells (g := cC d L)).mpr ⟨rfl, by show (SemLoc.dma cc1_scoped2.sem : SemLoc sig).isScoped .scVector = true; decide⟩⟩⟩)]

/-- A vector subcore's scratch `r`, as a buffer of the device. -/
abbrev scr (r : Ref sig .scVector) : DevRef τ sig := (Proc.scVector (cV L) (jV L)).devRef r

theorem scr_mem (r : Ref sig .scVector) (h : (scr L r).owner = .proc (Proc.scVector (cV L) (jV L))) :
    scr L r ∈ SparseCore.Cfg.ownRefs (τ := τ) (sig := sig) (.scVector (cV L) (jV L)) := SparseCore.Cfg.mem_ownRefs_of_owner h

theorem scr_ne {r r' : Ref sig .scVector} (h : r ≠ r') : scr L r ≠ scr L r' := fun e => h (Proc.devRef_injective _ e)

/-- Its other buffers. -/
def restBufs : sProp 𝕄 := bigSep ((((((SparseCore.Cfg.ownRefs (τ := τ) (sig := sig) (.scVector (cV L) (jV L))).erase (scr L cc1_scratch0)).erase (scr L cc1_scratch1)).erase
              (scr L cc1_scratch2)).erase (scr L cc1_scratch3)).erase (scr L cc1_scratch4))
              fun b => iprop(∃ f, ((d, b) : Loc nD τ sig) ↦{fullShare} f)

/-- A vector subcore's buffers of its own: the five scratches, and the rest. -/
theorem ownBufs_tile :
    (SparseCore.Cfg.ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ (∃ f, (V d (cV L) (jV L)).loc cc1_scratch4 ↦{fullShare} f)
          ∗ restBufs d L) := by
  unfold SparseCore.Cfg.ownBufs restBufs
  refine (SparseCore.bigSep_erase' (scr_mem L cc1_scratch0 rfl)).trans ?_
  rw [SparseCore.bigSep_erase' (Finset.mem_erase.mpr ⟨scr_ne L (r := cc1_scratch1) (by decide), scr_mem L cc1_scratch1 rfl⟩),
    SparseCore.bigSep_erase' (Finset.mem_erase.mpr ⟨scr_ne L (r := cc1_scratch2) (by decide), Finset.mem_erase.mpr ⟨scr_ne L (r := cc1_scratch2) (by decide), scr_mem L cc1_scratch2 rfl⟩⟩),
    SparseCore.bigSep_erase' (Finset.mem_erase.mpr ⟨scr_ne L (r := cc1_scratch3) (by decide), Finset.mem_erase.mpr ⟨scr_ne L (r := cc1_scratch3) (by decide),
      Finset.mem_erase.mpr ⟨scr_ne L (r := cc1_scratch3) (by decide), scr_mem L cc1_scratch3 rfl⟩⟩⟩),
    SparseCore.bigSep_erase' (Finset.mem_erase.mpr ⟨scr_ne L (r := cc1_scratch4) (by decide), Finset.mem_erase.mpr ⟨scr_ne L (r := cc1_scratch4) (by decide),
      Finset.mem_erase.mpr ⟨scr_ne L (r := cc1_scratch4) (by decide), Finset.mem_erase.mpr ⟨scr_ne L (r := cc1_scratch4) (by decide), scr_mem L cc1_scratch4 rfl⟩⟩⟩⟩)]

/-- The task of vector subcore `(L 0, L 1)`. -/
theorem tile_body (O : CellTallies nD τ sig (HIx 1)) (W : Waits sig (HIx 1)) (hO : ∀ g, O g none = 0) (q q' : PosShare TreeShare)
    (X : FVec F S256x128x16 .f32) (op : IVec S16x16 32) (o : FVec F S256x256 .f32) :
    iprop(levAts (K (F := F)).L (K (F := F)).lev
        ∗ (((xV).view.loc (V d (cV L) (jV L)) ↦{q} X) ∗ ((iV).view.loc (V d (cV L) (jV L)) ↦{q'} op) ∗ rowsAt d L o (scOut X op) 0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__fwd_kernel_sc (F := F) L xV (Memref.isWhole_whole _) iV (Memref.isWhole_whole _) oV (Memref.isWhole_whole _) sX (Memref.isWhole_whole _)
            sI (Memref.isWhole_whole _) sO (Memref.isWhole_whole _) sN (Memref.isWhole_whole _) sM (Memref.isWhole_whole _) cc1_scoped0 cc1_scoped1 cc1_scoped2)
          fun _ => iprop((((xV).view.loc (V d (cV L) (jV L)) ↦{q} X) ∗ ((iV).view.loc (V d (cV L) (jV L)) ↦{q'} op) ∗ rowsAt d L o (scOut X op) k1_t1_loop.trips)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V facts d (cV L) (jV L), SparseCore.Cfg.scopedSems0_V (Val := Elt F) d (cV L) (jV L), ownSems0_tile, ownBufs_tile]
  iintro ⟨#Hlv, ⟨HX, HI, HO⟩, ⟨⟨%x, Hx⟩, ⟨%i, Hi⟩, ⟨%f, Hr⟩, ⟨%a, Ha⟩, ⟨%b, Hb⟩, Hbufs⟩, ⟨HsA, HsB, HsC, Hsems⟩, How⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi := (Entails.of_eq (show ((V d (cV L) (jV L)).loc cc1_scratch1 ↦{fullShare} i : sProp 𝕄) = (sI).view.loc (V d (cV L) (jV L)) ↦{fullShare} i from rfl)) $$ Hi
  rw [cc1__fwd_kernel_sc_eq_skeleton]
  sl_unfold [cc1__fwd_kernel_sc_skel]
  sl_exec
  have ei : View.write (Elt F) (sI).view i (tile_body.sl.dma0 op) Finset.univ = op := View.write_whole_univ _ _ _
  rw [ei]
  have hloop := exec_loop (β := PUnit) (kk := fun _ => Pure.pure PUnit.unit)
    (Q := fun _ => iprop((((xV).view.loc (V d (cV L) (jV L)) ↦{q} X) ∗ ((iV).view.loc (V d (cV L) (jV L)) ↦{q'} op) ∗ rowsAt d L o (scOut X op) k1_t1_loop.trips)
            ∗ ((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ (∃ f, (V d (cV L) (jV L)).loc cc1_scratch4 ↦{fullShare} f) ∗ restBufs d L)
            ∗ (semVal (cA d L) 0 ∗ semVal (cB d L) 0 ∗ semVal (cC d L) 0 ∗ restSems d L)
            ∗ ∃ W', ⌜∀ p ∈ W', p ∈ W ∨ p.2 = none ∨ p.2 = some (0 : Fin 1)⌝ ∗ owes (V d (cV L) (jV L)) O W'))
    frame (wpE (defs₀ (F := F)) 𝒱₀ (V d (cV L) (jV L)) none) Set.univ k1_t1_loop.lb k1_t1_loop.ub k1_t1_loop.st k1_t1_ok PUnit.unit _ (inv1 d L O hO q X op o)
  ihave Hl := (show atRow d L O q X op o 0 ⊢ _ from hloop) $$ [HX HO Hx Hi Hr Ha Hb HsB HsC How]
  · unfold atRow
    isplitr; · iexact Hlv
    isplitl [HX]; · iexact HX
    isplitl [HO]; · iexact HO
    isplitl [Hx]; · iexists _; iexact Hx
    isplitl [Hi]; · iexact Hi
    isplitl [Hr]; · iexists _; iexact Hr
    isplitl [Ha]; · iexists _; iexact Ha
    isplitl [Hb]; · iexists _; iexact Hb
    isplitl [HsB]; · iexact HsB
    isplitl [HsC]; · iexact HsC
    iexists _; iexact How
  iapply Hl
  iintro %_ Hat
  ihave Hat := (show _ ⊢ atRow d L O q X op o k1_t1_loop.trips from .rfl) $$ Hat
  unfold atRow
  icases Hat with ⟨-, HX, HO, ⟨%x, Hx⟩, Hi, ⟨%f, Hr⟩, ⟨%a, Ha⟩, ⟨%b, Hb⟩, HsB, HsC, ⟨%W', How⟩⟩
  sl_step
  isplitl [HX HI HO]
  · isplitl [HX]; · iexact HX
    isplitl [HI]; · iexact HI
    iexact HO
  isplitl [Hx Hi Hr Ha Hb Hbufs]
  · isplitl [Hx]; · iexists _; iexact Hx
    isplitl [Hi]; · iexists _; iexact Hi
    isplitl [Hr]; · iexists _; iexact Hr
    isplitl [Ha]; · iexists _; iexact Ha
    isplitl [Hb]; · iexists _; iexact Hb
    iexact Hbufs
  isplitl [HsA HsB HsC Hsems]
  · isplitl [HsA]; · iexact HsA
    isplitl [HsB]; · iexact HsB
    isplitl [HsC]; · iexact HsC
    iexact Hsems
  iexists _; isplitr
  swap; · iexact How
  ipureintro; intro p _
  rcases p.2 with _ | r
  · exact .inr (.inl rfl)
  · exact .inr (.inr (congrArg some (Subsingleton.elim r 0)))

end Cert.Proof.Sc

end
-- ==== Proof.Launch.lean ====
/-
  The SparseCore call as the launch deals it: what each vector subcore is handed and hands back, the subcore's task as
  that obligation, and the call's three arrays taken apart into the subcores' shares and rows and put together again.
-/
module

public import proofs.«01_k».proof.Proof.Tile

@[expose] public section

noncomputable section

namespace Cert.Proof.Sc

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

local notation "𝕄" => MT nD τ sig (HIx 1) (Elt F) ℕ UU ℕ

local notation "xV" => (Memref.whole Cert.KernelIdeal.main_v5_scv : Memref Cert.KernelIdeal.sig Kind.scVector Space.hbm Cert.KernelIdeal.S256x128x16 EltTy.f32)
local notation "iV" => (Memref.whole Cert.KernelIdeal.main_v6_scv : Memref Cert.KernelIdeal.sig Kind.scVector Space.hbm Cert.KernelIdeal.S16x16 EltTy.i32)
local notation "oV" => (Memref.whole Cert.KernelIdeal.main_v7_scv : Memref Cert.KernelIdeal.sig Kind.scVector Space.hbm Cert.KernelIdeal.S256x256 EltTy.f32)
local notation "sX" => (Memref.whole Cert.KernelIdeal.cc1_scratch0 : Memref Cert.KernelIdeal.sig Kind.scVector Space.vmem Cert.KernelIdeal.S128x16 EltTy.f32)
local notation "sI" => (Memref.whole Cert.KernelIdeal.cc1_scratch1 : Memref Cert.KernelIdeal.sig Kind.scVector Space.vmem Cert.KernelIdeal.S16x16 EltTy.i32)
local notation "sO" => (Memref.whole Cert.KernelIdeal.cc1_scratch2 : Memref Cert.KernelIdeal.sig Kind.scVector Space.vmem Cert.KernelIdeal.S256 EltTy.f32)
local notation "sN" => (Memref.whole Cert.KernelIdeal.cc1_scratch3 : Memref Cert.KernelIdeal.sig Kind.scVector Space.vmem Cert.KernelIdeal.S16 EltTy.f32)
local notation "sM" => (Memref.whole Cert.KernelIdeal.cc1_scratch4 : Memref Cert.KernelIdeal.sig Kind.scVector Space.vmem Cert.KernelIdeal.S16 EltTy.f32)

variable (d : Dev nD) (L : grid1.Coords)

/-- The grid point of a core and a subcore. -/
def coordsV (c : Fin (grid1.bound 0)) (s : Fin (grid1.bound 1)) : grid1.Coords :=
  fun | 0 => c | 1 => s | ⟨_ + 2, h⟩ => absurd h (Nat.not_lt.2 (Nat.le_add_left _ _))

/-- The grid point of subcore `i` of core `c`. -/
def tileAt (c : Fin 2) (i : Fin 16) : grid1.Coords := coordsV c i

/-- The part of an array read by all that subcore `i` of core `c` holds. -/
def shareAt (c : Fin 2) (i : Fin 16) : PosShare TreeShare :=
  Transfers.dealOf (Transfers.dealOf fullShare Finset.univ c) Finset.univ i

/-- The locations of the call's arrays. -/
abbrev xLoc (d : Dev nD) : Loc nD τ sig := (d.tc : Thread nD τ).loc main_v5
abbrev pLoc (d : Dev nD) : Loc nD τ sig := (d.tc : Thread nD τ).loc main_v6
abbrev oLoc (d : Dev nD) : Loc nD τ sig := (d.tc : Thread nD τ).loc main_v7

section Deal

variable (X : Dev nD → FVec F S256x128x16 .f32) (OP : Dev nD → IVec S16x16 32) (o : Dev nD → FVec F S256x256 .f32)

/-- What subcore `i` of core `c` is handed: parts of the two operands and its eight rows of the result. -/
def goAt (d : Dev nD) (c : Fin 2) (i : Fin 16) : sProp 𝕄 :=
  iprop(((xV).view.loc (V d (cV (tileAt c i)) (jV (tileAt c i))) ↦{shareAt c i} X d)
    ∗ ((iV).view.loc (V d (cV (tileAt c i)) (jV (tileAt c i))) ↦{shareAt c i} OP d)
    ∗ rowsAt d (tileAt c i) (o d) (scOut (X d) (OP d)) 0)

/-- What it hands back: the operands as they were, its rows at the result. -/
def tdAt (d : Dev nD) (c : Fin 2) (i : Fin 16) : sProp 𝕄 :=
  iprop(((xV).view.loc (V d (cV (tileAt c i)) (jV (tileAt c i))) ↦{shareAt c i} X d)
    ∗ ((iV).view.loc (V d (cV (tileAt c i)) (jV (tileAt c i))) ↦{shareAt c i} OP d)
    ∗ rowsAt d (tileAt c i) (o d) (scOut (X d) (OP d)) k1_t1_loop.trips)

instance rowsAt_storable (d : Dev nD) (L : grid1.Coords) (o out : FVec F S256x256 .f32) (n : ℕ) :
    BI.Storable (upEmb : UEmb _ 𝕄) (rowsAt (F := F) d L o out n) := by
  unfold rowsAt; infer_instance

instance goAt_storable (d : Dev nD) (c : Fin 2) (i : Fin 16) : BI.Storable (upEmb : UEmb _ 𝕄) (goAt X OP o d c i) := by
  unfold goAt; infer_instance

instance tdAt_storable (d : Dev nD) (c : Fin 2) (i : Fin 16) : BI.Storable (upEmb : UEmb _ 𝕄) (tdAt X OP o d c i) := by
  unfold tdAt; infer_instance

/-- What a core is handed and hands back: all that its subcores do. -/
def goAll (d : Dev nD) (c : Fin 2) : sProp 𝕄 := bigSep Finset.univ fun i : Fin 16 => goAt X OP o d c i
def tdAll (d : Dev nD) (c : Fin 2) : sProp 𝕄 := bigSep Finset.univ fun i : Fin 16 => tdAt X OP o d c i

instance goAll_storable (d : Dev nD) (c : Fin 2) : BI.Storable (upEmb : UEmb _ 𝕄) (goAll X OP o d c) := by
  unfold goAll; infer_instance

instance tdAll_storable (d : Dev nD) (c : Fin 2) : BI.Storable (upEmb : UEmb _ 𝕄) (tdAll X OP o d c) := by
  unfold tdAll; infer_instance

omit [FloatOps F] in
theorem nCore_all (q : Fin 1) : (K (F := F)).nCore q = 2 := match q with | 0 => rfl
omit [FloatOps F] in
theorem nSub_all (q : Fin 1) : (K (F := F)).nSub q = 16 := match q with | 0 => rfl

/-- What the handshakes carry: a core is handed all that its subcores are. -/
def P : (K (F := F)).Pay (nD := nD) (Val := Elt F) (Name := ℕ) (U := UU) where
  st := fun q d c => goAll X OP o d (Fin.cast (nCore_all q) c)
  dn := fun q d c => tdAll X OP o d (Fin.cast (nCore_all q) c)
  go := fun q d c i => goAt X OP o d (Fin.cast (nCore_all q) c) (Fin.cast (nSub_all q) i)
  td := fun q d c i => tdAt X OP o d (Fin.cast (nCore_all q) c) (Fin.cast (nSub_all q) i)
  x := fun _ _ => iprop(emp)

instance P_storable : (P X OP o).IsStorable where
  st q d c := goAll_storable X OP o d (Fin.cast (nCore_all q) c)
  dn q d c := tdAll_storable X OP o d (Fin.cast (nCore_all q) c)
  go q d c i := goAt_storable X OP o d (Fin.cast (nCore_all q) c) (Fin.cast (nSub_all q) i)
  td q d c i := tdAt_storable X OP o d (Fin.cast (nCore_all q) c) (Fin.cast (nSub_all q) i)

theorem defs₀_vector (c : Fin τ.nSC) (s : Fin τ.nSub) :
    defs₀ (F := F) (.scVector c s) 1 ()
      = SparseCore.onTile hcore1 hsub1 (fun c s => cc1__fwd_kernel_sc (F := F) (coordsV c s) xV (Memref.isWhole_whole _) iV (Memref.isWhole_whole _) oV (Memref.isWhole_whole _) sX (Memref.isWhole_whole _)
            sI (Memref.isWhole_whole _) sO (Memref.isWhole_whole _) sN (Memref.isWhole_whole _) sM (Memref.isWhole_whole _) cc1_scoped0 cc1_scoped1 cc1_scoped2) ⟨⟩ c s := rfl

/-- Every subcore's task, as the launch asks for it. -/
theorem tileObl : (K (F := F)).TileObl (D (F := F)) 𝒱 (P X OP o) v₀ 0 := by
  intro d c i O W hO _ _
  simp only [show (P X OP o).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  refine BI.Entails.trans ?_ (tile_body d (tileAt (Fin.cast nCore_zero c) (Fin.cast nSub_zero i)) O W hO (shareAt (Fin.cast nCore_zero c) (Fin.cast nSub_zero i))
    (shareAt (Fin.cast nCore_zero c) (Fin.cast nSub_zero i)) (X d) (OP d) (o d))
  show iprop(levAts (K (F := F)).L (K (F := F)).lev ∗ iprop(emp) ∗ goAt X OP o d (Fin.cast nCore_zero c) (Fin.cast nSub_zero i) ∗ _) ⊢ _
  unfold goAt
  iintro ⟨Hl, -, Hgo, Hr⟩
  isplitl [Hl]; · iexact Hl
  isplitl [Hgo]; · iexact Hgo
  iexact Hr

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A core hands its subcores what it was handed, and gathers what they hand back. -/
theorem vecSplit : (K (F := F)).VecSplit' (P X OP o) 0 := by
  intro d c
  dsimp only [P]
  rw [bigSep_tasks (F := F) (goAt X OP o d (Fin.cast nCore_zero c)), bigSep_tasks (F := F) (tdAt X OP o d (Fin.cast nCore_zero c))]
  unfold goAll tdAll
  iintro H; imodintro
  isplitl [H]; · iexact H
  iintro H; iexact H

/-! ## The arrays taken apart and put together -/

/-- An array read by all, in the subcores' parts. -/
theorem shares (ℓ : Loc nD τ sig) (f : Buf (Elt F) ℓ) :
    (ℓ ↦{fullShare} f : sProp 𝕄) = bigSep Finset.univ fun c : Fin 2 => bigSep Finset.univ fun i : Fin 16 => ℓ ↦{shareAt c i} f := by
  refine (Transfers.pointsTo_deal (Finset.univ : Finset (Fin 2)) Finset.univ_nonempty fullShare).trans ?_
  exact bigSep_congr fun c _ => Transfers.pointsTo_deal (Finset.univ : Finset (Fin 16)) Finset.univ_nonempty _

/-- The rows of subcore `i` of core `c`. -/
def tileRows (c : Fin 2) (i : Fin 16) : Finset S256x256.Idx :=
  Finset.univ.biUnion fun r : Fin k1_t1_loop.trips => (rowO (tileAt c i) r).view.set

theorem mem_tileRows (c : Fin 2) (i : Fin 16) (z : S256x256.Idx) : z ∈ tileRows c i ↔ taskOf (z 0) = tileAt c i := by
  unfold tileRows
  rw [Finset.mem_biUnion]
  constructor
  · rintro ⟨r, -, h⟩
    rw [(mem_rowO _ _ _).mp h, taskOf_rowIx]
  · intro h
    exact ⟨tripOf (z 0), Finset.mem_univ _, (mem_rowO _ _ _).mpr (by rw [← h]; exact (rowIx_taskOf (z 0)).symm)⟩

theorem tileAt_inj {c c' : Fin 2} {i i' : Fin 16} (h : tileAt c i = tileAt c' i') : c = c' ∧ i = i' :=
  ⟨congrFun h 0, congrFun h 1⟩

theorem rows_one (d : Dev nD) (c : Fin 2) (i : Fin 16) (f : FVec F S256x256 .f32) :
    (oLoc d ↦[tileRows c i]{fullShare} f : sProp 𝕄) = bigSep Finset.univ fun r : Fin k1_t1_loop.trips =>
      ((rowO (tileAt c i) r).view.loc (V d (cV (tileAt c i)) (jV (tileAt c i))) ↦[(rowO (tileAt c i) r).view.set]{fullShare} f) := by
  refine pointsTo_biUnion (ℓ := oLoc d) (q := fullShare) (Val := Elt F) Finset.univ (fun r => (rowO (tileAt c i) r).view.set) fun r _ r' _ hr => ?_
  rw [Finset.disjoint_left]
  intro z h h'
  refine hr ?_
  rw [← tripOf_rowIx (tileAt c i) r, ← tripOf_rowIx (tileAt c i) r', ← (mem_rowO _ _ _).mp h, ← (mem_rowO _ _ _).mp h']

/-- The result's array, in the subcores' rows. -/
theorem rows_all (d : Dev nD) (f : FVec F S256x256 .f32) :
    (oLoc d ↦{fullShare} f : sProp 𝕄) = bigSep Finset.univ fun c : Fin 2 => bigSep Finset.univ fun i : Fin 16 => oLoc d ↦[tileRows c i]{fullShare} f := by
  have hu : (Finset.univ : Finset S256x256.Idx) = Finset.univ.biUnion fun c : Fin 2 => Finset.univ.biUnion fun i : Fin 16 => tileRows c i := by
    ext z
    simp only [Finset.mem_univ, Finset.mem_biUnion, true_and, true_iff]
    refine ⟨(taskOf (z 0)) 0, (taskOf (z 0)) 1, (mem_tileRows _ _ _).mpr ?_⟩
    funext a
    match a with
    | 0 => rfl
    | 1 => rfl
  have h : (oLoc d ↦[Finset.univ.biUnion fun c : Fin 2 => Finset.univ.biUnion fun i : Fin 16 => tileRows c i]{fullShare} f : sProp 𝕄)
      = bigSep Finset.univ fun c : Fin 2 => bigSep Finset.univ fun i : Fin 16 => oLoc d ↦[tileRows c i]{fullShare} f := by
    refine (pointsTo_biUnion (ℓ := oLoc d) (q := fullShare) (Val := Elt F) Finset.univ _ fun c _ c' _ hc => ?_).trans (bigSep_congr fun c _ =>
      pointsTo_biUnion (ℓ := oLoc d) (q := fullShare) (Val := Elt F) Finset.univ _ fun i _ i' _ hi => ?_)
    · rw [Finset.disjoint_left]
      intro z hz hz'
      obtain ⟨i, -, hz⟩ := Finset.mem_biUnion.mp hz
      obtain ⟨i', -, hz'⟩ := Finset.mem_biUnion.mp hz'
      exact hc (tileAt_inj (((mem_tileRows _ _ _).mp hz).symm.trans ((mem_tileRows _ _ _).mp hz'))).1
    · rw [Finset.disjoint_left]
      intro z hz hz'
      exact hi (tileAt_inj (((mem_tileRows _ _ _).mp hz).symm.trans ((mem_tileRows _ _ _).mp hz'))).2
  rw [← hu] at h
  exact h

/-- All that the cores are handed is the three arrays whole. -/
theorem st0_eq (d : Dev nD) :
    (bigSep Finset.univ fun c : Fin ((K (F := F)).nCore 0) => (P X OP o).st 0 d c)
      = iprop((xLoc d ↦{fullShare} X d) ∗ (pLoc d ↦{fullShare} OP d) ∗ (oLoc d ↦{fullShare} o d)) := by
  rw [shares (xLoc d) (X d), shares (pLoc d) (OP d), rows_all d (o d), ← bigSep_sep', ← bigSep_sep']
  dsimp only [P]
  rw [bigSep_cores (F := F) (goAll X OP o d)]
  refine bigSep_congr fun c _ => ?_
  unfold goAll
  rw [← bigSep_sep', ← bigSep_sep']
  refine bigSep_congr fun i _ => ?_
  rw [rows_one]
  unfold goAt
  rw [rowsAt_zero]

/-- All that they hand back is the operands whole as they were and the result whole. -/
theorem dn0_eq (d : Dev nD) :
    (bigSep Finset.univ fun c : Fin ((K (F := F)).nCore 0) => (P X OP o).dn 0 d c)
      = iprop((xLoc d ↦{fullShare} X d) ∗ (pLoc d ↦{fullShare} OP d) ∗ (oLoc d ↦{fullShare} (scOut (X d) (OP d) : FVec F S256x256 .f32))) := by
  rw [shares (xLoc d) (X d), shares (pLoc d) (OP d), rows_all d (scOut (X d) (OP d)), ← bigSep_sep', ← bigSep_sep']
  dsimp only [P]
  rw [bigSep_cores (F := F) (tdAll X OP o d)]
  refine bigSep_congr fun c _ => ?_
  unfold tdAll
  rw [← bigSep_sep', ← bigSep_sep']
  refine bigSep_congr fun i _ => ?_
  rw [rows_one]
  unfold tdAt
  rw [rowsAt_end]

end Deal

end Cert.Proof.Sc

end
-- ==== Proof.Main.lean ====
/-
  The kernel's run: @main on the TensorCore (the host's operations, the pipelined kernel, the SparseCore's call) and what
  the final memory holds, for any float values.
-/
module

public import proofs.«01_k».proof.Proof.RegionSeg
public import proofs.«01_k».proof.Proof.Launch
public import Idealize.ShloMosaic.Lib.Pipeline.Kit

@[expose] public section

noncomputable section

namespace Cert.Proof.Sc

open Cert.KernelIdeal Cert.KernelIdeal.Gen

open Idealize.ShloMosaic Idealize.ShloMosaic.TcCoe
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

local notation "𝕄" => MT nD τ sig (HIx 1) (Elt F) ℕ UU ℕ

/-! ## The launch element -/

/-- The pipeline's rounds inside the machine's algebra. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

theorem EP_own (e : UP) : (BI.own (((Emb.inl : Emb UP (UP × Counters)).trans embR) e) : sProp 𝕄) = BI.own (EP e) := rfl

/-- The launch element: the handshakes' cells, the pipeline's, no counter. -/
def u₀ : UU := (initOf (K (F := F)).hsCells (K (F := F)).hsToks,
  (initOf (Pipeline.cells (nD := nD) (τ := τ) (Pipeline.pin (pcfgs (F := F)) adm) cellOf_inj) (Pipeline.launchToks (nD := nD) (τ := τ) (Pipeline.pin (pcfgs (F := F)) adm) cellOf_inj), 1))

/-- What the launch deals each core for its pipeline. -/
abbrev Gh (d : Dev nD) : sProp 𝕄 :=
  iprop(Pipeline.cellsGhost (Pipeline.pin (pcfgs (F := F)) adm) EP 0 d ∗ Pipeline.toksInit (Pipeline.pin (pcfgs (F := F)) adm) EP 0 d)

theorem hu₀ (X : Dev nD → FVec F S256x128x16 .f32) (OP : Dev nD → IVec S16x16 32) (o : Dev nD → FVec F S256x256 .f32) :
    (ownU (u₀ (F := F)) : sProp 𝕄)
    ⊢ |={Set.univ}=> iprop(BI.own (EH (initOf (K (F := F)).hsCells (K (F := F)).hsToks)) ∗ (bigSep Finset.univ Gh)
        ∗ bigSep Finset.univ fun thr : Thread nD τ => bigSep Finset.univ fun q : Fin 1 => (P X OP o).x q thr) := by
  unfold u₀
  iintro Hu
  ihave H := (ownU_pair _ _) $$ Hu
  icases H with ⟨HH, HR⟩
  ihave H := (own_pair_emb embR _ _) $$ HR
  icases H with ⟨HP, -⟩
  ihave HP' := (Entails.of_eq (EP_own _)) $$ HP
  imod (Pipeline.fund_ghost (nD := nD) (τ := τ) (Pipeline.pin (pcfgs (F := F)) adm) EP cellOf_inj) $$ HP' with ⟨Hc, Ht⟩
  imodintro
  isplitl [HH]; · iexact HH
  isplitl [Hc Ht]
  · rw [bigSep_sep']
    simp only [Finset.univ_unique, bigSep_singleton]
    isplitl [Hc]; · iexact Hc
    iexact Ht
  · rw [show (fun thr : Thread nD τ => bigSep Finset.univ fun q : Fin 1 => (P X OP o).x q thr) = fun _ => (iprop(emp) : sProp 𝕄) from
      funext fun _ => bigSep_emp_const _]
    ihave H := (Entails.of_eq (bigSep_emp_const (Finset.univ : Finset (Thread nD τ))).symm) $$ []
    · iempintro
    iexact H

/-! ## The host's operations and the valuations they leave -/

variable (m : (ℓ : Loc nD τ sig) → Buf (Elt F) ℓ)

/-- The TensorCore's unscoped references. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

abbrev op0 : HloOp τ sig (Elt F) := StableHlo.reshape main_arg3 main_v0 (rfl : (.i32 : EltTy) = .i32) shapeCasts_S256_S1x256
abbrev op1 : HloOp τ sig (Elt F) := StableHlo.unary main_arg0 main_v1 ((extractStridedSlice S768x128 ![0, 0] · slices_S1024x128_S768x128_0_0) : (⟨S1024x128, .f32⟩ : BufTy).Contents (Elt F) → (⟨S768x128, .f32⟩ : BufTy).Contents (Elt F))
abbrev op3 : HloOp τ sig (Elt F) := StableHlo.unary main_arg0 main_v3 ((extractStridedSlice S256x128 ![768, 0] · slices_S1024x128_S256x128_768_0) : (⟨S1024x128, .f32⟩ : BufTy).Contents (Elt F) → (⟨S256x128, .f32⟩ : BufTy).Contents (Elt F))
abbrev op4 : HloOp τ sig (Elt F) := StableHlo.unary main_v3 main_v4 (broadcastInDim S256x128x1 ![0, 1] bcast_S256x128_S256x128x1_0_1 : (⟨S256x128, .f32⟩ : BufTy).Contents (Elt F) → (⟨S256x128x1, .f32⟩ : BufTy).Contents (Elt F))
abbrev op5 : HloOp τ sig (Elt F) := StableHlo.unary main_v4 main_v5 (broadcastInDim S256x128x16 ![0, 1, 2] bcast_S256x128x1_S256x128x16_0_1_2 : (⟨S256x128x1, .f32⟩ : BufTy).Contents (Elt F) → (⟨S256x128x16, .f32⟩ : BufTy).Contents (Elt F))
abbrev op6 : HloOp τ sig (Elt F) := StableHlo.reshape main_arg3 main_v6 (rfl : (.i32 : EltTy) = .i32) shapeCasts_S256_S16x16
abbrev op8 : HloOp τ sig (Elt F) := StableHlo.binary main_v2 main_v7 main_v8 ((fun a b => concatenate S1024x256 0 [⟨S768x256, a⟩, ⟨S256x256, b⟩] concatenates_S768x256_S256x256_S1024x256_d0) : (⟨S768x256, .f32⟩ : BufTy).Contents (Elt F) → (⟨S256x256, .f32⟩ : BufTy).Contents (Elt F) → (⟨S1024x256, .f32⟩ : BufTy).Contents (Elt F))

theorem sub0 : (op0 (F := F)).bufs ⊆ StableHlo.tcRefs τ sig := StableHlo.reshape_bufs_sub ..
theorem sub1 : (op1 (F := F)).bufs ⊆ StableHlo.tcRefs τ sig := StableHlo.unary_bufs_sub ..
theorem sub3 : (op3 (F := F)).bufs ⊆ StableHlo.tcRefs τ sig := StableHlo.unary_bufs_sub ..
theorem sub4 : (op4 (F := F)).bufs ⊆ StableHlo.tcRefs τ sig := StableHlo.unary_bufs_sub ..
theorem sub5 : (op5 (F := F)).bufs ⊆ StableHlo.tcRefs τ sig := StableHlo.unary_bufs_sub ..
theorem sub6 : (op6 (F := F)).bufs ⊆ StableHlo.tcRefs τ sig := StableHlo.reshape_bufs_sub ..
theorem sub8 : (op8 (F := F)).bufs ⊆ StableHlo.tcRefs τ sig := StableHlo.binary_bufs_sub ..

abbrev r0 : DevRef τ sig := Proc.devRef .tc (main_arg0 : Ref sig .tc)
abbrev r3 : DevRef τ sig := Proc.devRef .tc (main_arg3 : Ref sig .tc)
abbrev b1 : DevRef τ sig := Proc.devRef .tc (main_v1 : Ref sig .tc)
abbrev b2 : DevRef τ sig := Proc.devRef .tc (main_v2 : Ref sig .tc)
abbrev b5 : DevRef τ sig := Proc.devRef .tc (main_v5 : Ref sig .tc)
abbrev b6 : DevRef τ sig := Proc.devRef .tc (main_v6 : Ref sig .tc)
abbrev b7 : DevRef τ sig := Proc.devRef .tc (main_v7 : Ref sig .tc)

/-- Device `d`'s buffers before the kernel's region, -/
def Wa (d : Dev nD) : Valuation τ sig (Elt F) := op1.result (op0.result fun b => m (d, b))
/-- the same as what the region reads, -/
def Va (c : Dev nD) (b : Ref sig .tc) : Buf (Elt F) ((c : Thread nD τ).loc b) := Wa m c b
/-- after it, -/
def Wb (d : Dev nD) : Valuation τ sig (Elt F) := Function.update (Wa m d) b2 (tcRes (Va m) d)
/-- before the SparseCore's call, -/
def Wc (d : Dev nD) : Valuation τ sig (Elt F) := op6.result (op5.result (op4.result (op3.result (Wb m d))))
/-- its operands, -/
def Xc (d : Dev nD) : FVec F S256x128x16 .f32 := Wc m d b5
def OPc (d : Dev nD) : IVec S16x16 32 := Wc m d b6
def oc (d : Dev nD) : FVec F S256x256 .f32 := Wc m d b7
/-- after the call, -/
def Wd (d : Dev nD) : Valuation τ sig (Elt F) := Function.update (Wc m d) b7 (scOut (Xc m d) (OPc m d))
/-- and at the end. -/
def We (d : Dev nD) : Valuation τ sig (Elt F) := op8.result (Wd m d)

/-! ## @main -/

variable (ρ : Dev nD → PrngReg)

theorem Vb_out (c : Dev nD) : (Wb m c (main_v2 : Ref sig .tc) : Buf (Elt F) ((c : Thread nD τ).loc main_v2)) = tcRes (Va m) c := Function.update_self _ _ _
theorem Vb_ne (c : Dev nD) (b : Ref sig .tc) (h : b ≠ main_v2) : (Wb m c b : Buf (Elt F) ((c : Thread nD τ).loc b)) = Va m c b :=
  Function.update_of_ne (fun e => h (Proc.devRef_injective _ e)) _ _

/-- The region at @main's valuations. -/
abbrev regM := reg (Va m) (fun c b => Wb m c b) (Vb_out m) (Vb_ne m)

/-- The three buffers of the SparseCore's call. -/
def scRefs : Finset (DevRef τ sig) := {b5, b6, b7}

theorem scRefs_sub : scRefs ⊆ ucRefs := fun b hb => by
  unfold scRefs at hb
  simp only [Finset.mem_insert, Finset.mem_singleton] at hb
  rcases hb with rfl | rfl | rfl <;> exact Finset.mem_filter.mpr ⟨StableHlo.devRef_mem_tcRefs _, by decide⟩

omit [FloatOps F] in
theorem scHeld_eq (d : Dev nD) (W : Valuation τ sig (Elt F)) :
    (StableHlo.held (d : Thread nD τ) scRefs W : sProp 𝕄)
      = iprop((xLoc d ↦{fullShare} W b5) ∗ (pLoc d ↦{fullShare} W b6) ∗ (oLoc d ↦{fullShare} W b7)) := by
  unfold StableHlo.held scRefs
  rw [SparseCore.bigSep_insert' (by decide), SparseCore.bigSep_insert' (by decide), bigSep_singleton]

/-- What the core owes, taken out of its state before the calls and put back. -/
theorem tcSt_owes (d : Dev nD) : ((K (F := F)).tcSt EH d 0 : sProp 𝕄) ⊢ iprop(owesLow d ∗ (owesLow d -∗ (K (F := F)).tcSt EH d 0)) := by
  unfold SparseCore.Cfg.tcSt
  iintro ⟨HO, Hst⟩
  isplitl [HO]; · iexact HO
  iintro HO
  isplitl [HO]; · iexact HO
  iexact Hst

/-- The region's call below the SparseCore's labels. -/
def entryProg : Prog (TpuEff nD τ sig (Elt F) (ΛP (F := F)) .tc) PUnit := .op (.customCall (Pipeline.entry 0) ()) fun _ => .ret ⟨⟩

theorem lift_entry (d : Dev nD) (Q : PUnit → sProp 𝕄) :
    wp frame (wpE (D (F := F)) 𝒱 (SparseCore.T d) none) Set.univ entryProg Q
      ⊢ wp frame (wpE ((K (F := F)).defs (D (F := F))) 𝒱 (SparseCore.T d) none) Set.univ (SparseCore.liftProg entryProg) Q :=
  (K (F := F)).wp_liftProg (D (F := F)) 𝒱 (SparseCore.T d) Set.univ none entryProg Q

theorem lift_entry' (d : Dev nD) (Q : PUnit → sProp 𝕄) :
    wp frame (wpE (D (F := F)) 𝒱 (SparseCore.T d) none) Set.univ (.op (.customCall (Pipeline.entry 0) ()) fun _ => .ret ⟨⟩) Q
      ⊢ wp frame (wpE ((K (F := F)).defs (D (F := F))) 𝒱 (SparseCore.T d) none) Set.univ (Prog.lift (.customCall (SparseCore.inner (Pipeline.entry 0)) ())) Q :=
  lift_entry d Q

set_option backward.isDefEq.respectTransparency.types false in
/-- The kernel's region in @main, from the host's valuation to the one with the result's array. -/
theorem region_step (d : Dev nD) (Q : PUnit → sProp 𝕄) :
    iprop((iprop(boundary (d : Thread nD τ) ∗ StableHlo.held (d : Thread nD τ) ucRefs (Wb m d) ∗ owesLow d) -∗ Q ⟨⟩)
        ∗ boundary (d : Thread nD τ) ∗ StableHlo.held (d : Thread nD τ) ucRefs (Wa m d) ∗ owesLow d
        ∗ levAts (K (F := F)).L (K (F := F)).lev ∗ Gh d)
      ⊢ wp frame (wpE ((K (F := F)).defs (D (F := F))) 𝒱 (SparseCore.T d) none) Set.univ
          (Prog.lift (.customCall (SparseCore.inner (Pipeline.entry 0)) ())) Q := by
  have hinj : Function.Injective (Pipeline.cellOf (nD := nD) (τ := τ) (Pipeline.pin (pcfgs (F := F)) adm)) := cellOf_inj
  have h := Pipeline.RegionSeg.wp (α := PUnit) (pcfgs (F := F)) adm (pdats (Va m)) (none : HIx 1) hinj EP defs₀ 𝒱₀
    (K (F := F)).L (K (F := F)).lev (regM m) d none (fun _ h => nomatch h) (fun _ => .ret ⟨⟩) Q
  iintro ⟨HQ, Hb, Hh, HO, Hlev, Hcg, Htk⟩
  iapply (lift_entry' d Q)
  iapply h
  isplitl [HQ]
  · iintro ⟨Hb, Hpost⟩
    rw [wp_ret]
    imodintro
    iapply HQ
    isplitl [Hb]; · iexact Hb
    ihave Hpost := (show (regM m).post d ⊢ iprop(unscopedBufs d (fun b => Wb m d b) ∗ owesLow d) from .rfl) $$ Hpost
    icases Hpost with ⟨Hu, HO⟩
    isplitl [Hu]
    · ihave Hh := (Entails.of_eq (unscopedBufs_held d (Wb m d))) $$ Hu
      iexact Hh
    iexact HO
  isplitl [Hb]; · iexact Hb
  isplitl [Hh HO]
  · iapply (show iprop(unscopedBufs d (Va m d) ∗ owesLow d) ⊢ (regM m).pre d from .rfl)
    isplitl [Hh]
    · ihave Hu := (Entails.of_eq (unscopedBufs_held d (Wa m d)).symm) $$ Hh
      iexact Hu
    iexact HO
  isplitl [Hlev]; · iexact Hlev
  isplitl [Hcg]; · iexact Hcg
  iexact Htk

theorem Wd_5 (d : Dev nD) : Wd m d b5 = Xc m d := Function.update_of_ne (show b5 ≠ b7 by decide) _ _
theorem Wd_6 (d : Dev nD) : Wd m d b6 = OPc m d := Function.update_of_ne (show b6 ≠ b7 by decide) _ _
theorem Wd_7 (d : Dev nD) : Wd m d b7 = scOut (Xc m d) (OPc m d) := Function.update_self _ _ _

theorem scHeld_d (d : Dev nD) : (StableHlo.held (d : Thread nD τ) scRefs (Wd m d) : sProp 𝕄)
    = iprop((xLoc d ↦{fullShare} Xc m d) ∗ (pLoc d ↦{fullShare} OPc m d) ∗ (oLoc d ↦{fullShare} scOut (Xc m d) (OPc m d))) := by
  rw [scHeld_eq, Wd_5, Wd_6, Wd_7]

theorem rest_d (d : Dev nD) : (StableHlo.held (d : Thread nD τ) (ucRefs \ scRefs) (Wd m d) : sProp 𝕄)
    = StableHlo.held (d : Thread nD τ) (ucRefs \ scRefs) (Wc m d) :=
  StableHlo.held_congr _ fun b hb => Function.update_of_ne (fun e => (Finset.mem_sdiff.mp hb).2 (by rw [e]; decide)) _ _

set_option backward.isDefEq.respectTransparency.types false in
theorem hmain (κ : GSem nD τ sig → ℕ) (d : Dev nD) :
    iprop((K (F := F)).ctx EH (P (Xc m) (OPc m) (oc m)) κ ∗ (K (F := F)).tcSt EH d 0 ∗ (K (F := F)).tcRes m ρ d ∗ Gh d)
      ⊢ wp frame (wpE ((K (F := F)).defs (D (F := F))) 𝒱 (SparseCore.T d) none) Set.univ (main d)
          fun _ => iprop((K (F := F)).tcSt EH d 1 ∗ StableHlo.held (d : Thread nD τ) ucRefs (We m d) ∗ (K (F := F)).tcEnd d) := by
  unfold SparseCore.Cfg.tcRes SparseCore.Cfg.tcEnd
  simp only [main, wp_bind, wp_pure]
  iintro ⟨#Hctx, Hst, ⟨Hb, Hubs, Hts, -⟩, HG⟩
  ihave Hh := (show unscopedBufs d _ ⊢ StableHlo.held (d : Thread nD τ) ucRefs (fun b => m (d, b)) from
    Entails.of_eq (unscopedBufs_held d fun b => m (d, b))) $$ Hubs
  iapply (StableHlo.wp_hlo_within 𝒱 (d : Thread nD τ) none Set.univ (op := op0) (sub_ucRefs op0 sub0) (V := fun b => m (d, b))) $$ [Hb Hh]
  · isplitl [Hb] <;> iassumption
  iintro ⟨Hb, Hh⟩
  simp only [wp_ret]
  imodintro
  iapply (StableHlo.wp_hlo_within 𝒱 (d : Thread nD τ) none Set.univ (op := op1) (sub_ucRefs op1 sub1) (V := op0.result fun b => m (d, b))) $$ [Hb Hh]
  · isplitl [Hb] <;> iassumption
  iintro ⟨Hb, Hh⟩
  simp only [wp_ret]
  imodintro
  -- the pipelined kernel
  ihave H := (tcSt_owes d) $$ Hst
  icases H with ⟨HO, Hst⟩
  ihave Hlev := ((K (F := F)).ctx_levAts (EH := EH) (P := P (Xc m) (OPc m) (oc m)) κ) $$ Hctx
  iapply (region_step m d _)
  isplitr [Hb Hh HO HG Hlev]
  rotate_left
  · isplitl [Hb]; · iexact Hb
    isplitl [Hh]; · iexact Hh
    isplitl [HO]; · iexact HO
    isplitl [Hlev]; · iexact Hlev
    iexact HG
  iintro ⟨Hb, Hh, HO⟩
  iapply (StableHlo.wp_hlo_within 𝒱 (d : Thread nD τ) none Set.univ (op := op3) (sub_ucRefs op3 sub3) (V := Wb m d)) $$ [Hb Hh]
  · isplitl [Hb] <;> iassumption
  iintro ⟨Hb, Hh⟩
  simp only [wp_ret]
  imodintro
  iapply (StableHlo.wp_hlo_within 𝒱 (d : Thread nD τ) none Set.univ (op := op4) (sub_ucRefs op4 sub4) (V := op3.result (Wb m d))) $$ [Hb Hh]
  · isplitl [Hb] <;> iassumption
  iintro ⟨Hb, Hh⟩
  simp only [wp_ret]
  imodintro
  iapply (StableHlo.wp_hlo_within 𝒱 (d : Thread nD τ) none Set.univ (op := op5) (sub_ucRefs op5 sub5) (V := op4.result (op3.result (Wb m d)))) $$ [Hb Hh]
  · isplitl [Hb] <;> iassumption
  iintro ⟨Hb, Hh⟩
  simp only [wp_ret]
  imodintro
  iapply (StableHlo.wp_hlo_within 𝒱 (d : Thread nD τ) none Set.univ (op := op6) (sub_ucRefs op6 sub6) (V := op5.result (op4.result (op3.result (Wb m d))))) $$ [Hb Hh]
  · isplitl [Hb] <;> iassumption
  iintro ⟨Hb, Hh⟩
  simp only [wp_ret]
  imodintro
  -- the SparseCore's call
  ispecialize Hst $$ HO
  ihave Hh := (show StableHlo.held (d : Thread nD τ) ucRefs (op6.result (op5.result (op4.result (op3.result (Wb m d)))))
      ⊢ iprop(StableHlo.held (d : Thread nD τ) scRefs (Wc m d) ∗ StableHlo.held (d : Thread nD τ) (ucRefs \ scRefs) (Wc m d)) from
    Entails.of_eq (StableHlo.held_sub_split (d : Thread nD τ) scRefs_sub (Wc m d))) $$ Hh
  icases Hh with ⟨Hs, Hh⟩
  ihave Hs := (Entails.of_eq (scHeld_eq d (Wc m d))) $$ Hs
  iapply ((K (F := F)).wp_run (D (F := F)) 𝒱 (EH := EH) (P := P (Xc m) (OPc m) (oc m)) κ d 0) $$ [Hst Hs Hh Hb Hts]
  isplitr; · iexact Hctx
  isplitl [Hst]; · iexact Hst
  isplitl [Hs]
  · rw [st0_eq]; iexact Hs
  iintro ⟨Hst, Hdn⟩
  ihave Hs := (Entails.of_eq (dn0_eq (Xc m) (OPc m) (oc m) d)) $$ Hdn
  ihave Hs := (Entails.of_eq (scHeld_d m d).symm) $$ Hs
  ihave Hh := (Entails.of_eq (rest_d m d).symm) $$ Hh
  ihave Hh := (Entails.of_eq (StableHlo.held_sub_split (d : Thread nD τ) scRefs_sub (Wd m d)).symm) $$ [Hs Hh]
  · isplitl [Hs] <;> iassumption
  iapply (StableHlo.wp_hlo_within 𝒱 (d : Thread nD τ) none Set.univ (op := op8) (sub_ucRefs op8 sub8) (V := Wd m d)) $$ [Hb Hh]
  · isplitl [Hb] <;> iassumption
  iintro ⟨Hb, Hh⟩
  simp only [wp_ret]
  imodintro
  imodintro
  isplitl [Hst]; · iexact Hst
  isplitl [Hh]; · iexact Hh
  isplitl [Hb] <;> iassumption

/-! ## The run -/

/-- What is read of device `d`'s final state: every unscoped buffer of the TensorCore's at the last valuation. -/
def fq (d : Dev nD) (s' : Phys nD τ sig (Elt F)) : Prop := ∀ b ∈ ucRefs, s'.mem.mem (d, b) = We m d b

theorem hfin (d : Dev nD) (s' : Phys nD τ sig (Elt F)) :
    iprop(StableHlo.held (d : Thread nD τ) ucRefs (We m d) ∗ SI s') ⊢ (⌜fq m d s'⌝ : sProp 𝕄) := by
  unfold fq
  refine BIBase.Entails.trans ?_ (pure_forall (PROP := sProp 𝕄)).2
  refine forall_intro fun b => ?_
  by_cases hb : b ∈ ucRefs
  · have hs : ({b} : Finset (DevRef τ sig)) ⊆ ucRefs := Finset.singleton_subset_iff.mpr hb
    rw [StableHlo.held_sub_split (d : Thread nD τ) hs (We m d)]
    unfold StableHlo.held
    rw [bigSep_singleton]
    iintro ⟨⟨Hx, -⟩, HSI⟩
    ihave H := (SI_pointsTo_agree (st := s') (ℓ := ((d, b) : Loc nD τ sig)) (I := Finset.univ) (q := fullShare) (f := We m d b)) $$ [HSI Hx]
    · isplitl [HSI] <;> iassumption
    icases H with %h
    ipureintro; intro _; exact funext fun i => h i (Finset.mem_univ i)
  · exact BIClass.pure_intro fun h => absurd h hb

/-- The final memory at the last valuation, every counter zero. -/
def QC : PUnit × MemSt nD τ sig (Elt F) → Prop := fun r => (∀ d : Dev nD, ∀ b ∈ ucRefs, r.2.mem (d, b) = We m d b) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Xc m) (OPc m) (oc m)) (A := ∅) facts v₀
    (fun q hq => match q with | 0 => nomatch hq)
    (fun q _ => match q with | 0 => tileObl (Xc m) (OPc m) (oc m))
    (fun q _ => match q with | 0 => SparseCore.Cfg.VecSplit.of_plain (vecSplit (Xc m) (OPc m) (oc m)))
    m ρ main Gh (fun d => StableHlo.held (d : Thread nD τ) ucRefs (We m d)) (u₀ (F := F)) (sep_elim_left.trans (hu₀ (Xc m) (OPc m) (oc m)))
    (hmain m ρ) (fq m) (hfin m) (QC m) (fun _ h hz => ⟨h, hz⟩)

end Cert.Proof.Sc

end
-- ==== Proof.Frames.lean ====
/-
  The frames: the kernel's, at the machine's floats and at the ideal ones, from its run; the reference's.
-/
module

public import proofs.«01_k».proof.Defs
public import proofs.«01_k».proof.Proof.Main
public import proofs.«01_k».proof.Proof.Gen.Kernel
public import proofs.«01_k».proof.Proof.Gen.ReferenceIdeal
public import proofs.«01_k».proof.Proof.Gen.ReferenceIdeal.Run

@[expose] public section

noncomputable section

namespace Cert.Proof.Sc

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer that no operation of @main writes ends at its launch contents. -/
theorem We_kept (d : Dev nD) (r : Ref sig .tc) (h0 : r ≠ main_v0) (h1 : r ≠ main_v1) (h2 : r ≠ main_v2) (h3 : r ≠ main_v3) (h4 : r ≠ main_v4)
    (h5 : r ≠ main_v5) (h6 : r ≠ main_v6) (h7 : r ≠ main_v7) (h8 : r ≠ main_v8) : We m d (Proc.devRef .tc r) = m (d, Proc.devRef .tc r) := by
  unfold We Wd Wc Wb Wa
  rw [StableHlo.binary_result_ne _ _ _ _ _ _ _ _ h8, Function.update_of_ne (fun e => h7 (Proc.devRef_injective _ e)),
    StableHlo.reshape_result_ne _ _ _ _ _ _ _ h6, StableHlo.unary_result_ne _ _ _ _ _ _ h5, StableHlo.unary_result_ne _ _ _ _ _ _ h4,
    StableHlo.unary_result_ne _ _ _ _ _ _ h3, Function.update_of_ne (fun e => h2 (Proc.devRef_injective _ e)),
    StableHlo.unary_result_ne _ _ _ _ _ _ h1, StableHlo.reshape_result_ne _ _ _ _ _ _ _ h0]

theorem mem_ucRefs (r : Ref sig .tc) (h : ¬ r.isScoped) : Proc.devRef (τ := τ) .tc r ∈ ucRefs :=
  Finset.mem_filter.mpr ⟨StableHlo.devRef_mem_tcRefs r, h⟩

/-- The final memory of the kernel's run at its arguments. -/
theorem args_kept {r : PUnit × MemSt nD τ sig (Elt F)} (h : QC m r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨(h.1 c _ (mem_ucRefs main_arg0 (by decide))).trans (We_kept m c main_arg0 (by decide) (by decide) (by decide) (by decide) (by decide) (by decide) (by decide) (by decide) (by decide)),
   (h.1 c _ (mem_ucRefs main_arg1 (by decide))).trans (We_kept m c main_arg1 (by decide) (by decide) (by decide) (by decide) (by decide) (by decide) (by decide) (by decide) (by decide)),
   (h.1 c _ (mem_ucRefs main_arg2 (by decide))).trans (We_kept m c main_arg2 (by decide) (by decide) (by decide) (by decide) (by decide) (by decide) (by decide) (by decide) (by decide)),
   (h.1 c _ (mem_ucRefs main_arg3 (by decide))).trans (We_kept m c main_arg3 (by decide) (by decide) (by decide) (by decide) (by decide) (by decide) (by decide) (by decide) (by decide))⟩

/-- The kernel's run, with what it computes dropped. -/
theorem run_kept :
    θ_run (defs (F := F)) (threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => args_kept m h c, h.2⟩) (run_main m ρ)

/-! The kernel and its idealized copy are one text: their body tables are equal. -/

theorem bodies_eq : Cert.Kernel.defs₀ (F := Bits) = Cert.KernelIdeal.defs₀ (F := Bits) := by
  funext p ℓ a
  obtain _ | _ | _ := p
  · obtain ⟨_ | _ | n, h⟩ := ℓ
    · rfl
    · rfl
    · exact absurd h (by omega)
  · rfl
  · obtain ⟨_ | _ | n, h⟩ := ℓ
    · rfl
    · rfl
    · exact absurd h (by omega)

theorem defs_eq : Cert.Kernel.defs (F := Bits) = Cert.KernelIdeal.defs (F := Bits) :=
  congrArg (fun d => (Cert.KernelIdeal.sc (F := Bits)).defs (Pipeline.defs (Cert.KernelIdeal.pcfgs (F := Bits)) d)) bodies_eq

/-- The same run of any body table equal to the idealized kernel's. -/
theorem run_kept_of {d : Defs nD τ sig (Elt F) (SparseCore.Sig (Pipeline.Sig Λ₀ (Fin 1) fun p => (pcfgs (F := F) p).Adm) 1)}
    (h : d = defs) :
    θ_run d (threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  subst h
  exact run_kept m ρ

theorem frame_Ideal [Cert.Pre_counts_uniform.Facts] : Cert.quiescent_KernelIdeal := fun m ρ _ => run_kept (F := Ideal) m ρ
theorem frame_Ideal_none : Cert.quiescent_KernelIdeal_pre_none := fun m ρ _ => run_kept (F := Ideal) m ρ
theorem frame_Kernel [Cert.Pre_counts_uniform.Facts] : Cert.quiescent_Kernel := fun m ρ _ => run_kept_of (F := Bits) m ρ defs_eq
theorem frame_Kernel_none : Cert.quiescent_Kernel_pre_none := fun m ρ _ => run_kept_of (F := Bits) m ρ defs_eq

theorem frame_Ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem preFacts : Cert.Pre_counts_uniform.Facts := ⟨by decide +kernel, by decide +kernel, by decide +kernel⟩

end Cert.Proof.Sc

end
-- ==== Proof.Lanes.lean ====
/-
  The counter hash of one word, and of many words at once: the words lie side by side, 64 bits apart, in one natural number, and one operation of
  natural numbers does the same operation in every lane.
-/
module

public import Mathlib.Data.Nat.Bitwise
public import Mathlib.Tactic.Ring
public import Mathlib.Tactic.NormNum
public import Mathlib.Tactic.Positivity

@[expose] public section

namespace Cert.Proof.Sc

/-! ## One word -/

/-- One round, its two words handed on. -/
def mixB {α : Type} (d e : ℕ) (k : BitVec 32 → BitVec 32 → α) (a b : BitVec 32) : α :=
  k (a + b) ((b <<< d ||| b >>> e) ^^^ (a + b))

/-- A key's injection. -/
def injB {α : Type} (c d : BitVec 32) (k : BitVec 32 → BitVec 32 → α) (a b : BitVec 32) : α := k (a + c) (b + d)

/-- The odd and the even groups' four rounds. -/
def oddB {α : Type} (k : BitVec 32 → BitVec 32 → α) : BitVec 32 → BitVec 32 → α :=
  mixB 13 19 <| mixB 15 17 <| mixB 26 6 <| mixB 6 26 k
def evenB {α : Type} (k : BitVec 32 → BitVec 32 → α) : BitVec 32 → BitVec 32 → α :=
  mixB 17 15 <| mixB 29 3 <| mixB 16 16 <| mixB 24 8 k

/-- The twenty rounds. -/
def roundsB {α : Type} (k : BitVec 32 → BitVec 32 → α) : BitVec 32 → BitVec 32 → α :=
  oddB <| injB 2518116175#32 3332384946#32 <| evenB <| injB 3332384945#32 1264997414#32 <| oddB <| injB 1264997412#32 2518116178#32 <|
    evenB <| injB 2518116175#32 3332384949#32 <| oddB <| injB 3332384945#32 1264997417#32 k

/-- The 23 bits drawn at the counter `n`. -/
def drawB (n : BitVec 32) : BitVec 32 :=
  roundsB (fun a b => (a ^^^ b) >>> 9) 1264997412#32 (n + 2518116175#32)

/-! ## Many words -/

/-- `n` lanes, 64 bits apart. -/
def packF : ℕ → (ℕ → ℕ) → ℕ
  | 0, _ => 0
  | n + 1, f => 2 ^ 64 * packF n (fun i => f (i + 1)) + f 0

theorem packF_congr {n : ℕ} {f g : ℕ → ℕ} (h : ∀ i < n, f i = g i) : packF n f = packF n g := by
  induction n generalizing f g with
  | zero => rfl
  | succ n ih => rw [packF, packF, ih fun i hi => h (i + 1) (by omega), h 0 (by omega)]

theorem packF_add (n : ℕ) (f g : ℕ → ℕ) : packF n (fun i => f i + g i) = packF n f + packF n g := by
  induction n generalizing f g with
  | zero => rfl
  | succ n ih => rw [packF, packF, packF, ih]; ring

theorem packF_mul (n c : ℕ) (f : ℕ → ℕ) : packF n (fun i => f i * c) = packF n f * c := by
  induction n generalizing f with
  | zero => simp [packF]
  | succ n ih => rw [packF, packF, ih]; ring

theorem packF_append (m n : ℕ) (f : ℕ → ℕ) : packF (m + n) f = packF m f + 2 ^ (64 * m) * packF n (fun i => f (m + i)) := by
  induction m generalizing f with
  | zero => simp [packF]
  | succ m ih =>
    rw [show m + 1 + n = (m + n) + 1 by omega, packF, packF, ih, show 64 * (m + 1) = 64 * m + 64 by ring, pow_add,
      packF_congr (n := n) (f := fun i => f (m + i + 1)) (g := fun i => f (m + 1 + i)) fun i _ => by congr 1; omega]
    ring

theorem packF_testBit (n : ℕ) (f : ℕ → ℕ) (hf : ∀ i, f i < 2 ^ 64) (j : ℕ) :
    (packF n f).testBit j = (decide (j < 64 * n) && (f (j / 64)).testBit (j % 64)) := by
  induction n generalizing f j with
  | zero => simp [packF]
  | succ n ih =>
    rw [packF, Nat.testBit_two_pow_mul_add _ (hf 0)]
    split
    · rename_i h
      rw [Nat.div_eq_of_lt h, Nat.mod_eq_of_lt h, decide_eq_true (show j < 64 * (n + 1) by omega), Bool.true_and]
    · rename_i h
      rw [ih _ (fun i => hf (i + 1)), show (j - 64) / 64 + 1 = j / 64 by omega, show (j - 64) % 64 = j % 64 by omega]
      congr 1
      exact decide_eq_decide.mpr (by omega)

theorem packF_xor (n : ℕ) {f g : ℕ → ℕ} (hf : ∀ i, f i < 2 ^ 64) (hg : ∀ i, g i < 2 ^ 64) :
    packF n (fun i => f i ^^^ g i) = packF n f ^^^ packF n g := by
  refine Nat.eq_of_testBit_eq fun j => ?_
  rw [packF_testBit _ _ (fun i => Nat.xor_lt_two_pow (hf i) (hg i)), Nat.testBit_xor, Nat.testBit_xor, packF_testBit _ _ hf, packF_testBit _ _ hg]
  cases decide (j < 64 * n) <;> simp

theorem packF_or (n : ℕ) {f g : ℕ → ℕ} (hf : ∀ i, f i < 2 ^ 64) (hg : ∀ i, g i < 2 ^ 64) :
    packF n (fun i => f i ||| g i) = packF n f ||| packF n g := by
  refine Nat.eq_of_testBit_eq fun j => ?_
  rw [packF_testBit _ _ (fun i => Nat.or_lt_two_pow (hf i) (hg i)), Nat.testBit_or, Nat.testBit_or, packF_testBit _ _ hf, packF_testBit _ _ hg]
  cases decide (j < 64 * n) <;> simp

theorem packF_and (n : ℕ) {f g : ℕ → ℕ} (hf : ∀ i, f i < 2 ^ 64) (hg : ∀ i, g i < 2 ^ 64) :
    packF n (fun i => f i &&& g i) = packF n f &&& packF n g := by
  refine Nat.eq_of_testBit_eq fun j => ?_
  rw [packF_testBit _ _ (fun i => Nat.and_lt_two_pow _ (hg i)), Nat.testBit_and, Nat.testBit_and, packF_testBit _ _ hf, packF_testBit _ _ hg]
  cases decide (j < 64 * n) <;> simp

/-- A shift to the right, its low `k` bits kept, where the lane's bits above `k` are not wanted. -/
theorem packF_shift (n k s : ℕ) (hk : k + s ≤ 64) {f : ℕ → ℕ} (hf : ∀ i, f i < 2 ^ 64) :
    packF n (fun i => (f i >>> s) % 2 ^ k) = (packF n f >>> s) &&& packF n (fun _ => 2 ^ k - 1) := by
  have hM : (2 : ℕ) ^ k - 1 < 2 ^ 64 := lt_of_lt_of_le (Nat.sub_lt (by positivity) one_pos) (Nat.pow_le_pow_right (by omega) (by omega))
  refine Nat.eq_of_testBit_eq fun j => ?_
  rw [packF_testBit _ _ (fun i => lt_of_lt_of_le (Nat.mod_lt _ (by positivity)) (Nat.pow_le_pow_right (by omega) (by omega))),
    Nat.testBit_and, Nat.testBit_shiftRight, packF_testBit _ _ hf, packF_testBit _ _ (fun _ => hM), Nat.testBit_mod_two_pow,
    Nat.testBit_shiftRight, Nat.testBit_two_pow_sub_one]
  by_cases h : j % 64 < k
  · rw [show (s + j) / 64 = j / 64 by omega, show (s + j) % 64 = s + j % 64 by omega,
      decide_eq_decide.mpr (show s + j < 64 * n ↔ j < 64 * n by omega)]
    cases decide (j < 64 * n) <;> simp [h]
  · simp [h]

/-! ## The lanes' operations -/

/-- `2 ^ k` lanes of one, by doubling. -/
def ones : ℕ → ℕ
  | 0 => 1
  | k + 1 => Nat.add (ones k) (Nat.shiftLeft (ones k) (64 * 2 ^ k))

/-- `2 ^ k` lanes, each its own number. -/
def iotas : ℕ → ℕ
  | 0 => 0
  | k + 1 => Nat.add (iotas k) (Nat.shiftLeft (Nat.add (iotas k) (Nat.mul (2 ^ k) (ones k))) (64 * 2 ^ k))

theorem ones_eq (k : ℕ) : ones k = packF (2 ^ k) fun _ => 1 := by
  induction k with
  | zero => rfl
  | succ k ih =>
    rw [show 2 ^ (k + 1) = 2 ^ k + 2 ^ k by rw [pow_succ]; ring, packF_append, ← ih]
    show ones k + ones k <<< (64 * 2 ^ k) = _
    rw [Nat.shiftLeft_eq, Nat.mul_comm]

theorem iotas_eq (k : ℕ) : iotas k = packF (2 ^ k) fun i => i := by
  induction k with
  | zero => rfl
  | succ k ih =>
    rw [show 2 ^ (k + 1) = 2 ^ k + 2 ^ k by rw [pow_succ]; ring, packF_append, ← ih]
    show iotas k + (iotas k + 2 ^ k * ones k) <<< (64 * 2 ^ k) = _
    rw [Nat.shiftLeft_eq, packF_add, ← ih, show packF (2 ^ k) (fun _ => 2 ^ k) = 2 ^ k * ones k by
      rw [ones_eq, Nat.mul_comm, ← packF_mul]; simp]
    ring

/-- `P` holds the words `f`. -/
def Holds (k P : ℕ) (f : ℕ → BitVec 32) : Prop := P = packF (2 ^ k) fun i => (f i).toNat

theorem toNat_lt64 (v : BitVec 32) : v.toNat < 2 ^ 64 := lt_of_lt_of_le v.isLt (by norm_num)

/-- The sum, lane by lane. -/
def addN (M a b : ℕ) : ℕ := Nat.land (Nat.add a b) M
def xorN (a b : ℕ) : ℕ := Nat.xor a b
/-- The rotation to the left by `d`. -/
def rotN (M d b : ℕ) : ℕ := Nat.land (Nat.lor (Nat.shiftLeft b d) (Nat.shiftRight (Nat.shiftLeft b d) 32)) M

/-- The lanes' low 32 bits. -/
def maskN (k : ℕ) : ℕ := Nat.mul (ones k) (2 ^ 32 - 1)

theorem maskN_eq (k : ℕ) : maskN k = packF (2 ^ k) fun _ => 2 ^ 32 - 1 := by
  show ones k * _ = _
  rw [ones_eq, ← packF_mul]; simp

theorem land_mask (k : ℕ) {f : ℕ → ℕ} (hf : ∀ i, f i < 2 ^ 64) :
    Nat.land (packF (2 ^ k) f) (maskN k) = packF (2 ^ k) fun i => f i % 2 ^ 32 := by
  have h := packF_shift (2 ^ k) 32 0 (by omega) hf
  simp only [Nat.shiftRight_zero] at h
  rw [maskN_eq]; exact h.symm

theorem Holds.add {k a b : ℕ} {f g : ℕ → BitVec 32} (ha : Holds k a f) (hb : Holds k b g) : Holds k (addN (maskN k) a b) fun i => f i + g i := by
  unfold Holds addN at *
  rw [show Nat.add a b = a + b from rfl, ha, hb, ← packF_add, land_mask k fun i => by have := (f i).isLt; have := (g i).isLt; omega]
  rfl

theorem Holds.xor {k a b : ℕ} {f g : ℕ → BitVec 32} (ha : Holds k a f) (hb : Holds k b g) : Holds k (xorN a b) fun i => f i ^^^ g i := by
  unfold Holds xorN at *
  rw [show Nat.xor a b = a ^^^ b from rfl, ha, hb, ← packF_xor _ (fun i => toNat_lt64 (f i)) (fun i => toNat_lt64 (g i))]
  rfl

theorem Holds.rot {k b d e : ℕ} {g : ℕ → BitVec 32} (hb : Holds k b g) (hde : d + e = 32) :
    Holds k (rotN (maskN k) d b) fun i => g i <<< d ||| g i >>> e := by
  unfold Holds rotN at *
  have hw : Nat.shiftLeft b d = packF (2 ^ k) fun i => (g i).toNat * 2 ^ d := by
    show b <<< d = _
    rw [packF_mul, ← hb, Nat.shiftLeft_eq]
  have hlt : ∀ i, (g i).toNat * 2 ^ d < 2 ^ 64 := fun i =>
    lt_of_lt_of_le (Nat.mul_lt_mul_of_pos_right (g i).isLt (by positivity)) (by rw [← pow_add]; exact Nat.pow_le_pow_right (by omega) (by omega))
  rw [hw]
  show (_ ||| _ >>> 32) &&& _ = _
  rw [Nat.and_or_distrib_right, maskN_eq]
  have h1 := packF_shift (2 ^ k) 32 0 (by omega) hlt
  have h2 := packF_shift (2 ^ k) 32 32 (by omega) hlt
  simp only [Nat.shiftRight_zero] at h1
  rw [← h1, ← h2, ← packF_or _ (fun i => lt_of_lt_of_le (Nat.mod_lt _ (by positivity)) (by norm_num))
    (fun i => lt_of_lt_of_le (Nat.mod_lt _ (by positivity)) (by norm_num))]
  refine packF_congr fun i _ => ?_
  rw [BitVec.toNat_or, BitVec.toNat_shiftLeft, BitVec.toNat_ushiftRight, Nat.shiftLeft_eq]
  congr 1
  rw [Nat.shiftRight_eq_div_pow, Nat.shiftRight_eq_div_pow, show (2 : ℕ) ^ 32 = 2 ^ e * 2 ^ d by rw [← pow_add]; congr 1; omega,
    Nat.mul_div_mul_right _ _ (by positivity)]
  refine Nat.mod_eq_of_lt (lt_of_le_of_lt (Nat.div_le_self _ _) ?_)
  rw [← pow_add, show e + d = 32 by omega]
  exact (g i).isLt

/-- A constant in every lane. -/
theorem Holds.const (k : ℕ) (c : BitVec 32) : Holds k (Nat.mul (ones k) c.toNat) fun _ => c := by
  show ones k * _ = _
  rw [ones_eq, ← packF_mul]; simp

/-- Every lane less the other's. -/
theorem packF_sub (n : ℕ) {f g : ℕ → ℕ} (h : ∀ i, g i ≤ f i) : packF n f - packF n g = packF n fun i => f i - g i := by
  have := packF_add n (fun i => f i - g i) g
  rw [packF_congr (g := f) fun i _ => Nat.sub_add_cancel (h i)] at this
  omega

/-! ## The hash of all lanes -/

def mixN (k d : ℕ) (c : ℕ → ℕ → ℕ) (a b : ℕ) : ℕ := c (addN (maskN k) a b) (xorN (rotN (maskN k) d b) (addN (maskN k) a b))
def injN (k x y : ℕ) (c : ℕ → ℕ → ℕ) (a b : ℕ) : ℕ := c (addN (maskN k) a (Nat.mul (ones k) x)) (addN (maskN k) b (Nat.mul (ones k) y))
def oddN (k : ℕ) (c : ℕ → ℕ → ℕ) : ℕ → ℕ → ℕ := mixN k 13 <| mixN k 15 <| mixN k 26 <| mixN k 6 c
def evenN (k : ℕ) (c : ℕ → ℕ → ℕ) : ℕ → ℕ → ℕ := mixN k 17 <| mixN k 29 <| mixN k 16 <| mixN k 24 c
def roundsN (k : ℕ) (c : ℕ → ℕ → ℕ) : ℕ → ℕ → ℕ :=
  oddN k <| injN k 2518116175 3332384946 <| evenN k <| injN k 3332384945 1264997414 <| oddN k <| injN k 1264997412 2518116178 <|
    evenN k <| injN k 2518116175 3332384949 <| oddN k <| injN k 3332384945 1264997417 c
def lastN (k a b : ℕ) : ℕ := Nat.land (Nat.shiftRight (xorN a b) 9) (Nat.mul (ones k) (2 ^ 23 - 1))
def drawN (k n : ℕ) : ℕ :=
  roundsN k (lastN k) (Nat.mul (ones k) 1264997412) (addN (maskN k) n (Nat.mul (ones k) 2518116175))

/-- One continuation does in the lanes what the other does to a word. -/
def Does (k : ℕ) (c : ℕ → ℕ → ℕ) (e : BitVec 32 → BitVec 32 → BitVec 32) : Prop :=
  ∀ a b f g, Holds k a f → Holds k b g → Holds k (c a b) fun i => e (f i) (g i)

theorem Does.mix {k d e : ℕ} {c : ℕ → ℕ → ℕ} {r : BitVec 32 → BitVec 32 → BitVec 32} (h : Does k c r) (hde : d + e = 32) :
    Does k (mixN k d c) (mixB d e r) :=
  fun _ _ _ _ ha hb => h _ _ _ _ (ha.add hb) ((hb.rot hde).xor (ha.add hb))

theorem Does.inj {k : ℕ} {x y : BitVec 32} {c : ℕ → ℕ → ℕ} {r : BitVec 32 → BitVec 32 → BitVec 32} (h : Does k c r) :
    Does k (injN k x.toNat y.toNat c) (injB x y r) :=
  fun _ _ _ _ ha hb => h _ _ _ _ (ha.add (Holds.const k x)) (hb.add (Holds.const k y))

theorem Does.odd {k : ℕ} {c : ℕ → ℕ → ℕ} {r : BitVec 32 → BitVec 32 → BitVec 32} (h : Does k c r) : Does k (oddN k c) (oddB r) :=
  (((h.mix rfl).mix rfl).mix rfl).mix rfl
theorem Does.even {k : ℕ} {c : ℕ → ℕ → ℕ} {r : BitVec 32 → BitVec 32 → BitVec 32} (h : Does k c r) : Does k (evenN k c) (evenB r) :=
  (((h.mix rfl).mix rfl).mix rfl).mix rfl

theorem Does.rounds {k : ℕ} {c : ℕ → ℕ → ℕ} {r : BitVec 32 → BitVec 32 → BitVec 32} (h : Does k c r) : Does k (roundsN k c) (roundsB r) :=
  ((((((((h.inj (x := 3332384945#32) (y := 1264997417#32)).odd.inj (x := 2518116175#32) (y := 3332384949#32)).even).inj
    (x := 1264997412#32) (y := 2518116178#32)).odd).inj (x := 3332384945#32) (y := 1264997414#32)).even).inj
    (x := 2518116175#32) (y := 3332384946#32)).odd

theorem Does.last (k : ℕ) : Does k (lastN k) fun a b => (a ^^^ b) >>> 9 := by
  intro a b f g ha hb
  have h := ha.xor hb
  unfold Holds at h
  unfold Holds lastN
  rw [h, show Nat.mul (ones k) (2 ^ 23 - 1) = packF (2 ^ k) fun _ => 2 ^ 23 - 1 by
    show ones k * _ = _
    rw [ones_eq, ← packF_mul]; simp]
  refine (packF_shift (2 ^ k) 23 9 (by omega) fun i => toNat_lt64 (f i ^^^ g i)).symm.trans (packF_congr fun i _ => ?_)
  rw [BitVec.toNat_ushiftRight]
  refine Nat.mod_eq_of_lt ?_
  rw [Nat.shiftRight_eq_div_pow]
  have := (f i ^^^ g i).isLt
  omega

theorem Holds.draw {k n : ℕ} {f : ℕ → BitVec 32} (h : Holds k n f) : Holds k (drawN k n) fun i => drawB (f i) :=
  (Does.last k).rounds _ _ _ _ (Holds.const k 1264997412#32) (h.add (Holds.const k 2518116175#32))

/-- Where a lane of `u` is greater than the one of `v`. -/
def gtN (k u v : ℕ) : ℕ := Nat.land (Nat.shiftRight (Nat.sub (Nat.add u (Nat.mul (ones k) (2 ^ 32))) (Nat.add v (ones k))) 32) (ones k)

theorem gtN_eq {k u v : ℕ} {f g : ℕ → BitVec 32} (hu : Holds k u f) (hv : Holds k v g) :
    gtN k u v = packF (2 ^ k) fun i => (decide (g i < f i)).toNat := by
  unfold Holds at hu hv
  unfold gtN
  have h1 : Nat.add u (Nat.mul (ones k) (2 ^ 32)) = packF (2 ^ k) fun i => (f i).toNat + 1 * 2 ^ 32 := by
    show u + ones k * _ = _
    rw [packF_add, packF_mul (f := fun _ => 1), ← ones_eq, hu]
  have h2 : Nat.add v (ones k) = packF (2 ^ k) fun i => (g i).toNat + 1 := by
    show v + ones k = _
    rw [packF_add, ← ones_eq, hv]
  rw [h1, h2]
  show ((_ - _) >>> 32) &&& _ = _
  rw [packF_sub _ fun i => by have := (g i).isLt; omega]
  have h := packF_shift (2 ^ k) 1 32 (by omega) (f := fun i => (f i).toNat + 1 * 2 ^ 32 - ((g i).toNat + 1)) fun i => by have := (f i).isLt; omega
  rw [show (2 : ℕ) ^ 1 - 1 = 1 from rfl, ← ones_eq] at h
  rw [← h]
  refine packF_congr fun i _ => ?_
  rw [Nat.shiftRight_eq_div_pow, show decide (g i < f i) = decide ((g i).toNat < (f i).toNat) from decide_eq_decide.mpr BitVec.lt_def]
  have := (f i).isLt
  have := (g i).isLt
  by_cases hlt : (g i).toNat < (f i).toNat
  · simp only [hlt, decide_true, Bool.toNat_true]; omega
  · simp only [hlt, decide_false, Bool.toNat_false]; omega

/-! ## Which elements are active -/

/-- Whether the element whose three counters start at `n` takes a category other than 0. -/
def actB (n : BitVec 32) : Bool := decide (drawB n < drawB (n + 1#32)) || decide (drawB n < drawB (n + 2#32))

def ctrN (k c m : ℕ) : ℕ := Nat.add (Nat.mul (iotas k) 384) (Nat.mul (ones k) (c * 2 ^ k * 384 + m))
def ctr (k c m i : ℕ) : BitVec 32 := BitVec.ofNat 32 ((c * 2 ^ k + i) * 384 + m)

theorem ctrN_holds {k c m : ℕ} (h : (c + 1) * 2 ^ k * 384 + m ≤ 2 ^ 32) : Holds k (ctrN k c m) (ctr k c m) := by
  unfold Holds ctrN
  show iotas k * 384 + ones k * _ = _
  rw [iotas_eq, ones_eq, ← packF_mul, ← packF_mul, ← packF_add]
  refine packF_congr fun i hi => ?_
  rw [ctr, BitVec.toNat_ofNat, Nat.mod_eq_of_lt, Nat.add_mul, Nat.one_mul]
  · omega
  · have : (c + 1) * 2 ^ k = c * 2 ^ k + 2 ^ k := by ring
    omega

theorem ctr_add (k c m i j : ℕ) : ctr k c (m + j) i = ctr k c m i + BitVec.ofNat 32 j := by
  rw [ctr, ctr, ← BitVec.ofNat_add, Nat.add_assoc]

def act3N (k u v w : ℕ) : ℕ := Nat.lor (gtN k v u) (gtN k w u)
def actN (k c f : ℕ) : ℕ := act3N k (drawN k (ctrN k c (3 * f))) (drawN k (ctrN k c (3 * f + 1))) (drawN k (ctrN k c (3 * f + 2)))

theorem bit_lt (p : ℕ → Bool) (i : ℕ) : (p i).toNat < 2 ^ 64 := lt_of_le_of_lt (Bool.toNat_le _) (by norm_num)

theorem actN_eq {k c f : ℕ} (h : (c + 1) * 2 ^ k * 384 + (3 * f + 2) ≤ 2 ^ 32) :
    actN k c f = packF (2 ^ k) fun i => (actB (ctr k c (3 * f) i)).toNat := by
  unfold actN act3N
  rw [gtN_eq (ctrN_holds (by omega)).draw (ctrN_holds (by omega)).draw, gtN_eq (ctrN_holds h).draw (ctrN_holds (by omega)).draw]
  show (_ : ℕ) ||| (_ : ℕ) = _
  rw [← packF_or _ (fun i => bit_lt (fun i => decide (_ < _)) i) (fun i => bit_lt (fun i => decide (_ < _)) i)]
  refine packF_congr fun i _ => ?_
  rw [actB, ctr_add k c (3 * f) i 1, ctr_add k c (3 * f) i 2]
  cases decide (drawB (ctr k c (3 * f) i) < drawB (ctr k c (3 * f) i + BitVec.ofNat 32 1)) <;>
    cases decide (drawB (ctr k c (3 * f) i) < drawB (ctr k c (3 * f) i + BitVec.ofNat 32 2)) <;> rfl

/-- The lanes with an active feature below `n`, and those with no inactive one. -/
def anyN (k c : ℕ) : ℕ → ℕ
  | 0 => 0
  | n + 1 => Nat.lor (anyN k c n) (actN k c n)
def allN (k c : ℕ) : ℕ → ℕ
  | 0 => ones k
  | n + 1 => Nat.land (allN k c n) (actN k c n)

def anyB (k c i : ℕ) : ℕ → Bool
  | 0 => false
  | n + 1 => anyB k c i n || actB (ctr k c (3 * n) i)
def allB (k c i : ℕ) : ℕ → Bool
  | 0 => true
  | n + 1 => allB k c i n && actB (ctr k c (3 * n) i)

theorem anyN_eq {k c n : ℕ} (h : (c + 1) * 2 ^ k * 384 + 3 * n ≤ 2 ^ 32) : anyN k c n = packF (2 ^ k) fun i => (anyB k c i n).toNat := by
  induction n with
  | zero => exact ((packF_mul _ 0 fun _ => 0).trans (Nat.mul_zero _)).symm
  | succ n ih =>
    rw [anyN, ih (by omega), actN_eq (by omega)]
    show (_ : ℕ) ||| (_ : ℕ) = _
    rw [← packF_or _ (fun i => bit_lt (fun i => anyB k c i n) i) (fun i => bit_lt (fun i => actB (ctr k c (3 * n) i)) i)]
    refine packF_congr fun i _ => ?_
    rw [anyB]
    cases anyB k c i n <;> cases actB (ctr k c (3 * n) i) <;> rfl

theorem allN_eq {k c n : ℕ} (h : (c + 1) * 2 ^ k * 384 + 3 * n ≤ 2 ^ 32) : allN k c n = packF (2 ^ k) fun i => (allB k c i n).toNat := by
  induction n with
  | zero => exact ones_eq k
  | succ n ih =>
    rw [allN, ih (by omega), actN_eq (by omega)]
    show (_ : ℕ) &&& (_ : ℕ) = _
    rw [← packF_and _ (fun i => bit_lt (fun i => allB k c i n) i) (fun i => bit_lt (fun i => actB (ctr k c (3 * n) i)) i)]
    refine packF_congr fun i _ => ?_
    rw [allB]
    cases allB k c i n <;> cases actB (ctr k c (3 * n) i) <;> rfl

theorem packF_inj {n : ℕ} {p q : ℕ → Bool} (h : (packF n fun i => (p i).toNat) = packF n fun i => (q i).toNat) {i : ℕ} (hi : i < n) : p i = q i := by
  have := congrArg (fun x => x.testBit (64 * i)) h
  simp only [packF_testBit _ _ (bit_lt p), packF_testBit _ _ (bit_lt q), decide_eq_true (show 64 * i < 64 * n by omega), Bool.true_and,
    Nat.mul_div_cancel_left i (show 0 < 64 by omega), Nat.mul_mod_right] at this
  cases hp : p i <;> cases hq : q i <;> simp_all

theorem anyB_of {k c n : ℕ} (h : (c + 1) * 2 ^ k * 384 + 3 * n ≤ 2 ^ 32) (ha : anyN k c n = ones k) {i : ℕ} (hi : i < 2 ^ k) : anyB k c i n = true :=
  packF_inj (p := fun i => anyB k c i n) (q := fun _ => true) ((anyN_eq h).symm.trans (ha.trans (ones_eq k))) hi

theorem allB_of {k c n : ℕ} (h : (c + 1) * 2 ^ k * 384 + 3 * n ≤ 2 ^ 32) (ha : allN k c n = 0) {i : ℕ} (hi : i < 2 ^ k) : allB k c i n = false :=
  packF_inj (p := fun i => allB k c i n) (q := fun _ => false)
    ((allN_eq h).symm.trans (ha.trans ((packF_mul _ 0 fun _ => 0).trans (Nat.mul_zero _)).symm)) hi

theorem anyB_exists {k c i n : ℕ} (h : anyB k c i n = true) : ∃ f < n, actB (ctr k c (3 * f) i) = true := by
  induction n with
  | zero => exact absurd h (by simp [anyB])
  | succ n ih =>
    rcases Bool.or_eq_true_iff.mp h with h | h
    · exact (ih h).imp fun f hf => ⟨by omega, hf.2⟩
    · exact ⟨n, by omega, h⟩

theorem allB_exists {k c i n : ℕ} (h : allB k c i n = false) : ∃ f < n, actB (ctr k c (3 * f) i) = false := by
  induction n with
  | zero => exact absurd h (by simp [allB])
  | succ n ih =>
    rcases Bool.and_eq_false_iff.mp h with h | h
    · exact (ih h).imp fun f hf => ⟨by omega, hf.2⟩
    · exact ⟨n, by omega, h⟩

end Cert.Proof.Sc

end
-- ==== Proof.Hash.lean ====
/-
  The counter hash, as an operation on whole vectors of any shape: the words both kernels compute are this hash of their counters.
-/
module

public import proofs.«01_k».proof.Proof.Region
public import proofs.«01_k».proof.Proof.Trip
public import proofs.«01_k».proof.Proof.Lanes

@[expose] public section

noncomputable section

namespace Cert.Proof.Sc

open Idealize Idealize.ShloMosaic
open Cert.KernelIdeal Cert.KernelIdeal.Gen

/-- One round, its two words handed on. -/
def mixV {s : Shape} (d e : BitVec 32) (k : IVec s 32 → IVec s 32 → IVec s 32) (a b : IVec s 32) : IVec s 32 :=
  k (addi a b) (xori (ori (shli b (broadcast s d)) (shrui b (broadcast s e))) (addi a b))

/-- A key's injection. -/
def injV {s : Shape} (c d : BitVec 32) (k : IVec s 32 → IVec s 32 → IVec s 32) (a b : IVec s 32) : IVec s 32 :=
  k (addi a (broadcast s c)) (addi b (broadcast s d))

/-- The odd groups' four rounds. -/
def oddV {s : Shape} (k : IVec s 32 → IVec s 32 → IVec s 32) : IVec s 32 → IVec s 32 → IVec s 32 :=
  mixV 13#32 19#32 <| mixV 15#32 17#32 <| mixV 26#32 6#32 <| mixV 6#32 26#32 k

/-- The even groups' four rounds. -/
def evenV {s : Shape} (k : IVec s 32 → IVec s 32 → IVec s 32) : IVec s 32 → IVec s 32 → IVec s 32 :=
  mixV 17#32 15#32 <| mixV 29#32 3#32 <| mixV 16#32 16#32 <| mixV 24#32 8#32 k

/-- The twenty rounds. -/
def roundsV {s : Shape} (k : IVec s 32 → IVec s 32 → IVec s 32) : IVec s 32 → IVec s 32 → IVec s 32 :=
  oddV <| injV 2518116175#32 3332384946#32 <| evenV <| injV 3332384945#32 1264997414#32 <| oddV <| injV 1264997412#32 2518116178#32 <|
    evenV <| injV 2518116175#32 3332384949#32 <| oddV <| injV 3332384945#32 1264997417#32 k

/-- The 23 bits drawn at the counters `n`. -/
def drawV {s : Shape} (n : IVec s 32) : IVec s 32 :=
  roundsV (fun a b => shrui (xori a b) (broadcast s 9#32)) (broadcast s 1264997412#32) (addi n (broadcast s 2518116175#32))

/-- Whether the element whose three counters start at `n` takes category 1, and category 2. -/
def takeV1 {s : Shape} (n : IVec s 32) : IVec s 1 := cmpi .sgt (drawV (addi n (broadcast s 1#32))) (drawV n)
def takeV2 {s : Shape} (n : IVec s 32) : IVec s 1 :=
  cmpi .sgt (drawV (addi n (broadcast s 2#32))) (maxsi (drawV n) (drawV (addi n (broadcast s 1#32))))

variable {F : FTy → Type} [FloatOps F]

/-- The element's contribution: its feature or one less it where it is active, and the word `c` where not. -/
def termV {s : Shape} (n : IVec s 32) (c : BitVec 32) (x y : FVec F s .f32) : FVec F s .f32 :=
  select (ori (takeV1 n) (takeV2 n)) (select (takeV2 n) y x) (broadcast s (Scalar.ofBits (F := F) .f32 c))

attribute [local irreducible] addi xori ori shli shrui broadcast cmpi maxsi select subf multiReduction minimumf maximumf shapeCast broadcastTo

/-- The features of a block, once per operator, and one less them. -/
def tcX (x : FVec F S16x128 .f32) : FVec F S16x1x128 .f32 :=
  shapeCast S16x1x128 (shapeCast S16x128 x shapeCasts_S16x128_S16x128) shapeCasts_S16x128_S16x1x128
def tcWide (x : FVec F S16x1x128 .f32) : FVec F S16x256x128 .f32 :=
  broadcastTo S16x256x128 (shapeCast S16x1x128 x shapeCasts_S16x1x128_S16x1x128) broadcasts_S16x1x128_S16x256x128
def tcTerm (i : grid0.Coords) (c : BitVec 32) (x : FVec F S16x128 .f32) : FVec F S16x256x128 .f32 :=
  termV (k0_pay2 i) c (tcWide (tcX x)) (tcWide (subf (broadcast S16x1x128 (Scalar.ofBits .f32 0x3F800000#32)) (tcX x)))

theorem tcA_eq (i : grid0.Coords) : tcA i = drawV (k0_pay2 i) := rfl
theorem tcB_eq (i : grid0.Coords) : tcB i = drawV (addi (k0_pay2 i) (broadcast S16x256x128 1#32)) := rfl

theorem tcMin_eq (i : grid0.Coords) (x : FVec F S16x128 .f32) :
    tcMin i x = multiReduction .minimumf [2] S16x256 (tcTerm i 0x41200000#32 x) 0x7F800000#32 reduces_S16x256x128_S16x256 (.inl rfl) rfl := rfl
theorem tcMax_eq (i : grid0.Coords) (x : FVec F S16x128 .f32) :
    tcMax i x = multiReduction .maximumf [2] S16x256 (tcTerm i 0xC1200000#32 x) 0xFF800000#32 reduces_S16x256x128_S16x256 (.inl rfl) rfl := rfl

/-- Sixteen elements' contributions on the SparseCore. -/
def scTerm (n : IVec S16 32) (c : BitVec 32) (x : Vec F S1x16 .f32) : FVec F S16 .f32 :=
  termV n c (shapeCast S16 x shapeCasts_S1x16_S16) (subf (broadcast S16 (Scalar.ofBits .f32 0x3F800000#32)) (shapeCast S16 x shapeCasts_S1x16_S16))

/-- The counters of a trip's two features. -/
def scN0 (v : IVec S16 32) (t : Fin k1_t3_loop.trips) : IVec S16 32 := k1_pay11 v 0#32 1#32 t
def scN1 (v : IVec S16 32) (t : Fin k1_t3_loop.trips) : IVec S16 32 := k1_pay130 v (scFeat t)

theorem scBitsA0_eq (v : IVec S16 32) (t : Fin k1_t3_loop.trips) : scBitsA0 v t = drawV (scN0 v t) := rfl
theorem scBitsB0_eq (v : IVec S16 32) (t : Fin k1_t3_loop.trips) : scBitsB0 v (scFeat t) = drawV (scN1 v t) := rfl

theorem scMidMin_eq (v : IVec S16 32) (t : Fin k1_t3_loop.trips) (x : Vec F S1x16 .f32) (a : Vec F S16 .f32) :
    scMidMin v t x a = minimumf (shapeCast S16 a shapeCasts_S16_S16) (scTerm (scN0 v t) 0x41200000#32 x) := rfl
theorem scMidMax_eq (v : IVec S16 32) (t : Fin k1_t3_loop.trips) (x : Vec F S1x16 .f32) (a : Vec F S16 .f32) :
    scMidMax v t x a = maximumf (shapeCast S16 a shapeCasts_S16_S16) (scTerm (scN0 v t) 0xC1200000#32 x) := rfl
theorem scStepMin_eq (v : IVec S16 32) (t : Fin k1_t3_loop.trips) (x y : Vec F S1x16 .f32) (a : Vec F S16 .f32) :
    scStepMin v t x y a = shapeCast S16 (minimumf (scMidMin v t x a) (scTerm (scN1 v t) 0x41200000#32 y)) shapeCasts_S16_S16 := rfl
theorem scStepMax_eq (v : IVec S16 32) (t : Fin k1_t3_loop.trips) (x y : Vec F S1x16 .f32) (a : Vec F S16 .f32) :
    scStepMax v t x y a = shapeCast S16 (maximumf (scMidMax v t x a) (scTerm (scN1 v t) 0xC1200000#32 y)) shapeCasts_S16_S16 := rfl

/-! ## Lane by lane -/

section
attribute [local semireducible] addi xori ori shli shrui broadcast cmpi maxsi select

/-- A continuation on vectors does to each lane what the other does to a word. -/
def Lane {s : Shape} (c : IVec s 32 → IVec s 32 → IVec s 32) (e : BitVec 32 → BitVec 32 → BitVec 32) : Prop :=
  ∀ a b y, c a b y = e (a y) (b y)

theorem shli_at {s : Shape} (x : IVec s 32) (d : BitVec 32) (h : d.toNat < 32) (y : s.Idx) : shli x (broadcast s d) y = x y <<< d.toNat := by
  show (if d.toNat < 32 then x y <<< d else _) = _
  rw [if_pos h]; rfl
theorem shrui_at {s : Shape} (x : IVec s 32) (d : BitVec 32) (h : d.toNat < 32) (y : s.Idx) : shrui x (broadcast s d) y = x y >>> d.toNat := by
  show (if d.toNat < 32 then x y >>> d else _) = _
  rw [if_pos h]; rfl

theorem Lane.mix {s : Shape} {d e : BitVec 32} {c : IVec s 32 → IVec s 32 → IVec s 32} {r : BitVec 32 → BitVec 32 → BitVec 32} (h : Lane c r)
    (hd : d.toNat < 32) (he : e.toNat < 32) : Lane (mixV d e c) (mixB d.toNat e.toNat r) := by
  intro a b y
  refine (h _ _ y).trans ?_
  show r (a y + b y) ((shli b (broadcast s d) y ||| shrui b (broadcast s e) y) ^^^ (a y + b y)) = _
  rw [shli_at b d hd, shrui_at b e he]
  rfl

theorem Lane.inj {s : Shape} {d e : BitVec 32} {c : IVec s 32 → IVec s 32 → IVec s 32} {r : BitVec 32 → BitVec 32 → BitVec 32} (h : Lane c r) :
    Lane (injV d e c) (injB d e r) := fun _ _ y => h _ _ y

theorem Lane.odd {s : Shape} {c : IVec s 32 → IVec s 32 → IVec s 32} {r : BitVec 32 → BitVec 32 → BitVec 32} (h : Lane c r) :
    Lane (oddV c) (oddB r) :=
  (((h.mix (by decide) (by decide)).mix (by decide) (by decide)).mix (by decide) (by decide)).mix (by decide) (by decide)
theorem Lane.even {s : Shape} {c : IVec s 32 → IVec s 32 → IVec s 32} {r : BitVec 32 → BitVec 32 → BitVec 32} (h : Lane c r) :
    Lane (evenV c) (evenB r) :=
  (((h.mix (by decide) (by decide)).mix (by decide) (by decide)).mix (by decide) (by decide)).mix (by decide) (by decide)
theorem Lane.rounds {s : Shape} {c : IVec s 32 → IVec s 32 → IVec s 32} {r : BitVec 32 → BitVec 32 → BitVec 32} (h : Lane c r) :
    Lane (roundsV c) (roundsB r) :=
  h.inj.odd.inj.even.inj.odd.inj.even.inj.odd

theorem drawV_at {s : Shape} (n : IVec s 32) (y : s.Idx) : drawV n y = drawB (n y) := by
  have h : Lane (s := s) (fun a b => shrui (xori a b) (broadcast s 9#32)) fun a b => (a ^^^ b) >>> 9 :=
    fun a b y => shrui_at (xori a b) 9#32 (by decide) y
  exact h.rounds _ _ y

end

end Cert.Proof.Sc

end

end
-- ==== Proof.Facts.lean ====
/-
  What the drawn words come to: every row and node has an active feature, and every one of the SparseCore's an inactive one. The evaluation is in
  the module's theorems, 16384 pairs of row and node at a time.
-/
module

public import proofs.«01_k».proof.Proof.Lanes
public import Mathlib.Tactic.IntervalCases

@[expose] public section

namespace Cert.Proof.Sc

theorem any_0 : anyN 14 0 14 = ones 14 := by decide +kernel
theorem any_1 : anyN 14 1 14 = ones 14 := by decide +kernel
theorem any_2 : anyN 14 2 14 = ones 14 := by decide +kernel
theorem any_3 : anyN 14 3 14 = ones 14 := by decide +kernel
theorem any_4 : anyN 14 4 14 = ones 14 := by decide +kernel
theorem any_5 : anyN 14 5 14 = ones 14 := by decide +kernel
theorem any_6 : anyN 14 6 14 = ones 14 := by decide +kernel
theorem any_7 : anyN 14 7 14 = ones 14 := by decide +kernel
theorem any_8 : anyN 14 8 14 = ones 14 := by decide +kernel
theorem any_9 : anyN 14 9 14 = ones 14 := by decide +kernel
theorem any_10 : anyN 14 10 14 = ones 14 := by decide +kernel
theorem any_11 : anyN 14 11 14 = ones 14 := by decide +kernel
theorem any_12 : anyN 14 12 14 = ones 14 := by decide +kernel
theorem any_13 : anyN 14 13 14 = ones 14 := by decide +kernel
theorem any_14 : anyN 14 14 14 = ones 14 := by decide +kernel
theorem any_15 : anyN 14 15 14 = ones 14 := by decide +kernel
theorem all_12 : allN 14 12 32 = 0 := by decide +kernel
theorem all_13 : allN 14 13 32 = 0 := by decide +kernel
theorem all_14 : allN 14 14 32 = 0 := by decide +kernel
theorem all_15 : allN 14 15 32 = 0 := by decide +kernel

theorem any_chunk {c : ℕ} (h : c < 16) : anyN 14 c 14 = ones 14 := by
  interval_cases c
  · exact any_0
  · exact any_1
  · exact any_2
  · exact any_3
  · exact any_4
  · exact any_5
  · exact any_6
  · exact any_7
  · exact any_8
  · exact any_9
  · exact any_10
  · exact any_11
  · exact any_12
  · exact any_13
  · exact any_14
  · exact any_15

theorem all_chunk {c : ℕ} (h : 12 ≤ c) (h' : c < 16) : allN 14 c 32 = 0 := by
  interval_cases c
  · exact all_12
  · exact all_13
  · exact all_14
  · exact all_15

/-- The pair of row and node numbered `n` has an active feature. -/
theorem exists_active {n : ℕ} (h : n < 262144) : ∃ f < 128, actB (BitVec.ofNat 32 (n * 384 + 3 * f)) = true := by
  obtain ⟨f, hf, hb⟩ := anyB_exists (anyB_of (k := 14) (c := n / 16384) (n := 14) (by omega) (any_chunk (by omega)) (i := n % 16384) (by omega))
  refine ⟨f, by omega, ?_⟩
  rw [ctr, show (2 : ℕ) ^ 14 = 16384 from rfl, show n / 16384 * 16384 + n % 16384 = n by omega] at hb
  exact hb

/-- The SparseCore's has an inactive one. -/
theorem exists_inactive {n : ℕ} (h : 196608 ≤ n) (h' : n < 262144) : ∃ f < 128, actB (BitVec.ofNat 32 (n * 384 + 3 * f)) = false := by
  obtain ⟨f, hf, hb⟩ := allB_exists (allB_of (k := 14) (c := n / 16384) (n := 32) (by omega) (all_chunk (by omega) (by omega)) (i := n % 16384) (by omega))
  refine ⟨f, by omega, ?_⟩
  rw [ctr, show (2 : ℕ) ^ 14 = 16384 from rfl, show n / 16384 * 16384 + n % 16384 = n by omega] at hb
  exact hb

end Cert.Proof.Sc

end
-- ==== Proof.Spec.lean ====
/-
  What one result of the kernel is: the smallest, or the largest, of the contributions of a row's features, a function of the
  features and of the counters alone.
-/
module

public import proofs.«01_k».proof.Proof.Hash
public import proofs.«01_k».proof.Proof.Facts
public import Idealize.ShloMosaic.Lib.Pointwise

@[expose] public section

noncomputable section

namespace Cert.Proof.Sc

open Idealize Idealize.ShloMosaic
open Cert.KernelIdeal Cert.KernelIdeal.Gen

/-! ## The draws have 23 bits -/

theorem all_mix {α : Type} {P : α → Prop} {d e : ℕ} {k : BitVec 32 → BitVec 32 → α} (h : ∀ a b, P (k a b)) : ∀ a b, P (mixB d e k a b) :=
  fun _ _ => h _ _
theorem all_inj {α : Type} {P : α → Prop} {d e : BitVec 32} {k : BitVec 32 → BitVec 32 → α} (h : ∀ a b, P (k a b)) :
    ∀ a b, P (injB d e k a b) := fun _ _ => h _ _
theorem all_odd {α : Type} {P : α → Prop} {k : BitVec 32 → BitVec 32 → α} (h : ∀ a b, P (k a b)) : ∀ a b, P (oddB k a b) :=
  all_mix (all_mix (all_mix (all_mix h)))
theorem all_even {α : Type} {P : α → Prop} {k : BitVec 32 → BitVec 32 → α} (h : ∀ a b, P (k a b)) : ∀ a b, P (evenB k a b) :=
  all_mix (all_mix (all_mix (all_mix h)))
theorem all_rounds {α : Type} {P : α → Prop} {k : BitVec 32 → BitVec 32 → α} (h : ∀ a b, P (k a b)) : ∀ a b, P (roundsB k a b) :=
  all_odd (all_inj (all_even (all_inj (all_odd (all_inj (all_even (all_inj (all_odd (all_inj h)))))))))

theorem drawB_lt (n : BitVec 32) : (drawB n).toNat < 2 ^ 23 := by
  refine all_rounds (P := fun v : BitVec 32 => v.toNat < 2 ^ 23) (fun a b => ?_) _ _
  have := (a ^^^ b).isLt
  simp only [BitVec.toNat_ushiftRight, Nat.shiftRight_eq_div_pow]
  omega

/-- Below 2^31 the signed comparison of two words is the comparison of the numbers. -/
theorem slt_small {a b : BitVec 32} (ha : a.toNat < 2 ^ 23) (hb : b.toNat < 2 ^ 23) : a.slt b = decide (a < b) := by
  rw [BitVec.slt, BitVec.toInt_eq_toNat_of_lt (by omega), BitVec.toInt_eq_toNat_of_lt (by omega)]
  exact decide_eq_decide.mpr (by rw [BitVec.lt_def]; omega)

/-- Whether the element takes category 2. -/
def tak2 (n : BitVec 32) : Bool := decide (drawB n < drawB (n + 2#32)) && decide (drawB (n + 1#32) < drawB (n + 2#32))

/-- The element's contribution: `x` in category 1, `y` in category 2, `c` in category 0. -/
def termF {α : Type} (n : BitVec 32) (c x y : α) : α := if actB n then (if tak2 n then y else x) else c

theorem takeV1_at {s : Shape} (n : IVec s 32) (y : s.Idx) : takeV1 n y = BitVec.ofBool (decide (drawB (n y) < drawB (n y + 1#32))) := by
  show BitVec.ofBool ((drawV n y).slt (drawV (addi n (broadcast s 1#32)) y)) = _
  rw [drawV_at, drawV_at, slt_small (drawB_lt _) (drawB_lt _)]
  rfl

theorem takeV2_at {s : Shape} (n : IVec s 32) (y : s.Idx) : takeV2 n y = BitVec.ofBool (tak2 (n y)) := by
  show BitVec.ofBool ((if (drawV (addi n (broadcast s 1#32)) y).slt (drawV n y) then drawV n y else drawV (addi n (broadcast s 1#32)) y).slt
    (drawV (addi n (broadcast s 2#32)) y)) = _
  rw [drawV_at, drawV_at, drawV_at, show addi n (broadcast s 1#32) y = n y + 1#32 from rfl, show addi n (broadcast s 2#32) y = n y + 2#32 from rfl,
    slt_small (drawB_lt _) (drawB_lt _)]
  refine congrArg BitVec.ofBool ?_
  unfold tak2
  have h0 := drawB_lt (n y)
  have h1 := drawB_lt (n y + 1#32)
  have h2 := drawB_lt (n y + 2#32)
  by_cases h : drawB (n y + 1#32) < drawB (n y)
  · rw [if_pos (decide_eq_true h), slt_small h0 h2]
    rw [Bool.eq_iff_iff]
    simp only [decide_eq_true_eq, Bool.and_eq_true, BitVec.lt_def] at h ⊢
    omega
  · rw [if_neg (by simpa using h), slt_small h1 h2]
    rw [Bool.eq_iff_iff]
    simp only [decide_eq_true_eq, Bool.and_eq_true, BitVec.lt_def] at h ⊢
    omega

theorem act_or (n : BitVec 32) : (decide (drawB n < drawB (n + 1#32)) || tak2 n) = actB n := by
  unfold tak2 actB
  rw [Bool.eq_iff_iff]
  simp only [Bool.or_eq_true, decide_eq_true_eq, Bool.and_eq_true, BitVec.lt_def]
  omega

theorem termV_at {F : FTy → Type} [FloatOps F] {s : Shape} (n : IVec s 32) (c : BitVec 32) (x y : FVec F s .f32) (i : s.Idx) :
    termV n c x y i = termF (n i) (FloatOps.ofBits .f32 c) (x i) (y i) := by
  show (if takeV1 n i ||| takeV2 n i = 1#1 then (if takeV2 n i = 1#1 then y i else x i) else _) = _
  rw [takeV1_at, takeV2_at, BitVec.ofBool_or_ofBool, act_or]
  unfold termF
  cases actB (n i) <;> cases tak2 (n i) <;> rfl

/-! ## A result -/

/-- The contributions to result `n` of the features `x`. -/
def contrib (n : ℕ) (c : BitVec 32) (x : Fin 128 → EReal) (f : Fin 128) : EReal :=
  termF (BitVec.ofNat 32 (n * 384 + 3 * f.val)) (FloatOps.ofBits (F := Ideal) .f32 c) (x f)
    (FloatOps.subf (F := Ideal) (φ := .f32) (FloatOps.ofBits (F := Ideal) .f32 0x3F800000#32) (x f))

def colMin (n : ℕ) (x : Fin 128 → EReal) : EReal :=
  Finset.univ.fold (FloatOps.minimumf (F := Ideal) (φ := .f32)) (FloatOps.ofBits (F := Ideal) .f32 0x7F800000#32) (contrib n 0x41200000#32 x)
def colMax (n : ℕ) (x : Fin 128 → EReal) : EReal :=
  Finset.univ.fold (FloatOps.maximumf (F := Ideal) (φ := .f32)) (FloatOps.ofBits (F := Ideal) .f32 0xFF800000#32) (contrib n 0xC1200000#32 x)

/-- Row `b`'s result at operator `o`. -/
def result (X : (⟨2, ![1024, 128]⟩ : Shape).Idx → EReal) (op : (⟨1, ![256]⟩ : Shape).Idx → BitVec 32) (b : Fin 1024) (o : Fin 256) : EReal :=
  if op (ix1 o) = 0#32 then colMin (b.val * 256 + o.val) (fun f => X (ix2 b f)) else colMax (b.val * 256 + o.val) fun f => X (ix2 b f)

/-! ## The TensorCore's blocks -/

theorem tcCtr_at (i : grid0.Coords) (r : Fin 16) (o : Fin 256) (f : Fin 128) :
    k0_pay2 i (ix3 r o f) = BitVec.ofNat 32 (((16 * (i 0).val + r.val) * 256 + o.val) * 384 + 3 * f.val) := by
  have e1 : (i 1).val = 0 := by have : (i 1).val < 1 := (i 1).isLt; omega
  have h0 : (i 0).val < 48 := (i 0).isLt
  show ((BitVec.ofNat 32 (i 0).val * 16#32 * 98304#32 + BitVec.ofNat 32 (i 1).val * 256#32 * 384#32)
    + BitVec.ofNat 32 (0 * 16 + r.val) * 98304#32 + BitVec.ofNat 32 (0 * 256 + o.val) * 384#32) + BitVec.ofNat 32 (0 * 128 + f.val) * 3#32 = _
  rw [e1]
  apply BitVec.eq_of_toNat_eq
  have := r.isLt; have := o.isLt; have := f.isLt
  simp only [BitVec.toNat_add, BitVec.toNat_mul, BitVec.toNat_ofNat]
  omega

theorem tcWide_at (x : FVec Ideal S16x128 .f32) (r : Fin 16) (o : Fin 256) (f : Fin 128) : tcWide (tcX x) (ix3 r o f) = x (ix2 r f) := by
  pointwise [tcWide, tcX]
theorem tcWideSub_at (x : FVec Ideal S16x128 .f32) (r : Fin 16) (o : Fin 256) (f : Fin 128) :
    tcWide (subf (broadcast S16x1x128 (Scalar.ofBits .f32 0x3F800000#32)) (tcX x)) (ix3 r o f)
      = FloatOps.subf (F := Ideal) (φ := .f32) (FloatOps.ofBits (F := Ideal) .f32 0x3F800000#32) (x (ix2 r f)) := by
  pointwise [tcWide, tcX]

theorem tcTerm_at (i : grid0.Coords) (c : BitVec 32) (x : FVec Ideal S16x128 .f32) (r : Fin 16) (o : Fin 256) (f : Fin 128) :
    tcTerm i c x (ix3 r o f) = contrib ((16 * (i 0).val + r.val) * 256 + o.val) c (fun f => x (ix2 r f)) f := by
  unfold tcTerm
  rw [termV_at, tcCtr_at, tcWide_at, tcWideSub_at]
  rfl

theorem lift3 (h : S16x256x128.Reduces [2] S16x256) (r : Fin 16) (o : Fin 256) (f : Fin 128) : h.lift (ix2 r o) f = ix3 r o f := by
  funext a
  fin_cases a <;> rfl

/-- A reduction of the last of three axes, element by element. -/
theorem min3_at (v : FVec Ideal S16x256x128 .f32) (h : S16x256x128.Reduces [2] S16x256) (a : BitVec 32) (hφ) (hacc) (r : Fin 16) (o : Fin 256) :
    multiReduction .minimumf [2] S16x256 v a h hφ hacc (ix2 r o)
      = Finset.univ.fold (FloatOps.minimumf (F := Ideal) (φ := .f32)) (FloatOps.ofBits (F := Ideal) .f32 a) fun f : Fin 128 => v (ix3 r o f) := by
  refine (multiReduction_minimumf_eq_fold v a h hφ hacc (ix2 r o)).trans ((Shape.Reduces.fold_filter_drop_single h _ _ v (ix2 r o)).trans ?_)
  exact congrArg (fun g : Fin 128 → EReal => Finset.univ.fold _ _ g) (funext fun f => congrArg v (lift3 h r o f))
theorem max3_at (v : FVec Ideal S16x256x128 .f32) (h : S16x256x128.Reduces [2] S16x256) (a : BitVec 32) (hφ) (hacc) (r : Fin 16) (o : Fin 256) :
    multiReduction .maximumf [2] S16x256 v a h hφ hacc (ix2 r o)
      = Finset.univ.fold (FloatOps.maximumf (F := Ideal) (φ := .f32)) (FloatOps.ofBits (F := Ideal) .f32 a) fun f : Fin 128 => v (ix3 r o f) := by
  refine (multiReduction_maximumf_eq_fold v a h hφ hacc (ix2 r o)).trans ((Shape.Reduces.fold_filter_drop_single h _ _ v (ix2 r o)).trans ?_)
  exact congrArg (fun g : Fin 128 → EReal => Finset.univ.fold _ _ g) (funext fun f => congrArg v (lift3 h r o f))

theorem tcMin_at (i : grid0.Coords) (x : FVec Ideal S16x128 .f32) (r : Fin 16) (o : Fin 256) :
    tcMin i x (ix2 r o) = colMin ((16 * (i 0).val + r.val) * 256 + o.val) (fun f => x (ix2 r f)) := by
  have e := funext (tcTerm_at i 0x41200000#32 x r o)
  rw [tcMin_eq]
  generalize tcTerm i 0x41200000#32 x = v at e ⊢
  refine (min3_at v _ _ _ _ r o).trans ?_
  rw [e]
  rfl
theorem tcMax_at (i : grid0.Coords) (x : FVec Ideal S16x128 .f32) (r : Fin 16) (o : Fin 256) :
    tcMax i x (ix2 r o) = colMax ((16 * (i 0).val + r.val) * 256 + o.val) (fun f => x (ix2 r f)) := by
  have e := funext (tcTerm_at i 0xC1200000#32 x r o)
  rw [tcMax_eq]
  generalize tcTerm i 0xC1200000#32 x = v at e ⊢
  refine (max3_at v _ _ _ _ r o).trans ?_
  rw [e]
  rfl

/-- A choice by a comparison with a word. -/
theorem pick_eq (w : BitVec 32) (a b : EReal) : Scalar.select (IntOp.cmpi .eq w 0#32) a b = if w = 0#32 then a else b := by
  show (if BitVec.ofBool (w == 0#32) = 1#1 then a else b) = _
  by_cases h : w = 0#32
  · rw [if_pos h, h]; rfl
  · rw [if_neg h, beq_eq_false_iff_ne.mpr h]; rfl

theorem tcPick_at (a b : FVec Ideal S16x256 .f32) (op : Vec Ideal S1x256 .i32) (r : Fin 16) (o : Fin 256) :
    k0_pay1 a b op (ix2 r o) = if op (ix2 0 o) = 0#32 then a (ix2 r o) else b (ix2 r o) := by
  pointwise [k0_pay1]
  exact pick_eq _ _ _

end Cert.Proof.Sc

end
-- ==== Proof.TcVal.lean ====
/-
  The TensorCore's array after the grid: its rows' results.
-/
module

public import proofs.«01_k».proof.Proof.Spec
public import proofs.«01_k».proof.Proof.RegionSeg
public import Idealize.ShloMosaic.Lib.Pipeline.ValueKit

@[expose] public section

noncomputable section

namespace Cert.Proof.Sc

open Idealize Idealize.ShloMosaic Idealize.ShloMosaic.TcCoe
open Cert.KernelIdeal Cert.KernelIdeal.Gen

/-- The first rows' results, of their features `x` and the operators `op`. -/
def tcG (x : FVec Ideal S768x128 .f32) (op : IVec S1x256 32) : FVec Ideal S768x256 .f32 := fun y =>
  if op (ix2 (0 : Fin 1) (y 1 : Fin 256)) = 0#32 then colMin ((y 0).val * 256 + (y 1).val) (fun f => x (ix2 (y 0 : Fin 768) f))
  else colMax ((y 0).val * 256 + (y 1).val) (fun f => x (ix2 (y 0 : Fin 768) f))

theorem tcBlk_at (i : grid0.Coords) (x : FVec Ideal S16x128 .f32) (op : IVec S1x256 32) (r : Fin 16) (o : Fin 256) :
    tcBlk i x op (ix2 r o) = if op (ix2 0 o) = 0#32 then colMin ((16 * (i 0).val + r.val) * 256 + o.val) (fun f => x (ix2 r f))
      else colMax ((16 * (i 0).val + r.val) * 256 + o.val) (fun f => x (ix2 r f)) := by
  unfold tcBlk
  rw [tcPick_at, tcMin_at, tcMax_at]

variable (V : (c : Dev nD) → (b : Ref sig .tc) → Buf (Elt Ideal) ((c : Thread nD τ).loc b))

theorem ix_0 : ∀ t : Fin cfg0.N, win0_0.index t = ![(grid0.coords t 0).val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![(grid0.coords t 0).val, 0] := (by decide +kernel : ∀ t : Fin grid0.N, _)

theorem xBlk_at (c : Dev nD) (t : Fin cfg0.N) (r : Fin 16) (f : Fin 128) (b : Fin 768) (hb : b.val = 16 * (grid0.coords t 0).val + r.val) :
    xBlk V c t (ix2 r f) = (V c main_v1 : FVec Ideal S768x128 .f32) (ix2 b f) := by
  show (V c main_v1 : FVec Ideal S768x128 .f32) ((win0_0.blk t).view.emb (ix2 r f)) = _
  refine congrArg _ ?_
  blk_ext [ix_0, hb]

theorem pBlk_at (c : Dev nD) (t : Fin cfg0.N) (o : Fin 256) :
    pBlk V c t (ix2 (0 : Fin 1) o) = (V c main_v0 : IVec S1x256 32) (ix2 (0 : Fin 1) o) := by
  show (V c main_v0 : IVec S1x256 32) ((win0_1.blk t).view.emb (ix2 (0 : Fin 1) o)) = _
  refine congrArg _ ?_
  blk_ext [ix_1]

theorem tcRes_eq (c : Dev nD) : tcRes V c = tcG (V c main_v1) (V c main_v0) := by
  refine (dat V c).arrAt_eq_of_covers 2 _ (by decide +kernel) fun t hf y => ?_
  blk_simp
  show oBlk V c t y = tcG (V c main_v1) (V c main_v0) ((win0_2.blk t).view.emb y)
  have h0 : ((((win0_2.blk t).view.emb y) 0 : Fin _) : ℕ) = 16 * (grid0.coords t 0).val + (y 0).val := by
    blk_simp [ix_2]
    try omega
  have h1 : ((((win0_2.blk t).view.emb y) 1 : Fin _) : ℕ) = (y 1).val := by
    blk_simp [ix_2]
    try omega
  have h1' : ((((win0_2.blk t).view.emb y) 1 : Fin _) : Fin 256) = y 1 := Fin.ext h1
  have ex : (fun f => xBlk V c t (ix2 (y 0 : Fin 16) f)) = fun f => (V c main_v1 : FVec Ideal S768x128 .f32) (ix2 (((win0_2.blk t).view.emb y) 0 : Fin 768) f) :=
    funext fun f => xBlk_at V c t (y 0) f _ h0
  unfold tcG oBlk
  rw [h0, h1, h1', ← ex]
  have e := (congrArg (tcBlk (grid0.coords t) (xBlk V c t) (pBlk V c t)) (eq_ix2 (n0 := 16) (n1 := 256) y)).trans
    (tcBlk_at (grid0.coords t) (xBlk V c t) (pBlk V c t) (y 0) (y 1))
  rw [pBlk_at V c t (y 1)] at e
  exact e

end Cert.Proof.Sc

end
-- ==== Proof.ScVal.lean ====
/-
  The SparseCore's output: its rows' results. Its accumulators start at the value that an inactive feature contributes, and every
  row of its part has an inactive feature at every operator, so where they start does not matter.
-/
module

public import proofs.«01_k».proof.Proof.Spec
public import proofs.«01_k».proof.Proof.TileRow
public import Idealize.ShloMosaic.Lib.Pipeline.ValueKit

@[expose] public section

noncomputable section

namespace Cert.Proof.Sc

open Idealize Idealize.ShloMosaic
open Cert.KernelIdeal Cert.KernelIdeal.Gen

/-! ## Accumulators -/

def accMin (e : EReal) (g : ℕ → EReal) : ℕ → EReal
  | 0 => e
  | n + 1 => min (accMin e g n) (g n)
def accMax (e : EReal) (g : ℕ → EReal) : ℕ → EReal
  | 0 => e
  | n + 1 => max (accMax e g n) (g n)

theorem le_accMin (e : EReal) (g : ℕ → EReal) (a : EReal) (n : ℕ) : a ≤ accMin e g n ↔ a ≤ e ∧ ∀ k < n, a ≤ g k := by
  induction n with
  | zero => simp [accMin]
  | succ n ih =>
    rw [accMin, le_min_iff, ih]
    constructor
    · rintro ⟨⟨h, h'⟩, h''⟩
      refine ⟨h, fun k hk => ?_⟩
      rcases Nat.lt_succ_iff_lt_or_eq.mp hk with hk | rfl
      · exact h' k hk
      · exact h''
    · rintro ⟨h, h'⟩
      exact ⟨⟨h, fun k hk => h' k (by omega)⟩, h' n (by omega)⟩
theorem accMax_le (e : EReal) (g : ℕ → EReal) (a : EReal) (n : ℕ) : accMax e g n ≤ a ↔ e ≤ a ∧ ∀ k < n, g k ≤ a := by
  induction n with
  | zero => simp [accMax]
  | succ n ih =>
    rw [accMax, max_le_iff, ih]
    constructor
    · rintro ⟨⟨h, h'⟩, h''⟩
      refine ⟨h, fun k hk => ?_⟩
      rcases Nat.lt_succ_iff_lt_or_eq.mp hk with hk | rfl
      · exact h' k hk
      · exact h''
    · rintro ⟨h, h'⟩
      exact ⟨⟨h, fun k hk => h' k (by omega)⟩, h' n (by omega)⟩

theorem posInf_eq : FloatOps.ofBits (F := Ideal) .f32 0x7F800000#32 = ⊤ := by
  show Ideal.ofBits .f32 0x7F800000#32 = ⊤
  simp [Ideal.ofBits, Ideal.ieee]
theorem negInf_eq : FloatOps.ofBits (F := Ideal) .f32 0xFF800000#32 = ⊥ := by
  show Ideal.ofBits .f32 0xFF800000#32 = ⊥
  simp [Ideal.ofBits, Ideal.ieee]

theorem le_colMin (n : ℕ) (x : Fin 128 → EReal) (a : EReal) : a ≤ colMin n x ↔ ∀ f, a ≤ contrib n 0x41200000#32 x f := by
  have h := (Finset.le_fold_min (s := Finset.univ) (b := (⊤ : EReal)) (f := contrib n 0x41200000#32 x) a)
  unfold colMin
  rw [posInf_eq]
  refine Iff.trans h ?_
  simp
theorem colMax_le (n : ℕ) (x : Fin 128 → EReal) (a : EReal) : colMax n x ≤ a ↔ ∀ f, contrib n 0xC1200000#32 x f ≤ a := by
  have h := (Finset.fold_max_le (s := Finset.univ) (b := (⊥ : EReal)) (f := contrib n 0xC1200000#32 x) a)
  unfold colMax
  rw [negInf_eq]
  refine Iff.trans h ?_
  simp

theorem contrib_inactive {n : ℕ} {f : Fin 128} (h : actB (BitVec.ofNat 32 (n * 384 + 3 * f.val)) = false) (c : BitVec 32) (x : Fin 128 → EReal) :
    contrib n c x f = FloatOps.ofBits (F := Ideal) .f32 c := by
  unfold contrib termF
  rw [h]; rfl

theorem accMin_eq {n : ℕ} (h : 196608 ≤ n) (h' : n < 262144) (x : Fin 128 → EReal) (g : ℕ → EReal)
    (hg : ∀ f : Fin 128, g f.val = contrib n 0x41200000#32 x f) :
    accMin (FloatOps.ofBits (F := Ideal) .f32 0x41200000#32) g 128 = colMin n x := by
  obtain ⟨f, hf, hi⟩ := exists_inactive h h'
  refine eq_of_forall_le_iff fun a => ?_
  rw [le_accMin, le_colMin]
  constructor
  · rintro ⟨-, h2⟩ f
    rw [← hg f]; exact h2 f.val f.isLt
  · intro h1
    refine ⟨?_, fun k hk => ?_⟩
    · rw [← contrib_inactive (f := ⟨f, hf⟩) hi 0x41200000#32 x]; exact h1 _
    · have := h1 ⟨k, hk⟩; rwa [← hg] at this
theorem accMax_eq {n : ℕ} (h : 196608 ≤ n) (h' : n < 262144) (x : Fin 128 → EReal) (g : ℕ → EReal)
    (hg : ∀ f : Fin 128, g f.val = contrib n 0xC1200000#32 x f) :
    accMax (FloatOps.ofBits (F := Ideal) .f32 0xC1200000#32) g 128 = colMax n x := by
  obtain ⟨f, hf, hi⟩ := exists_inactive h h'
  refine eq_of_forall_ge_iff fun a => ?_
  rw [accMax_le, colMax_le]
  constructor
  · rintro ⟨-, h2⟩ f
    rw [← hg f]; exact h2 f.val f.isLt
  · intro h1
    refine ⟨?_, fun k hk => ?_⟩
    · rw [← contrib_inactive (f := ⟨f, hf⟩) hi 0xC1200000#32 x]; exact h1 _
    · have := h1 ⟨k, hk⟩; rwa [← hg] at this

/-! ## The trips -/

/-- What feature `f` of the lanes' row contributes at the counters `v`. -/
def scContrib (v : BitVec 32) (c : BitVec 32) (x : ℕ → EReal) (f : ℕ) : EReal :=
  termF (v + BitVec.ofNat 32 (3 * f)) (FloatOps.ofBits (F := Ideal) .f32 c) (x f)
    (FloatOps.subf (F := Ideal) (φ := .f32) (FloatOps.ofBits (F := Ideal) .f32 0x3F800000#32) (x f))

theorem off2_eq : ∀ (t : Fin k1_t3_loop.trips) (r : Fin 2), k1_off2 t (BitVec.ofNat 32 r.val) = ![2 * t.val + r.val, 0] := by decide +kernel
theorem off3_eq : ∀ (j : Fin k1_t2_loop.trips), k1_off3 j = ![j.val, 0] := by decide +kernel

theorem xbRow_at (x : FVec Ideal S128x16 .f32) (t : Fin k1_t3_loop.trips) (r : Fin 2) (l : Fin 16) (f : Fin 128) (hf : f.val = 2 * t.val + r.val) :
    xbRow x t r (ix2 (0 : Fin 1) l) = x (ix2 f l) := by
  refine congrArg x ?_
  funext a
  apply Fin.ext
  refine (ValueKit.rect_emb_unit_val _ _ _ _ _).trans ?_
  refine (congrArg (· + _) (congrFun (off2_eq t r) a)).trans ?_
  fin_cases a
  · show 2 * t.val + r.val + 0 = f.val; omega
  · show 0 + l.val = l.val; omega

theorem scFeat_eq : ∀ t : Fin k1_t3_loop.trips, (scFeat t).toNat = 2 * t.val := by decide +kernel
theorem scN0_at (v : IVec S16 32) (t : Fin k1_t3_loop.trips) (y : S16.Idx) : scN0 v t y = v y + BitVec.ofNat 32 (3 * (2 * t.val)) := by
  have ht := lt_of_lt_of_eq t.isLt trips3
  show v y + (scFeat t + 0#32) * 3#32 = _
  refine congrArg (v y + ·) (BitVec.eq_of_toNat_eq ?_)
  simp only [BitVec.toNat_add, BitVec.toNat_mul, BitVec.toNat_ofNat, scFeat_eq]
  omega
theorem scN1_at (v : IVec S16 32) (t : Fin k1_t3_loop.trips) (y : S16.Idx) : scN1 v t y = v y + BitVec.ofNat 32 (3 * (2 * t.val + 1)) := by
  have ht := lt_of_lt_of_eq t.isLt trips3
  show v y + (scFeat t + 1#32) * 3#32 = _
  refine congrArg (v y + ·) (BitVec.eq_of_toNat_eq ?_)
  simp only [BitVec.toNat_add, BitVec.toNat_mul, BitVec.toNat_ofNat, scFeat_eq]
  omega

theorem cast1_at (x : FVec Ideal S1x16 .f32) (l : Fin 16) : shapeCast S16 x shapeCasts_S1x16_S16 (ix1 l) = x (ix2 (0 : Fin 1) l) := by pointwise
theorem cast0_at (x : FVec Ideal S16 .f32) (l : Fin 16) : shapeCast S16 x shapeCasts_S16_S16 (ix1 l) = x (ix1 l) := by pointwise

theorem scTerm_at (n : IVec S16 32) (c : BitVec 32) (x : Vec Ideal S1x16 .f32) (l : Fin 16) :
    scTerm n c x (ix1 l) = termF (n (ix1 l)) (FloatOps.ofBits (F := Ideal) .f32 c) (x (ix2 (0 : Fin 1) l))
      (FloatOps.subf (F := Ideal) (φ := .f32) (FloatOps.ofBits (F := Ideal) .f32 0x3F800000#32) (x (ix2 (0 : Fin 1) l))) := by
  unfold scTerm
  rw [termV_at, cast1_at]
  refine congrArg (termF _ _ _) ?_
  show FloatOps.subf (F := Ideal) (φ := .f32) (FloatOps.ofBits (F := Ideal) .f32 0x3F800000#32) (shapeCast S16 x shapeCasts_S1x16_S16 (ix1 l)) = _
  rw [cast1_at]

theorem scStepMin_at (v : IVec S16 32) (t : Fin k1_t3_loop.trips) (x y : Vec Ideal S1x16 .f32) (a : Vec Ideal S16 .f32) (l : Fin 16) :
    scStepMin v t x y a (ix1 l) = min (min (a (ix1 l)) (scTerm (scN0 v t) 0x41200000#32 x (ix1 l))) (scTerm (scN1 v t) 0x41200000#32 y (ix1 l)) := by
  rw [scStepMin_eq, cast0_at, scMidMin_eq]
  generalize scTerm (scN0 v t) 0x41200000#32 x = p
  generalize scTerm (scN1 v t) 0x41200000#32 y = q
  show min (min (shapeCast S16 a shapeCasts_S16_S16 (ix1 l)) _) _ = _
  rw [cast0_at]
theorem scStepMax_at (v : IVec S16 32) (t : Fin k1_t3_loop.trips) (x y : Vec Ideal S1x16 .f32) (a : Vec Ideal S16 .f32) (l : Fin 16) :
    scStepMax v t x y a (ix1 l) = max (max (a (ix1 l)) (scTerm (scN0 v t) 0xC1200000#32 x (ix1 l))) (scTerm (scN1 v t) 0xC1200000#32 y (ix1 l)) := by
  rw [scStepMax_eq, cast0_at, scMidMax_eq]
  generalize scTerm (scN0 v t) 0xC1200000#32 x = p
  generalize scTerm (scN1 v t) 0xC1200000#32 y = q
  show max (max (shapeCast S16 a shapeCasts_S16_S16 (ix1 l)) _) _ = _
  rw [cast0_at]

/-- Lane `l` of the row's features. -/
def lane (x : FVec Ideal S128x16 .f32) (l : Fin 16) (f : ℕ) : EReal := if h : f < 128 then x (ix2 (⟨f, h⟩ : Fin 128) l) else 0

theorem xbRow_lane (x : FVec Ideal S128x16 .f32) (t : Fin k1_t3_loop.trips) (r : Fin 2) (l : Fin 16) :
    xbRow x t r (ix2 (0 : Fin 1) l) = lane x l (2 * t.val + r.val) := by
  have ht := lt_of_lt_of_eq t.isLt trips3
  have hr := r.isLt
  have h : 2 * t.val + r.val < 128 := by omega
  unfold lane
  rw [dif_pos h]
  exact xbRow_at x t r l _ rfl

theorem scMin_at (v : IVec S16 32) (x : FVec Ideal S128x16 .f32) (l : Fin 16) (n : ℕ) (hn : n ≤ k1_t3_loop.trips) :
    scMin v x n (ix1 l) = accMin (FloatOps.ofBits (F := Ideal) .f32 0x41200000#32) (scContrib (v (ix1 l)) 0x41200000#32 (lane x l)) (2 * n) := by
  induction n with
  | zero => rw [scMin]; unfold k1_pay2; exact cast0_at _ l
  | succ n ih =>
    have h : n < k1_t3_loop.trips := by omega
    rw [scMin, dif_pos h, scStepMin_at, ih (by omega), scTerm_at, scTerm_at, scN0_at, scN1_at, xbRow_lane, xbRow_lane]
    rfl
theorem scMax_at (v : IVec S16 32) (x : FVec Ideal S128x16 .f32) (l : Fin 16) (n : ℕ) (hn : n ≤ k1_t3_loop.trips) :
    scMax v x n (ix1 l) = accMax (FloatOps.ofBits (F := Ideal) .f32 0xC1200000#32) (scContrib (v (ix1 l)) 0xC1200000#32 (lane x l)) (2 * n) := by
  induction n with
  | zero => rw [scMax]; unfold k1_pay3; exact cast0_at _ l
  | succ n ih =>
    have h : n < k1_t3_loop.trips := by omega
    rw [scMax, dif_pos h, scStepMax_at, ih (by omega), scTerm_at, scTerm_at, scN0_at, scN1_at, xbRow_lane, xbRow_lane]
    rfl

/-! ## The groups -/

theorem iv1 : ∀ k : Fin k1_t1_loop.trips, (Scf.iv 0#32 1#32 k : BitVec 32).toNat = k.val := by decide +kernel
theorem iv2 : ∀ k : Fin k1_t2_loop.trips, (Scf.iv 0#32 1#32 k : BitVec 32).toNat = k.val := by decide +kernel

theorem scCtr_at (i : grid1.Coords) (k : Fin k1_t1_loop.trips) (j : Fin k1_t2_loop.trips) (l : Fin 16) :
    k1_pay1 i k j (ix1 l) = BitVec.ofNat 32 (((768 + (rowIx i k).val) * 256 + (16 * j.val + l.val)) * 384) := by
  have h0 : (i 0).val < 2 := (i 0).isLt
  have h1 : (i 1).val < 16 := (i 1).isLt
  have hk := lt_of_lt_of_eq k.isLt trips1
  have hj := lt_of_lt_of_eq j.isLt trips2
  have hl := l.isLt
  show ((0#32 + Scf.iv 0#32 1#32 j * 1#32) * 16#32 + BitVec.ofNat 32 (0 * 16 + l.val)) * 384#32
    + ((BitVec.ofNat 32 (i 0).val * 16#32 + BitVec.ofNat 32 (i 1).val) * 8#32 + (0#32 + Scf.iv 0#32 1#32 k * 1#32) + 768#32) * 98304#32 = _
  apply BitVec.eq_of_toNat_eq
  show _ = (BitVec.ofNat 32 (((768 + (128 * (i 0).val + 8 * (i 1).val + k.val)) * 256 + (16 * j.val + l.val)) * 384)).toNat
  simp only [BitVec.toNat_add, BitVec.toNat_mul, BitVec.toNat_ofNat, iv1, iv2]
  omega

theorem scContrib_eq (n : ℕ) (c : BitVec 32) (x : ℕ → EReal) (f : Fin 128) :
    scContrib (BitVec.ofNat 32 (n * 384)) c x f.val = contrib n c (fun f => x f.val) f := by
  unfold scContrib contrib
  rw [← BitVec.ofNat_add]

theorem scPick_at (op : Vec Ideal S1x16 .i32) (a b : Vec Ideal S16 .f32) (l : Fin 16) :
    k1_pay8 (F := Ideal) op a b (ix1 l) = if op (ix2 (0 : Fin 1) l) = 0#32 then a (ix1 l) else b (ix1 l) := by
  pointwise [k1_pay8]
  exact pick_eq _ _ _

theorem opRow_at (op : IVec S16x16 32) (j : Fin k1_t2_loop.trips) (l : Fin 16) (j' : Fin 16) (hj : j'.val = j.val) :
    op ((Rect.unit (s := S16x16) (k1_off3 j) S1x16.size (k1_off3_inb j)).emb (ix2 (0 : Fin 1) l)) = op (ix2 j' l) := by
  refine congrArg op ?_
  funext a
  apply Fin.ext
  refine (ValueKit.rect_emb_unit_val _ _ _ _ _).trans ?_
  refine (congrArg (· + _) (congrFun (off3_eq j) a)).trans ?_
  fin_cases a
  · show j.val + 0 = j'.val; omega
  · show 0 + l.val = l.val; omega

theorem scGroup_at (i : grid1.Coords) (k : Fin k1_t1_loop.trips) (x : FVec Ideal S128x16 .f32) (op : IVec S16x16 32) (j : Fin k1_t2_loop.trips)
    (l : Fin 16) (j' : Fin 16) (hj : j'.val = j.val) :
    scGroup i k x op j (ix1 l) = if op (ix2 j' l) = 0#32 then colMin ((768 + (rowIx i k).val) * 256 + (16 * j.val + l.val)) (fun f => x (ix2 f l))
      else colMax ((768 + (rowIx i k).val) * 256 + (16 * j.val + l.val)) (fun f => x (ix2 f l)) := by
  have hr := (rowIx i k).isLt
  have hj' := lt_of_lt_of_eq j.isLt trips2
  have hl := l.isLt
  have ex : (fun f : Fin 128 => lane x l f.val) = fun f => x (ix2 f l) := funext fun f => dif_pos f.isLt
  unfold scGroup
  rw [scPick_at, opRow_at op j l j' hj, scMin_at _ _ _ _ le_rfl, scMax_at _ _ _ _ le_rfl, scCtr_at, trips3, ← ex]
  rw [accMin_eq (n := (768 + (rowIx i k).val) * 256 + (16 * j.val + l.val)) (by omega) (by omega) (fun f => lane x l f.val) _ (scContrib_eq _ _ _),
    accMax_eq (n := (768 + (rowIx i k).val) * 256 + (16 * j.val + l.val)) (by omega) (by omega) (fun f => lane x l f.val) _ (scContrib_eq _ _ _)]

theorem scOut_at (X : FVec Ideal S256x128x16 .f32) (OP : IVec S16x16 32) (b o : Fin 256) :
    scOut X OP (ix2 b o)
      = if OP (ix2 (⟨o.val / 16, by omega⟩ : Fin 16) (⟨o.val % 16, by omega⟩ : Fin 16)) = 0#32
        then colMin ((768 + b.val) * 256 + o.val) (fun f => X (ix3 b f (⟨o.val % 16, by omega⟩ : Fin 16)))
        else colMax ((768 + b.val) * 256 + o.val) (fun f => X (ix3 b f (⟨o.val % 16, by omega⟩ : Fin 16))) := by
  have e1 : (lane16 (o.val % 16) (Nat.mod_lt _ (by decide))) = ix1 (⟨o.val % 16, by omega⟩ : Fin 16) := by
    funext a; fin_cases a; rfl
  have e2 : 16 * (o.val / 16) + o.val % 16 = o.val := by omega
  have ex : (fun f : Fin 128 => xRow X b (ix2 f (⟨o.val % 16, by omega⟩ : Fin 16))) = fun f => X (ix3 b f (⟨o.val % 16, by omega⟩ : Fin 16)) :=
    funext fun f => congrArg X (by funext a; fin_cases a <;> rfl)
  have h := scGroup_at (taskOf b) (tripOf b) (xRow X b) OP ⟨o.val / 16, by rw [trips2]; omega⟩ ⟨o.val % 16, by omega⟩ ⟨o.val / 16, by omega⟩ rfl
  rw [rowIx_taskOf, show 16 * ((⟨o.val / 16, by rw [trips2]; omega⟩ : Fin k1_t2_loop.trips) : ℕ) + ((⟨o.val % 16, by omega⟩ : Fin 16) : ℕ) = o.val from e2, ex] at h
  exact (congrArg (scGroup (taskOf b) (tripOf b) (xRow X b) OP ⟨o.val / 16, by rw [trips2]; omega⟩) e1).trans h

end Cert.Proof.Sc

end
-- ==== Proof.KVal.lean ====
/-
  The kernel's result, element by element: the rows of the TensorCore's array and the rows of the SparseCore's, put together.
-/
module

public import proofs.«01_k».proof.Proof.Main
public import proofs.«01_k».proof.Proof.TcVal
public import proofs.«01_k».proof.Proof.ScVal

@[expose] public section

noncomputable section

namespace Cert.Proof.Sc

open Cert.KernelIdeal Cert.KernelIdeal.Gen
open Idealize.ShloMosaic Idealize.ShloMosaic.TcCoe Idealize.SL.Sem

/-! ## The operands -/

/-- The features of the first 768 rows, and of the others, one copy per lane. -/
def tcFeat (x : FVec Ideal S1024x128 .f32) : FVec Ideal S768x128 .f32 := extractStridedSlice S768x128 ![0, 0] x slices_S1024x128_S768x128_0_0
def scFeats (x : FVec Ideal S1024x128 .f32) : FVec Ideal S256x128x16 .f32 :=
  broadcastInDim S256x128x16 ![0, 1, 2] bcast_S256x128x1_S256x128x16_0_1_2 (broadcastInDim S256x128x1 ![0, 1] bcast_S256x128_S256x128x1_0_1
    (extractStridedSlice S256x128 ![768, 0] x slices_S1024x128_S256x128_768_0))
/-- The operators, in one row and in sixteen. -/
def opRow (op : IVec S256 32) : IVec S1x256 32 := shapeCast S1x256 op shapeCasts_S256_S1x256
def opRows (op : IVec S256 32) : IVec S16x16 32 := shapeCast S16x16 op shapeCasts_S256_S16x16

/-- The two arrays, one on the other. -/
def joinR (a : FVec Ideal S768x256 .f32) (b : FVec Ideal S256x256 .f32) : FVec Ideal S1024x256 .f32 :=
  concatenate S1024x256 0 [⟨S768x256, a⟩, ⟨S256x256, b⟩] concatenates_S768x256_S256x256_S1024x256_d0

theorem tcFeat_at (x : FVec Ideal S1024x128 .f32) (b : Fin 768) (f : Fin 128) : tcFeat x (ix2 b f) = x (ix2 (⟨b.val, by omega⟩ : Fin 1024) f) := by
  pointwise [tcFeat]
theorem scFeats_at (x : FVec Ideal S1024x128 .f32) (b : Fin 256) (f : Fin 128) (l : Fin 16) :
    scFeats x (ix3 b f l) = x (ix2 (⟨768 + b.val, by omega⟩ : Fin 1024) f) := by
  pointwise [scFeats]
theorem opOne_at (op : IVec S256 32) (o : Fin 256) : opRow op (ix2 0 o) = op (ix1 o) := by
  pointwise [opRow]
theorem opRows_at (op : IVec S256 32) (o : Fin 256) :
    opRows op (ix2 (⟨o.val / 16, by omega⟩ : Fin 16) (⟨o.val % 16, by omega⟩ : Fin 16)) = op (ix1 o) := by
  pointwise [opRows]

theorem joinR_lo (a : FVec Ideal S768x256 .f32) (b : FVec Ideal S256x256 .f32) (r : Fin 1024) (o : Fin 256) (h : r.val < 768) :
    joinR a b (ix2 r o) = a (ix2 (⟨r.val, h⟩ : Fin 768) o) := by
  pointwise [joinR]
  simp [h]
theorem joinR_hi (a : FVec Ideal S768x256 .f32) (b : FVec Ideal S256x256 .f32) (r : Fin 1024) (o : Fin 256) (h : ¬ r.val < 768) :
    joinR a b (ix2 r o) = b (ix2 (⟨r.val - 768, by omega⟩ : Fin 256) o) := by
  pointwise [joinR]
  simp [h]

/-! ## The result -/

/-- The kernel's array, of its features and operators. -/
def kernelR (x : FVec Ideal S1024x128 .f32) (op : IVec S256 32) : FVec Ideal S1024x256 .f32 :=
  joinR (tcG (tcFeat x) (opRow op)) (scOut (scFeats x) (opRows op))

theorem kernelR_at (x : FVec Ideal S1024x128 .f32) (op : IVec S256 32) (b : Fin 1024) (o : Fin 256) :
    (kernelR x op (ix2 b o) : EReal) = result x op b o := by
  unfold kernelR
  by_cases h : b.val < 768
  · rw [joinR_lo _ _ b o h]
    show (if opRow op (ix2 0 o) = 0#32 then colMin (b.val * 256 + o.val) (fun f => tcFeat x (ix2 (⟨b.val, h⟩ : Fin 768) f))
      else colMax (b.val * 256 + o.val) (fun f => tcFeat x (ix2 (⟨b.val, h⟩ : Fin 768) f))) = _
    rw [opOne_at, funext fun f => tcFeat_at x ⟨b.val, h⟩ f]
    rfl
  · rw [joinR_hi _ _ b o h, scOut_at, opRows_at, funext fun f => scFeats_at x (⟨b.val - 768, by omega⟩ : Fin 256) f _]
    have e : 768 + (b.val - 768) = b.val := by omega
    have e' : (⟨768 + (b.val - 768), by omega⟩ : Fin 1024) = b := Fin.ext e
    show (if op (ix1 o) = 0#32 then colMin ((768 + (b.val - 768)) * 256 + o.val) (fun f => x (ix2 (⟨768 + (b.val - 768), by omega⟩ : Fin 1024) f))
      else colMax ((768 + (b.val - 768)) * 256 + o.val) (fun f => x (ix2 (⟨768 + (b.val - 768), by omega⟩ : Fin 1024) f))) = _
    rw [e', e]
    rfl

/-! ## The valuations -/

variable (m : (ℓ : Loc nD τ sig) → Buf (Elt Ideal) ℓ)

theorem Va_v1 (d : Dev nD) : Va m d main_v1 = tcFeat (m (d, r0)) := by
  show Wa m d (Proc.devRef .tc main_v1) = _
  unfold Wa
  refine (StableHlo.unary_result _ _ _ _ _ _).trans (congrArg tcFeat ?_)
  exact StableHlo.reshape_result_ne _ _ _ _ _ _ _ (by decide)
theorem Va_v0 (d : Dev nD) : Va m d main_v0 = opRow (m (d, r3)) := by
  show Wa m d (Proc.devRef .tc main_v0) = _
  unfold Wa
  refine (StableHlo.unary_result_ne _ _ _ _ _ _ (by decide)).trans ?_
  exact StableHlo.reshape_result _ _ _ _ _ _ _

theorem Wb_arg0 (d : Dev nD) : Wb m d r0 = m (d, r0) := by
  unfold Wb Wa
  rw [Function.update_of_ne (fun e => absurd (Proc.devRef_injective _ e) (by decide))]
  exact (StableHlo.unary_result_ne _ _ _ _ _ _ (by decide)).trans (StableHlo.reshape_result_ne _ _ _ _ _ _ _ (by decide))
theorem Wb_arg3 (d : Dev nD) : Wb m d r3 = m (d, r3) := by
  unfold Wb Wa
  rw [Function.update_of_ne (fun e => absurd (Proc.devRef_injective _ e) (by decide))]
  exact (StableHlo.unary_result_ne _ _ _ _ _ _ (by decide)).trans (StableHlo.reshape_result_ne _ _ _ _ _ _ _ (by decide))

theorem op3_at (W : Valuation τ sig (Elt Ideal)) : (op3.result W (Proc.devRef .tc main_v3) : FVec Ideal S256x128 .f32)
    = extractStridedSlice S256x128 ![768, 0] (W r0 : FVec Ideal S1024x128 .f32) slices_S1024x128_S256x128_768_0 := StableHlo.unary_result _ _ _ _ _ _
theorem op4_at (W : Valuation τ sig (Elt Ideal)) : (op4.result W (Proc.devRef .tc main_v4) : FVec Ideal S256x128x1 .f32)
    = broadcastInDim S256x128x1 ![0, 1] bcast_S256x128_S256x128x1_0_1 (W (Proc.devRef .tc main_v3) : FVec Ideal S256x128 .f32) :=
  StableHlo.unary_result _ _ _ _ _ _
theorem op5_at (W : Valuation τ sig (Elt Ideal)) : (op5.result W b5 : FVec Ideal S256x128x16 .f32)
    = broadcastInDim S256x128x16 ![0, 1, 2] bcast_S256x128x1_S256x128x16_0_1_2 (W (Proc.devRef .tc main_v4) : FVec Ideal S256x128x1 .f32) :=
  StableHlo.unary_result _ _ _ _ _ _

theorem Xc_eq (d : Dev nD) : Xc m d = scFeats (m (d, r0)) := by
  have e3 := op3_at (Wb m d)
  have e4 := op4_at (op3.result (Wb m d))
  have e5 := op5_at (op4.result (op3.result (Wb m d)))
  rw [e3] at e4
  rw [e4, Wb_arg0] at e5
  unfold Xc Wc
  exact (StableHlo.reshape_result_ne _ _ _ _ _ _ _ (by decide)).trans e5
theorem OPc_eq (d : Dev nD) : OPc m d = opRows (m (d, r3)) := by
  unfold OPc Wc
  refine (StableHlo.reshape_result _ _ _ _ _ _ _).trans (congrArg opRows ?_)
  refine (StableHlo.unary_result_ne _ _ _ _ _ _ (by decide)).trans ((StableHlo.unary_result_ne _ _ _ _ _ _ (by decide)).trans
    ((StableHlo.unary_result_ne _ _ _ _ _ _ (by decide)).trans (Wb_arg3 m d)))

theorem Wd_v2 (d : Dev nD) : Wd m d b2 = tcG (tcFeat (m (d, r0))) (opRow (m (d, r3))) := by
  unfold Wd
  rw [Function.update_of_ne (fun e => absurd (Proc.devRef_injective _ e) (by decide))]
  unfold Wc
  refine (StableHlo.reshape_result_ne _ _ _ _ _ _ _ (by decide)).trans ((StableHlo.unary_result_ne _ _ _ _ _ _ (by decide)).trans
    ((StableHlo.unary_result_ne _ _ _ _ _ _ (by decide)).trans ((StableHlo.unary_result_ne _ _ _ _ _ _ (by decide)).trans ?_)))
  refine (Function.update_self _ _ _).trans ((tcRes_eq (Va m) d).trans ?_)
  rw [Va_v1, Va_v0]
theorem Wd_v7 (d : Dev nD) : Wd m d b7 = scOut (scFeats (m (d, r0))) (opRows (m (d, r3))) := by
  unfold Wd
  refine (Function.update_self _ _ _).trans ?_
  rw [Xc_eq, OPc_eq]

theorem We_v8 (d : Dev nD) : We m d (Proc.devRef .tc main_v8) = kernelR (m (d, r0)) (m (d, r3)) := by
  unfold We
  refine (StableHlo.binary_result _ _ _ _ _ _ _ _).trans ?_
  exact (congrArg (fun z => joinR z _) (Wd_v2 m d)).trans (congrArg (fun z => joinR _ z) (Wd_v7 m d))

end Cert.Proof.Sc

end

end
-- ==== Proof.Gumbel.lean ====
/-
  The number the reference adds to a category's logit: the negated logarithm of the negated logarithm of a point of the unit interval made of
  23 drawn bits. It is a real number, and grows strictly with the bits.
-/
module

public import Idealize.ShloMosaic.Lib.Pointwise
public import Mathlib.Analysis.SpecialFunctions.Log.Basic

@[expose] public section

noncomputable section

namespace Cert.Proof.Sc

open Idealize Idealize.ShloMosaic

/-- The smallest normal number. -/
def tinyR : ℝ := (2 : ℝ) ^ (-126 : ℤ)

/-- The point of the unit interval of `n` bits. -/
def pointR (n : ℕ) : ℝ := (n : ℝ) / 2 ^ 23 * (1 - tinyR) + tinyR
def gumR (n : ℕ) : ℝ := -Real.log (-Real.log (pointR n))

theorem tinyR_pos : 0 < tinyR := by unfold tinyR; positivity
theorem tinyR_lt : tinyR < 1 := by
  unfold tinyR
  exact zpow_lt_one_of_neg₀ (by norm_num) (by norm_num)

theorem pointR_ge (n : ℕ) : tinyR ≤ pointR n := by
  have h : 0 ≤ (n : ℝ) / 2 ^ 23 * (1 - tinyR) := mul_nonneg (by positivity) (sub_nonneg.mpr tinyR_lt.le)
  unfold pointR; linarith
theorem pointR_pos (n : ℕ) : 0 < pointR n := lt_of_lt_of_le tinyR_pos (pointR_ge n)
theorem pointR_lt {n : ℕ} (h : n < 2 ^ 23) : pointR n < 1 := by
  have h1 : (n : ℝ) / 2 ^ 23 < 1 := by
    rw [div_lt_one (by positivity)]
    exact_mod_cast h
  have h2 : (n : ℝ) / 2 ^ 23 * (1 - tinyR) < 1 * (1 - tinyR) := mul_lt_mul_of_pos_right h1 (sub_pos.mpr tinyR_lt)
  unfold pointR; linarith
theorem pointR_mono {a b : ℕ} (h : a < b) : pointR a < pointR b := by
  have h1 : (a : ℝ) / 2 ^ 23 < (b : ℝ) / 2 ^ 23 := div_lt_div_of_pos_right (by exact_mod_cast h) (by positivity)
  have h2 := mul_lt_mul_of_pos_right h1 (sub_pos.mpr tinyR_lt)
  unfold pointR; linarith
theorem logPoint_neg {n : ℕ} (h : n < 2 ^ 23) : 0 < -Real.log (pointR n) := neg_pos.mpr (Real.log_neg (pointR_pos n) (pointR_lt h))

theorem gumR_lt {a b : ℕ} (hab : a < b) (hb : b < 2 ^ 23) : gumR a < gumR b := by
  have h1 : Real.log (pointR a) < Real.log (pointR b) := Real.log_lt_log (pointR_pos a) (pointR_mono hab)
  exact neg_lt_neg (Real.log_lt_log (logPoint_neg hb) (neg_lt_neg h1))
theorem gumR_le_iff {a b : ℕ} (ha : a < 2 ^ 23) (hb : b < 2 ^ 23) : gumR a ≤ gumR b ↔ a ≤ b := by
  constructor
  · intro h
    by_contra hc
    exact absurd (gumR_lt (not_le.mp hc) ha) (not_lt.mpr h)
  · intro h
    rcases Nat.lt_or_eq_of_le h with h | h
    · exact (gumR_lt h hb).le
    · rw [h]

/-- The reference's number of the 23 bits `u`. -/
def gumB (u : BitVec 32) : EReal :=
  FloatOps.hostNegf (F := Ideal) (φ := .f32) <| FloatOps.hostUnary .log <| FloatOps.hostNegf <| FloatOps.hostUnary .log <|
    FloatOps.maximumf (FloatOps.ofBits .f32 0x00800000#32) <| FloatOps.addf
      (FloatOps.mulf (FloatOps.subf (FloatOps.ofBits .f32 (u ||| 1065353216#32)) (FloatOps.ofBits .f32 0x3F800000#32))
        (FloatOps.subf (FloatOps.ofBits .f32 0x3F800000#32) (FloatOps.ofBits .f32 0x00800000#32)))
      (FloatOps.ofBits .f32 0x00800000#32)

/-- The number of a word with sign 0, exponent `E` and fraction `m`. -/
theorem ieee_pos (w : BitVec 32) (E m : ℕ) (hE : 0 < E) (hE' : E < 255) (hm : m < 2 ^ 23) (e : w.toNat = 2 ^ 23 * E + m) :
    (FloatOps.ofBits (F := Ideal) .f32 w : EReal) = (((2 ^ 23 + (m : ℝ)) * (2 : ℝ) ^ ((E : ℤ) - 150) : ℝ) : EReal) := by
  show Ideal.ieee 8 23 w = _
  have hs : (w.extractLsb' (8 + 23) 1 == 1#1) = false := by
    rw [beq_eq_false_iff_ne]
    intro hc
    have := congrArg BitVec.toNat hc
    rw [BitVec.extractLsb'_toNat, Nat.shiftRight_eq_div_pow, e] at this
    simp at this
    omega
  have hx : (w.extractLsb' 23 8).toNat = E := by
    rw [BitVec.extractLsb'_toNat, Nat.shiftRight_eq_div_pow, e]; omega
  have hf : (w.extractLsb' 0 23).toNat = m := by
    rw [BitVec.extractLsb'_toNat, Nat.shiftRight_eq_div_pow, e]; omega
  unfold Ideal.ieee
  simp only [hs, hx, hf]
  rw [if_neg (by omega), if_neg (by omega)]
  refine congrArg (fun r : ℝ => (r : EReal)) ?_
  rw [if_neg Bool.false_ne_true, one_mul, show ((E : ℤ) - (2 ^ (8 - 1) - 1) - ((23 : ℕ) : ℤ)) = (E : ℤ) - 150 by norm_num; ring]
  norm_num

theorem one_eq : (FloatOps.ofBits (F := Ideal) .f32 0x3F800000#32 : EReal) = ((1 : ℝ) : EReal) :=
  (ieee_pos _ 127 0 (by norm_num) (by norm_num) (by norm_num) (by rfl)).trans (congrArg (fun r : ℝ => (r : EReal)) (by norm_num))
theorem tiny_eq : (FloatOps.ofBits (F := Ideal) .f32 0x00800000#32 : EReal) = ((tinyR : ℝ) : EReal) :=
  (ieee_pos _ 1 0 (by norm_num) (by norm_num) (by norm_num) (by rfl)).trans (congrArg (fun r : ℝ => (r : EReal)) (by unfold tinyR; norm_num))

theorem orBits (u : BitVec 32) (h : u.toNat < 2 ^ 23) : (u ||| 1065353216#32).toNat = 2 ^ 23 * 127 + u.toNat := by
  rw [Nat.two_pow_add_eq_or_of_lt h, BitVec.toNat_or, Nat.or_comm]
  rfl

theorem word_eq (u : BitVec 32) (h : u.toNat < 2 ^ 23) :
    (FloatOps.ofBits (F := Ideal) .f32 (u ||| 1065353216#32) : EReal) = ((1 + (u.toNat : ℝ) / 2 ^ 23 : ℝ) : EReal) :=
  (ieee_pos _ 127 u.toNat (by norm_num) (by norm_num) h (orBits u h)).trans (congrArg (fun r : ℝ => (r : EReal)) (by norm_num; ring))

theorem gumB_eq (u : BitVec 32) (h : u.toNat < 2 ^ 23) : gumB u = ((gumR u.toNat : ℝ) : EReal) := by
  have e1 : (FloatOps.maximumf (F := Ideal) (φ := .f32) (FloatOps.ofBits .f32 0x00800000#32) (FloatOps.addf
      (FloatOps.mulf (FloatOps.subf (FloatOps.ofBits .f32 (u ||| 1065353216#32)) (FloatOps.ofBits .f32 0x3F800000#32))
        (FloatOps.subf (FloatOps.ofBits .f32 0x3F800000#32) (FloatOps.ofBits .f32 0x00800000#32)))
      (FloatOps.ofBits .f32 0x00800000#32)) : EReal) = ((pointR u.toNat : ℝ) : EReal) := by
    rw [word_eq u h, one_eq, tiny_eq]
    show max ((tinyR : ℝ) : EReal) ((((1 + (u.toNat : ℝ) / 2 ^ 23 : ℝ) : EReal) - ((1 : ℝ) : EReal)) * (((1 : ℝ) : EReal) - ((tinyR : ℝ) : EReal)) + ((tinyR : ℝ) : EReal)) = _
    rw [← EReal.coe_sub, ← EReal.coe_sub, ← EReal.coe_mul, ← EReal.coe_add, add_sub_cancel_left]
    exact max_eq_right (EReal.coe_le_coe_iff.mpr (pointR_ge u.toNat))
  unfold gumB
  rw [e1]
  show -Ideal.log (-Ideal.log ((pointR u.toNat : ℝ) : EReal)) = _
  have l1 : Ideal.log ((pointR u.toNat : ℝ) : EReal) = ((Real.log (pointR u.toNat) : ℝ) : EReal) := if_neg (not_le.mpr (pointR_pos _))
  have l2 : Ideal.log ((-Real.log (pointR u.toNat) : ℝ) : EReal) = ((Real.log (-Real.log (pointR u.toNat)) : ℝ) : EReal) :=
    if_neg (not_le.mpr (logPoint_neg h))
  rw [l1, ← EReal.coe_neg, l2, ← EReal.coe_neg]
  rfl

/-- With one real logit for all, the numbers compare as their bits. -/
theorem gum_le_iff {u v : BitVec 32} (hu : u.toNat < 2 ^ 23) (hv : v.toNat < 2 ^ 23) (l : ℝ) :
    gumB u + (l : EReal) ≤ gumB v + (l : EReal) ↔ u ≤ v := by
  rw [gumB_eq u hu, gumB_eq v hv, ← EReal.coe_add, ← EReal.coe_add, EReal.coe_le_coe_iff, add_le_add_iff_right, gumR_le_iff hu hv]
  exact Iff.rfl

end Cert.Proof.Sc

end

end
-- ==== Proof.RefHash.lean ====
/-
  The reference's draws: the same counter hash, written with the host's operations.
-/
module

public import proofs.«01_k».proof.Proof.Gen.ReferenceIdeal.Run
public import proofs.«01_k».proof.Proof.Gumbel
public import proofs.«01_k».proof.Proof.Lanes

@[expose] public section

noncomputable section

namespace Cert.Proof.Sc

open Idealize Idealize.ShloMosaic
open Cert.ReferenceIdeal Cert.ReferenceIdeal.Gen Cert.ReferenceIdeal.Value

abbrev RV := IVec S1024x256x128x3 32

/-- One word in every place. -/
def kst (c : BitVec 32) : RV := broadcastInDim S1024x256x128x3 ![] bcast_S_S1024x256x128x3 (constantI S_ 32 c)

def mixR (d e : BitVec 32) (k : RV → RV → RV) (a b : RV) : RV :=
  k (addi a b) (xori (addi a b) (ori (Host.shli b (kst d)) (Host.shrui b (kst e))))
def injR (c d : BitVec 32) (k : RV → RV → RV) (a b : RV) : RV := k (addi a (kst c)) (addi b (kst d))
def oddR (k : RV → RV → RV) : RV → RV → RV := mixR 13#32 19#32 <| mixR 15#32 17#32 <| mixR 26#32 6#32 <| mixR 6#32 26#32 k
def evenR (k : RV → RV → RV) : RV → RV → RV := mixR 17#32 15#32 <| mixR 29#32 3#32 <| mixR 16#32 16#32 <| mixR 24#32 8#32 k
def roundsR (k : RV → RV → RV) : RV → RV → RV :=
  oddR <| injR 2518116175#32 3332384946#32 <| evenR <| injR 3332384945#32 1264997414#32 <| oddR <| injR 1264997412#32 2518116178#32 <|
    evenR <| injR 2518116175#32 3332384949#32 <| oddR <| injR 3332384945#32 1264997417#32 k

/-- The counters. -/
def ctrR : RV := shapeCast _ (iotaInDim S100663296 32 0) shapeCasts_S100663296_S1024x256x128x3

/-- The bits drawn. -/
def drawR : RV :=
  roundsR (fun a b => Host.shrui (xori a b) (kst 9#32)) (addi (kst 0#32) (kst 1264997412#32)) (addi ctrR (kst 2518116175#32))

/-- The logarithms of the counts of each node's operator. -/
def logitR (C : FVec Ideal S256x2x128x3 .f32) (op : IVec S256 32) : FVec Ideal S256x128x3 .f32 :=
  Host.log (Host.gather gather_S256x2x128x3_S256x2_S256x128x3_12_01_n_n_01_1_111283 C (concatenate S256x2 1 [⟨S256x1, (broadcastInDim S256x1 ![0] bcast_S256_S256x1_0 (select (cmpi .slt (iotaInDim S256 32 0) (broadcastInDim S256 ![] bcast_S_S256 (constantI S_ 32 0#32))) (addi (iotaInDim S256 32 0) (broadcastInDim S256 ![] bcast_S_S256 (constantI S_ 32 256#32))) (iotaInDim S256 32 0)))⟩, ⟨S256x1, (broadcastInDim S256x1 ![0] bcast_S256_S256x1_0 (select (cmpi .slt op (broadcastInDim S256 ![] bcast_S_S256 (constantI S_ 32 0#32))) (addi op (broadcastInDim S256 ![] bcast_S_S256 (constantI S_ 32 2#32))) op))⟩] concatenates_S256x1_S256x1_S256x2_d1))

/-- The numbers the categories are compared by, of the bits drawn and the logits. -/
def scoreR (u : RV) (l : FVec Ideal S256x128x3 .f32) : FVec Ideal S1024x256x128x3 .f32 :=
  addf (Host.negf (Host.log (Host.negf (Host.log (maximumf (broadcastInDim S1024x256x128x3 ![] bcast_S_S1024x256x128x3 (constant S_ .f32 0x00800000#32)) (addf (mulf (subf (bitcastToFloat (F := Ideal) .f32 (ori u (kst 1065353216#32))) (broadcastInDim S1024x256x128x3 ![] bcast_S_S1024x256x128x3 (constant S_ .f32 0x3F800000#32))) (broadcastInDim S1024x256x128x3 ![] bcast_S_S1024x256x128x3 (subf (constant S_ .f32 0x3F800000#32) (constant S_ .f32 0x00800000#32)))) (broadcastInDim S1024x256x128x3 ![] bcast_S_S1024x256x128x3 (constant S_ .f32 0x00800000#32))))))))
    (broadcastInDim S1024x256x128x3 ![0, 1, 2, 3] bcast_S1x256x128x3_S1024x256x128x3_0_1_2_3 (broadcastInDim S1x256x128x3 ![1, 2, 3] bcast_S256x128x3_S1x256x128x3_1_2_3 l))

section
attribute [local irreducible] addi xori ori Host.shli Host.shrui broadcastInDim constantI shapeCast iotaInDim addf Host.negf Host.log maximumf mulf subf
  bitcastToFloat constant Host.gather concatenate select cmpi

theorem score_eq (V0 : Valuation τ sig (Elt Ideal)) :
    res_main_v204 V0 = scoreR drawR (logitR (V0 (Proc.devRef .tc main_arg1)) (V0 (Proc.devRef .tc main_arg3))) := rfl
end

/-! ## Place by place -/

def LaneR (c : RV → RV → RV) (e : BitVec 32 → BitVec 32 → BitVec 32) : Prop := ∀ a b y, c a b y = e (a y) (b y)

theorem hshl_at (x : RV) (d : BitVec 32) (h : d.toNat < 32) (y : S1024x256x128x3.Idx) : Host.shli x (kst d) y = x y <<< d.toNat := by
  show (if d.toNat < 32 then x y <<< d else _) = _
  rw [if_pos h]; rfl
theorem hshr_at (x : RV) (d : BitVec 32) (h : d.toNat < 32) (y : S1024x256x128x3.Idx) : Host.shrui x (kst d) y = x y >>> d.toNat := by
  show (if d.toNat < 32 then x y >>> d else _) = _
  rw [if_pos h]; rfl

theorem LaneR.mix {d e : BitVec 32} {c : RV → RV → RV} {r : BitVec 32 → BitVec 32 → BitVec 32} (h : LaneR c r)
    (hd : d.toNat < 32) (he : e.toNat < 32) : LaneR (mixR d e c) (mixB d.toNat e.toNat r) := by
  intro a b y
  refine (h _ _ y).trans ?_
  show r (a y + b y) ((a y + b y) ^^^ (Host.shli b (kst d) y ||| Host.shrui b (kst e) y)) = _
  rw [hshl_at b d hd, hshr_at b e he, BitVec.xor_comm]
  rfl
theorem LaneR.inj {d e : BitVec 32} {c : RV → RV → RV} {r : BitVec 32 → BitVec 32 → BitVec 32} (h : LaneR c r) :
    LaneR (injR d e c) (injB d e r) := fun _ _ y => h _ _ y
theorem LaneR.odd {c : RV → RV → RV} {r : BitVec 32 → BitVec 32 → BitVec 32} (h : LaneR c r) : LaneR (oddR c) (oddB r) :=
  (((h.mix (by decide) (by decide)).mix (by decide) (by decide)).mix (by decide) (by decide)).mix (by decide) (by decide)
theorem LaneR.even {c : RV → RV → RV} {r : BitVec 32 → BitVec 32 → BitVec 32} (h : LaneR c r) : LaneR (evenR c) (evenB r) :=
  (((h.mix (by decide) (by decide)).mix (by decide) (by decide)).mix (by decide) (by decide)).mix (by decide) (by decide)
theorem LaneR.rounds {c : RV → RV → RV} {r : BitVec 32 → BitVec 32 → BitVec 32} (h : LaneR c r) : LaneR (roundsR c) (roundsB r) :=
  h.inj.odd.inj.even.inj.odd.inj.even.inj.odd

theorem drawR_at (y : S1024x256x128x3.Idx) : drawR y = drawB (ctrR y) := by
  have h : LaneR (fun a b => Host.shrui (xori a b) (kst 9#32)) fun a b => (a ^^^ b) >>> 9 :=
    fun a b y => hshr_at (xori a b) 9#32 (by decide) y
  refine (h.rounds _ _ y).trans ?_
  show roundsB _ (0#32 + 1264997412#32) _ = _
  rw [BitVec.zero_add]
  rfl

theorem ctrR_at (b : Fin 1024) (o : Fin 256) (f : Fin 128) (k : Fin 3) :
    ctrR (ix4 b o f k) = BitVec.ofNat 32 ((b.val * 256 + o.val) * 384 + 3 * f.val + k.val) := by
  pointwise [ctrR]
  congr 1
  omega

theorem score_at (u : RV) (l : FVec Ideal S256x128x3 .f32) (b : Fin 1024) (o : Fin 256) (f : Fin 128) (k : Fin 3) :
    scoreR u l (ix4 b o f k) = gumB (u (ix4 b o f k)) + l (ix3 o f k) := by
  have e : (broadcastInDim S1024x256x128x3 ![0, 1, 2, 3] bcast_S1x256x128x3_S1024x256x128x3_0_1_2_3
      (broadcastInDim S1x256x128x3 ![1, 2, 3] bcast_S256x128x3_S1x256x128x3_1_2_3 l)) (ix4 b o f k) = l (ix3 o f k) := by
    pointwise
  exact congrArg (fun z : EReal => gumB (u (ix4 b o f k)) + z) e

end Cert.Proof.Sc

end

end
-- ==== Proof.RefVal.lean ====
/-
  The reference's result, element by element: the same smallest or largest contribution as the kernel's, where every count is a positive number
  and a node's counts agree across the three categories.
-/
module

public import proofs.«01_k».proof.Proof.RefHash
public import proofs.«01_k».proof.Proof.Facts
public import proofs.«01_k».proof.Proof.Spec

@[expose] public section

noncomputable section

namespace Cert.Proof.Sc

open Idealize Idealize.ShloMosaic
open Cert.ReferenceIdeal Cert.ReferenceIdeal.Gen Cert.ReferenceIdeal.Value

/-! ## The logits -/

theorem siIdx_congr {s si t : Shape} (d : GatherDims s si t) {j j' : t.Idx} (h : ∀ a ∈ d.batchDims, j a = j' a) (c : Fin d.startIndexMap.length) :
    d.siIdx j c = d.siIdx j' c := by
  funext b
  unfold GatherDims.siIdx
  split
  · rfl
  · unfold GatherDims.siCoord
    show Fin.cast _ (j _) = Fin.cast _ (j' _)
    rw [h _ (List.getElem_mem _)]

theorem start_congr {s si t : Shape} (d : GatherDims s si t) {j j' : t.Idx} (h : ∀ a ∈ d.batchDims, j a = j' a) {w : ℕ} (idx : IVec si w)
    (a : Fin s.rank) : d.start j idx a = d.start j' idx a := by
  unfold GatherDims.start
  split
  · rw [siIdx_congr d h]
  · rfl

abbrev gD := gather_S256x2x128x3_S256x2_S256x128x3_12_01_n_n_01_1_111283

theorem gD_at (idx : IVec S256x2 32) (o : Fin 256) (f : Fin 128) (k : Fin 3) :
    gD.operandIdx (ix3 o f k) idx = ix4 (gD.operandIdx (ix3 o f 0) idx 0) (gD.operandIdx (ix3 o f 0) idx 1) f k := by
  have hb : ∀ a ∈ gD.batchDims, (ix3 o f k : S256x128x3.Idx) a = (ix3 o f 0 : S256x128x3.Idx) a := by
    intro a ha
    have e : a = 0 := by revert a; decide
    subst e; rfl
  have hz : ∀ j : S256x128x3.Idx, ∀ a : Fin 4, a ∈ [0, 1] → gD.batchCoord j a = 0 ∧ gD.offCoord j a = 0 := by
    intro j a ha
    refine ⟨gD.batchCoord_eq_zero j a (List.not_mem_nil), gD.offCoord_eq_zero j a ?_⟩
    rw [GatherDims.mem_sKept]
    exact fun hc => hc.1 ha
  funext a
  match a with
  | ⟨0, _⟩ =>
    apply Fin.ext
    show gD.start _ idx 0 + gD.batchCoord _ 0 + gD.offCoord _ 0 = gD.start _ idx 0 + gD.batchCoord _ 0 + gD.offCoord _ 0
    rw [start_congr gD hb, (hz (ix3 o f k) 0 (by decide)).1, (hz (ix3 o f k) 0 (by decide)).2, (hz (ix3 o f 0) 0 (by decide)).1, (hz (ix3 o f 0) 0 (by decide)).2]
  | ⟨1, _⟩ =>
    apply Fin.ext
    show gD.start _ idx 1 + gD.batchCoord _ 1 + gD.offCoord _ 1 = gD.start _ idx 1 + gD.batchCoord _ 1 + gD.offCoord _ 1
    rw [start_congr gD hb, (hz (ix3 o f k) 1 (by decide)).1, (hz (ix3 o f k) 1 (by decide)).2, (hz (ix3 o f 0) 1 (by decide)).1, (hz (ix3 o f 0) 1 (by decide)).2]
  | ⟨2, _⟩ =>
    apply Fin.ext
    show 0 + 0 + f.val = f.val
    omega
  | ⟨3, _⟩ =>
    apply Fin.ext
    show 0 + 0 + k.val = k.val
    omega

/-- Every count is a positive number, and a node's counts agree across the categories. -/
def Uniform (C : FVec Ideal S256x2x128x3 .f32) : Prop :=
  ∀ (o : Fin 256) (p : Fin 2) (f : Fin 128) (k : Fin 3), C (ix4 o p f k) = C (ix4 o p f 0) ∧ (0 : EReal) < C (ix4 o p f k) ∧ (C (ix4 o p f k) : EReal) < ⊤

theorem logit_uniform {C : FVec Ideal S256x2x128x3 .f32} (hC : Uniform C) (op : IVec S256 32) (o : Fin 256) (f : Fin 128) :
    ∃ r : ℝ, ∀ k : Fin 3, logitR C op (ix3 o f k) = (r : EReal) := by
  unfold logitR
  generalize concatenate S256x2 1 _ _ = idx
  obtain ⟨p, q, e⟩ : ∃ (p : Fin 256) (q : Fin 2), ∀ k : Fin 3, gD.operandIdx (ix3 o f k) idx = ix4 p q f k := ⟨_, _, fun k => gD_at idx o f k⟩
  have key : ∀ z : EReal, 0 < z → z < ⊤ → ∃ r : ℝ, 0 < r ∧ z = (r : EReal) := by
    intro z h0 h1
    induction z using EReal.rec with
    | bot => exact absurd h0 (by simp)
    | top => exact absurd h1 (by simp)
    | coe r => exact ⟨r, by exact_mod_cast h0, rfl⟩
  obtain ⟨r, r0, er⟩ := key _ (hC p q f 0).2.1 (hC p q f 0).2.2
  refine ⟨Real.log r, fun k => ?_⟩
  have e1 : (C (gD.operandIdx (ix3 o f k) idx) : EReal) = (r : EReal) := ((congrArg C (e k)).trans (hC p q f k).1).trans er
  exact (congrArg Ideal.log e1).trans (if_neg (not_le.mpr r0))

/-! ## The categories -/

/-- The category of the largest score, the first of equals. -/
def catR (s : FVec Ideal S1024x256x128x3 .f32) : IVec S1024x256x128 32 :=
  let s0 : FVec Ideal S1024x256x128 .f32 := shapeCast _ (extractStridedSlice S1024x256x128x1 ![0, 0, 0, 0] s slices_S1024x256x128x3_S1024x256x128x1_0_0_0_0) shapeCasts_S1024x256x128x1_S1024x256x128
  let s1 : FVec Ideal S1024x256x128 .f32 := shapeCast _ (extractStridedSlice S1024x256x128x1 ![0, 0, 0, 1] s slices_S1024x256x128x3_S1024x256x128x1_0_0_0_1) shapeCasts_S1024x256x128x1_S1024x256x128
  let s2 : FVec Ideal S1024x256x128 .f32 := shapeCast _ (extractStridedSlice S1024x256x128x1 ![0, 0, 0, 2] s slices_S1024x256x128x3_S1024x256x128x1_0_0_0_2) shapeCasts_S1024x256x128x1_S1024x256x128
  select (andi (cmpf .oge s0 s1) (cmpf .oge s0 s2)) (broadcastInDim S1024x256x128 ![] bcast_S_S1024x256x128 (constantI S_ 32 0#32)) (select (cmpf .oge s1 s2) (broadcastInDim S1024x256x128 ![] bcast_S_S1024x256x128 (constantI S_ 32 1#32)) (broadcastInDim S1024x256x128 ![] bcast_S_S1024x256x128 (constantI S_ 32 2#32)))

/-- The categories with a fix where a reduction says so. -/
def fixR (X : IVec S1024x256x128 1) (c : IVec S1024x256x128 32) : IVec S1024x256x128 32 :=
  select (andi X (broadcastInDim S1024x256x128 ![0, 1, 2] bcast_S1024x256x1_S1024x256x128_0_1_2 (broadcastInDim S1024x256x1 ![0, 1] bcast_S1024x256_S1024x256x1_0_1 (Host.reduce IntOp.andi (cmpi .eq c (broadcastInDim S1024x256x128 ![] bcast_S_S1024x256x128 (constantI S_ 32 0#32))) (constantI S_ 1 1#1) reducesTo_S1024x256x128_S1024x256_d2 h_S_)))) (broadcastInDim S1024x256x128 ![] bcast_S_S1024x256x128 (constantI S_ 32 1#32)) c

/-- The values of the categories. -/
def evR (c : IVec S1024x256x128 32) (op : IVec S256 32) (x : FVec Ideal S1024x128 .f32) : FVec Ideal S1024x256x128 .f32 :=
  addf (select (cmpi .eq c (broadcastInDim S1024x256x128 ![] bcast_S_S1024x256x128 (constantI S_ 32 1#32))) (broadcastInDim S1024x256x128 ![0, 1, 2] bcast_S1024x1x128_S1024x256x128_0_1_2 (broadcastInDim S1024x1x128 ![0, 2] bcast_S1024x128_S1024x1x128_0_2 x)) (select (cmpi .eq c (broadcastInDim S1024x256x128 ![] bcast_S_S1024x256x128 (constantI S_ 32 2#32))) (broadcastInDim S1024x256x128 ![0, 1, 2] bcast_S1024x1x128_S1024x256x128_0_1_2 (subf (broadcastInDim S1024x1x128 ![] bcast_S_S1024x1x128 (constant S_ .f32 0x3F800000#32)) (broadcastInDim S1024x1x128 ![0, 2] bcast_S1024x128_S1024x1x128_0_2 x))) (broadcastInDim S1024x256x128 ![] bcast_S_S1024x256x128 (constant S_ .f32 0x00000000#32)))) (select (cmpi .eq c (broadcastInDim S1024x256x128 ![] bcast_S_S1024x256x128 (constantI S_ 32 0#32))) (broadcastInDim S1024x256x128 ![0, 1, 2] bcast_S1x256x1_S1024x256x128_0_1_2 (broadcastInDim S1x256x1 ![1] bcast_S256_S1x256x1_1 (select (cmpi .eq op (broadcastInDim S256 ![] bcast_S_S256 (constantI S_ 32 0#32))) (broadcastInDim S256 ![] bcast_S_S256 (constant S_ .f32 0x41200000#32)) (broadcastInDim S256 ![] bcast_S_S256 (constant S_ .f32 0xC1200000#32))))) (broadcastInDim S1024x256x128 ![] bcast_S_S1024x256x128 (constant S_ .f32 0x00000000#32)))

/-- The result of the values. -/
def outR (e : FVec Ideal S1024x256x128 .f32) (op : IVec S256 32) : FVec Ideal S1024x256 .f32 :=
  select (broadcastInDim S1024x256 ![0, 1] bcast_S1x256_S1024x256_0_1 (broadcastInDim S1x256 ![1] bcast_S256_S1x256_1 (cmpi .eq op (broadcastInDim S256 ![] bcast_S_S256 (constantI S_ 32 0#32))))) (Host.reduce FloatOps.minimumf e (constant S_ .f32 0x7F800000#32) reducesTo_S1024x256x128_S1024x256_d2 h_S_) (Host.reduce FloatOps.maximumf e (constant S_ .f32 0xFF800000#32) reducesTo_S1024x256x128_S1024x256_d2 h_S_)

theorem cat_eq (V0 : Valuation τ sig (Elt Ideal)) : res_main_v219 V0 = catR (res_main_v204 V0) := rfl
theorem fix_eq (V0 : Valuation τ sig (Elt Ideal)) : ∃ X, res_main_v584 V0 = fixR X (res_main_v219 V0) := ⟨_, rfl⟩
theorem ev_eq (V0 : Valuation τ sig (Elt Ideal)) :
    res_main_v608 V0 = evR (res_main_v584 V0) (V0 (Proc.devRef .tc main_arg3)) (V0 (Proc.devRef .tc main_arg0)) := rfl

/-! ## Element by element -/

theorem sel_of {α : Type} (p : Prop) [Decidable p] (a b : α) : Scalar.select (BitVec.ofBool (decide p)) a b = if p then a else b := by
  unfold Scalar.select
  by_cases h : p <;> simp [h]
theorem cmpEq (v w : BitVec 32) : IntOp.cmpi .eq v w = BitVec.ofBool (decide (v = w)) := by
  show BitVec.ofBool (v == w) = _
  congr 1
theorem andOf (p q : Prop) [Decidable p] [Decidable q] :
    BitVec.ofBool (decide p) &&& BitVec.ofBool (decide q) = BitVec.ofBool (decide (p ∧ q)) := by
  by_cases hp : p <;> by_cases hq : q <;> simp [hp, hq]

theorem catR_at (s : FVec Ideal S1024x256x128x3 .f32) (b : Fin 1024) (o : Fin 256) (f : Fin 128) :
    catR s (ix3 b o f) = if (s (ix4 b o f 1) : EReal) ≤ s (ix4 b o f 0) ∧ (s (ix4 b o f 2) : EReal) ≤ s (ix4 b o f 0) then 0#32
      else if (s (ix4 b o f 2) : EReal) ≤ s (ix4 b o f 1) then 1#32 else 2#32 := by
  have h0 : (shapeCast S1024x256x128 (extractStridedSlice S1024x256x128x1 ![0, 0, 0, 0] s slices_S1024x256x128x3_S1024x256x128x1_0_0_0_0) shapeCasts_S1024x256x128x1_S1024x256x128) (ix3 b o f) = s (ix4 b o f 0) := by pointwise
  have h1 : (shapeCast S1024x256x128 (extractStridedSlice S1024x256x128x1 ![0, 0, 0, 1] s slices_S1024x256x128x3_S1024x256x128x1_0_0_0_1) shapeCasts_S1024x256x128x1_S1024x256x128) (ix3 b o f) = s (ix4 b o f 1) := by pointwise
  have h2 : (shapeCast S1024x256x128 (extractStridedSlice S1024x256x128x1 ![0, 0, 0, 2] s slices_S1024x256x128x3_S1024x256x128x1_0_0_0_2) shapeCasts_S1024x256x128x1_S1024x256x128) (ix3 b o f) = s (ix4 b o f 2) := by pointwise
  unfold catR
  dsimp only
  revert h0 h1 h2
  generalize shapeCast S1024x256x128 (extractStridedSlice S1024x256x128x1 ![0, 0, 0, 0] s slices_S1024x256x128x3_S1024x256x128x1_0_0_0_0) shapeCasts_S1024x256x128x1_S1024x256x128 = s0
  generalize shapeCast S1024x256x128 (extractStridedSlice S1024x256x128x1 ![0, 0, 0, 1] s slices_S1024x256x128x3_S1024x256x128x1_0_0_0_1) shapeCasts_S1024x256x128x1_S1024x256x128 = s1
  generalize shapeCast S1024x256x128 (extractStridedSlice S1024x256x128x1 ![0, 0, 0, 2] s slices_S1024x256x128x3_S1024x256x128x1_0_0_0_2) shapeCasts_S1024x256x128x1_S1024x256x128 = s2
  intro h0 h1 h2
  show Scalar.select (BitVec.ofBool (decide ((s1 (ix3 b o f) : EReal) ≤ s0 (ix3 b o f))) &&& BitVec.ofBool (decide ((s2 (ix3 b o f) : EReal) ≤ s0 (ix3 b o f)))) 0#32
    (Scalar.select (BitVec.ofBool (decide ((s2 (ix3 b o f) : EReal) ≤ s1 (ix3 b o f)))) 1#32 2#32) = _
  rw [andOf, sel_of, sel_of, h0, h1, h2]

/-- The category of the element whose counters start at `n`. -/
def catB (n : BitVec 32) : BitVec 32 := if actB n then (if tak2 n then 2#32 else 1#32) else 0#32

theorem cat_draws {C : FVec Ideal S256x2x128x3 .f32} (hC : Uniform C) (op : IVec S256 32) (b : Fin 1024) (o : Fin 256) (f : Fin 128) :
    catR (scoreR drawR (logitR C op)) (ix3 b o f) = catB (BitVec.ofNat 32 ((b.val * 256 + o.val) * 384 + 3 * f.val)) := by
  obtain ⟨r, hr⟩ := logit_uniform hC op o f
  have hs : ∀ k : Fin 3, scoreR drawR (logitR C op) (ix4 b o f k)
      = gumB (drawB (BitVec.ofNat 32 ((b.val * 256 + o.val) * 384 + 3 * f.val) + BitVec.ofNat 32 k.val)) + (r : EReal) := by
    intro k
    rw [score_at, hr, drawR_at, ctrR_at, BitVec.ofNat_add]
  generalize BitVec.ofNat 32 ((b.val * 256 + o.val) * 384 + 3 * f.val) = n at hs ⊢
  have k0 := hs 0
  have k1 := hs 1
  have k2 := hs 2
  rw [show n + BitVec.ofNat 32 (0 : Fin 3).val = n from BitVec.add_zero n] at k0
  rw [catR_at, k0, k1, k2]
  simp only [gum_le_iff (drawB_lt _) (drawB_lt _)]
  show (if drawB (n + 1#32) ≤ drawB n ∧ drawB (n + 2#32) ≤ drawB n then 0#32 else if drawB (n + 2#32) ≤ drawB (n + 1#32) then 1#32 else 2#32) = _
  unfold catB actB tak2
  generalize drawB n = u0
  generalize drawB (n + 1#32) = u1
  generalize drawB (n + 2#32) = u2
  simp only [BitVec.le_def, BitVec.lt_def, Bool.or_eq_true, Bool.and_eq_true, decide_eq_true_eq]
  split_ifs <;> first | rfl | omega

/-! ## The fix, which never applies -/

instance : Std.Commutative (IntOp.andi (w := 1)) := ⟨BitVec.and_comm⟩
instance : Std.Associative (IntOp.andi (w := 1)) := ⟨BitVec.and_assoc⟩

theorem fold_and_zero (g : Fin 128 → BitVec 1) (f : Fin 128) (h : g f = 0#1) : Finset.univ.fold (IntOp.andi (w := 1)) 1#1 g = 0#1 := by
  rw [← Finset.insert_erase (Finset.mem_univ f), Finset.fold_insert (Finset.notMem_erase _ _), h]
  exact BitVec.zero_and

theorem lift3R (h : S1024x256x128.Reduces [2] S1024x256) (b : Fin 1024) (o : Fin 256) (f : Fin 128) : h.lift (ix2 b o) f = ix3 b o f := by
  funext a
  fin_cases a <;> rfl

theorem reducesR : S1024x256x128.Reduces [2] S1024x256 := by decide

theorem fixR_at (X : IVec S1024x256x128 1) (c : IVec S1024x256x128 32) (b : Fin 1024) (o : Fin 256) (f g : Fin 128) (h : c (ix3 b o g) ≠ 0#32) :
    fixR X c (ix3 b o f) = c (ix3 b o f) := by
  have hr : Host.reduce IntOp.andi (cmpi .eq c (broadcastInDim S1024x256x128 ![] bcast_S_S1024x256x128 (constantI S_ 32 0#32))) (constantI S_ 1 1#1)
      reducesTo_S1024x256x128_S1024x256_d2 h_S_ (ix2 b o) = 0#1 := by
    rw [Host.reduce_eq_fold_single IntOp.andi _ _ reducesTo_S1024x256x128_S1024x256_d2 reducesR]
    refine fold_and_zero _ g ?_
    show IntOp.cmpi .eq (c (reducesR.lift (ix2 b o) g)) 0#32 = 0#1
    rw [cmpEq, lift3R, decide_eq_false h]
    rfl
  unfold fixR
  revert hr
  generalize Host.reduce IntOp.andi (cmpi .eq c (broadcastInDim S1024x256x128 ![] bcast_S_S1024x256x128 (constantI S_ 32 0#32))) (constantI S_ 1 1#1)
      reducesTo_S1024x256x128_S1024x256_d2 h_S_ = R
  intro hr
  have e : (broadcastInDim S1024x256x128 ![0, 1, 2] bcast_S1024x256x1_S1024x256x128_0_1_2 (broadcastInDim S1024x256x1 ![0, 1]
      bcast_S1024x256_S1024x256x1_0_1 R)) (ix3 b o f) = 0#1 := (by pointwise : _ = R (ix2 b o)).trans hr
  have e2 : (andi X (broadcastInDim S1024x256x128 ![0, 1, 2] bcast_S1024x256x1_S1024x256x128_0_1_2 (broadcastInDim S1024x256x1 ![0, 1]
      bcast_S1024x256_S1024x256x1_0_1 R))) (ix3 b o f) = 0#1 := (congrArg (fun z => X (ix3 b o f) &&& z) e).trans BitVec.and_zero
  exact (congrArg (fun z => Scalar.select z _ (c (ix3 b o f))) e2).trans (if_neg (by decide))

/-! ## The values -/

theorem zero_eq : (FloatOps.ofBits (F := Ideal) .f32 0x00000000#32 : EReal) = 0 := by
  show Ideal.ofBits .f32 0x00000000#32 = _
  simp [Ideal.ofBits, Ideal.ieee]

/-- The word added where the category is 0. -/
def offB (w : BitVec 32) : BitVec 32 := if w = 0#32 then 0x41200000#32 else 0xC1200000#32

theorem evR_at (c : IVec S1024x256x128 32) (op : IVec S256 32) (x : FVec Ideal S1024x128 .f32) (b : Fin 1024) (o : Fin 256) (f : Fin 128) :
    (evR c op x (ix3 b o f) : EReal) = (if c (ix3 b o f) = 1#32 then (x (ix2 b f) : EReal) else if c (ix3 b o f) = 2#32 then
        FloatOps.subf (F := Ideal) (φ := .f32) (FloatOps.ofBits (F := Ideal) .f32 0x3F800000#32) (x (ix2 b f)) else 0)
      + if c (ix3 b o f) = 0#32 then (FloatOps.ofBits (F := Ideal) .f32 (offB (op (ix1 o))) : EReal) else 0 := by
  have h1 : (broadcastInDim S1024x256x128 ![0, 1, 2] bcast_S1024x1x128_S1024x256x128_0_1_2 (broadcastInDim S1024x1x128 ![0, 2] bcast_S1024x128_S1024x1x128_0_2 x)) (ix3 b o f) = x (ix2 b f) := by pointwise
  have h2 : (broadcastInDim S1024x256x128 ![0, 1, 2] bcast_S1024x1x128_S1024x256x128_0_1_2 (subf (broadcastInDim S1024x1x128 ![] bcast_S_S1024x1x128 (constant S_ .f32 0x3F800000#32)) (broadcastInDim S1024x1x128 ![0, 2] bcast_S1024x128_S1024x1x128_0_2 x))) (ix3 b o f) = FloatOps.subf (F := Ideal) (φ := .f32) (FloatOps.ofBits (F := Ideal) .f32 0x3F800000#32) (x (ix2 b f)) := by pointwise
  have h3 : (broadcastInDim S1024x256x128 ![0, 1, 2] bcast_S1x256x1_S1024x256x128_0_1_2 (broadcastInDim S1x256x1 ![1] bcast_S256_S1x256x1_1 (select (cmpi .eq op (broadcastInDim S256 ![] bcast_S_S256 (constantI S_ 32 0#32))) (broadcastInDim S256 ![] bcast_S_S256 (constant (F := Ideal) S_ .f32 0x41200000#32)) (broadcastInDim S256 ![] bcast_S_S256 (constant S_ .f32 0xC1200000#32))))) (ix3 b o f)
      = Scalar.select (IntOp.cmpi .eq (op (ix1 o)) 0#32) (FloatOps.ofBits (F := Ideal) .f32 0x41200000#32) (FloatOps.ofBits (F := Ideal) .f32 0xC1200000#32) := by pointwise
  have h4 : (Scalar.select (IntOp.cmpi .eq (op (ix1 o)) 0#32) (FloatOps.ofBits (F := Ideal) .f32 0x41200000#32) (FloatOps.ofBits (F := Ideal) .f32 0xC1200000#32) : EReal)
      = FloatOps.ofBits (F := Ideal) .f32 (offB (op (ix1 o))) := by
    rw [cmpEq, sel_of]
    unfold offB
    split <;> rfl
  have h3' := h3.trans h4
  unfold evR
  revert h1 h2 h3'
  generalize (broadcastInDim S1024x256x128 ![0, 1, 2] bcast_S1024x1x128_S1024x256x128_0_1_2 (broadcastInDim S1024x1x128 ![0, 2] bcast_S1024x128_S1024x1x128_0_2 x)) = A
  generalize (broadcastInDim S1024x256x128 ![0, 1, 2] bcast_S1024x1x128_S1024x256x128_0_1_2 (subf (broadcastInDim S1024x1x128 ![] bcast_S_S1024x1x128 (constant S_ .f32 0x3F800000#32)) (broadcastInDim S1024x1x128 ![0, 2] bcast_S1024x128_S1024x1x128_0_2 x))) = B
  generalize (broadcastInDim S1024x256x128 ![0, 1, 2] bcast_S1x256x1_S1024x256x128_0_1_2 (broadcastInDim S1x256x1 ![1] bcast_S256_S1x256x1_1 (select (cmpi .eq op (broadcastInDim S256 ![] bcast_S_S256 (constantI S_ 32 0#32))) (broadcastInDim S256 ![] bcast_S_S256 (constant (F := Ideal) S_ .f32 0x41200000#32)) (broadcastInDim S256 ![] bcast_S_S256 (constant S_ .f32 0xC1200000#32))))) = D
  intro h1 h2 h3'
  rw [← h2, ← h1, ← h3', ← zero_eq]
  show (Scalar.select (IntOp.cmpi .eq (c (ix3 b o f)) 1#32) (A (ix3 b o f)) (Scalar.select (IntOp.cmpi .eq (c (ix3 b o f)) 2#32) (B (ix3 b o f)) (FloatOps.ofBits (F := Ideal) .f32 0x00000000#32)) : EReal)
    + Scalar.select (IntOp.cmpi .eq (c (ix3 b o f)) 0#32) (D (ix3 b o f)) (FloatOps.ofBits (F := Ideal) .f32 0x00000000#32) = _
  rw [cmpEq, cmpEq, cmpEq, sel_of, sel_of, sel_of]

/-- An element's value is its contribution. -/
theorem ev_contrib (c : IVec S1024x256x128 32) (op : IVec S256 32) (x : FVec Ideal S1024x128 .f32) (b : Fin 1024) (o : Fin 256) (f : Fin 128)
    (h : c (ix3 b o f) = catB (BitVec.ofNat 32 ((b.val * 256 + o.val) * 384 + 3 * f.val))) :
    (evR c op x (ix3 b o f) : EReal) = contrib (b.val * 256 + o.val) (offB (op (ix1 o))) (fun f => x (ix2 b f)) f := by
  rw [evR_at, h]
  unfold contrib termF catB
  generalize BitVec.ofNat 32 ((b.val * 256 + o.val) * 384 + 3 * f.val) = n
  cases actB n
  · simp
  · cases tak2 n <;> simp

/-! ## The result -/

theorem minR_at (v : FVec Ideal S1024x256x128 .f32) (b : Fin 1024) (o : Fin 256) :
    Host.reduce FloatOps.minimumf v (constant S_ .f32 0x7F800000#32) reducesTo_S1024x256x128_S1024x256_d2 h_S_ (ix2 b o)
      = Finset.univ.fold (FloatOps.minimumf (F := Ideal) (φ := .f32)) (FloatOps.ofBits (F := Ideal) .f32 0x7F800000#32) fun f : Fin 128 => v (ix3 b o f) := by
  refine (Host.reduce_eq_fold_single _ _ _ reducesTo_S1024x256x128_S1024x256_d2 reducesR _ _).trans ?_
  exact congrArg (fun g : Fin 128 → EReal => Finset.univ.fold _ _ g) (funext fun f => congrArg v (lift3R reducesR b o f))
theorem maxR_at (v : FVec Ideal S1024x256x128 .f32) (b : Fin 1024) (o : Fin 256) :
    Host.reduce FloatOps.maximumf v (constant S_ .f32 0xFF800000#32) reducesTo_S1024x256x128_S1024x256_d2 h_S_ (ix2 b o)
      = Finset.univ.fold (FloatOps.maximumf (F := Ideal) (φ := .f32)) (FloatOps.ofBits (F := Ideal) .f32 0xFF800000#32) fun f : Fin 128 => v (ix3 b o f) := by
  refine (Host.reduce_eq_fold_single _ _ _ reducesTo_S1024x256x128_S1024x256_d2 reducesR _ _).trans ?_
  exact congrArg (fun g : Fin 128 → EReal => Finset.univ.fold _ _ g) (funext fun f => congrArg v (lift3R reducesR b o f))

theorem outR_at (e : FVec Ideal S1024x256x128 .f32) (op : IVec S256 32) (b : Fin 1024) (o : Fin 256) :
    (outR e op (ix2 b o) : EReal) = if op (ix1 o) = 0#32
      then Finset.univ.fold (FloatOps.minimumf (F := Ideal) (φ := .f32)) (FloatOps.ofBits (F := Ideal) .f32 0x7F800000#32) fun f : Fin 128 => e (ix3 b o f)
      else Finset.univ.fold (FloatOps.maximumf (F := Ideal) (φ := .f32)) (FloatOps.ofBits (F := Ideal) .f32 0xFF800000#32) fun f : Fin 128 => e (ix3 b o f) := by
  have h1 := minR_at e b o
  have h2 := maxR_at e b o
  unfold outR
  revert h1 h2
  generalize Host.reduce FloatOps.minimumf e (constant S_ .f32 0x7F800000#32) reducesTo_S1024x256x128_S1024x256_d2 h_S_ = A
  generalize Host.reduce FloatOps.maximumf e (constant S_ .f32 0xFF800000#32) reducesTo_S1024x256x128_S1024x256_d2 h_S_ = B
  intro h1 h2
  rw [← h1, ← h2]
  have h3 : (broadcastInDim S1024x256 ![0, 1] bcast_S1x256_S1024x256_0_1 (broadcastInDim S1x256 ![1] bcast_S256_S1x256_1 (cmpi .eq op (broadcastInDim S256 ![] bcast_S_S256 (constantI S_ 32 0#32))))) (ix2 b o)
      = IntOp.cmpi .eq (op (ix1 o)) 0#32 := by pointwise
  exact (congrArg (fun z => Scalar.select z (A (ix2 b o)) (B (ix2 b o))) h3).trans (pick_eq _ _ _)

/-- The reference's result, of its counts, operators and features. -/
theorem ref_result {C : FVec Ideal S256x2x128x3 .f32} (hC : Uniform C) (op : IVec S256 32) (x : FVec Ideal S1024x128 .f32) (X : IVec S1024x256x128 1)
    (b : Fin 1024) (o : Fin 256) :
    (outR (evR (fixR X (catR (scoreR drawR (logitR C op)))) op x) op (ix2 b o) : EReal) = result x op b o := by
  have hc := fun f => cat_draws hC op b o f
  generalize catR (scoreR drawR (logitR C op)) = c at hc ⊢
  have hN : b.val * 256 + o.val < 262144 := by have := b.isLt; have := o.isLt; omega
  obtain ⟨f0, hf0, ha⟩ := exists_active hN
  have h0 : c (ix3 b o ⟨f0, hf0⟩) ≠ 0#32 := by
    rw [hc]
    show catB (BitVec.ofNat 32 ((b.val * 256 + o.val) * 384 + 3 * f0)) ≠ _
    unfold catB
    rw [ha, if_pos rfl]
    split <;> decide
  have hx := fun f => (fixR_at X c b o f ⟨f0, hf0⟩ h0).trans (hc f)
  generalize fixR X c = c' at hx ⊢
  have he := fun f => ev_contrib c' op x b o f (hx f)
  generalize evR c' op x = e at he ⊢
  rw [outR_at, funext he]
  unfold result colMin colMax offB
  split <;> rfl

end Cert.Proof.Sc

end

end
-- ==== Proof.Values.lean ====
/-
  The kernel's result and the reference's are equal.
-/
module

public import proofs.«01_k».proof.Defs
public import proofs.«01_k».proof.Proof.Frames
public import proofs.«01_k».proof.Proof.KVal
public import proofs.«01_k».proof.Proof.RefVal

@[expose] public section

noncomputable section

namespace Cert.Proof.Sc

open Idealize Idealize.ShloMosaic Idealize.ShloMosaic.TcCoe Idealize.SL.Sem

/-! ## The precondition -/

theorem and_one {p q : BitVec 1} (h : p &&& q = 1#1) : p = 1#1 ∧ q = 1#1 := by
  revert p q; decide
theorem of_ofBool {p : Prop} [Decidable p] (h : BitVec.ofBool (decide p) = 1#1) : p := by
  by_contra hc
  rw [decide_eq_false hc] at h
  exact absurd h (by decide)

theorem inf_eq : (FloatOps.ofBits (F := Ideal) .f32 0x7F800000#32 : EReal) = ⊤ := by
  show Ideal.ofBits .f32 0x7F800000#32 = _
  simp [Ideal.ofBits, Ideal.ieee]

section
variable [Cert.Pre_counts_uniform.Facts]
open Cert.Pre_counts_uniform Cert.Pre_counts_uniform.Facts

theorem uniform_of (x : FVec Ideal Cert.Pre_counts_uniform.S1024x128 .f32) (C : FVec Ideal Cert.Pre_counts_uniform.S256x2x128x3 .f32)
    (w : FVec Ideal Cert.Pre_counts_uniform.S256x2 .f32) (op : IVec Cert.Pre_counts_uniform.S256 32)
    (h : Cert.Pre_counts_uniform.fn (F := Ideal) x C w op = fun _ => 1#1) : Uniform C := by
  intro o p f k
  have e := congrFun h (ix4 o p f k)
  have hb : (broadcastInDim Cert.Pre_counts_uniform.S256x2x128x3 ![0, 1, 2, 3] bcast_S256x2x128x1_S256x2x128x3_0_1_2_3
      (extractStridedSlice Cert.Pre_counts_uniform.S256x2x128x1 ![0, 0, 0, 0] C slices_S256x2x128x3_S256x2x128x1_0_0_0_0)) (ix4 o p f k)
      = C (ix4 o p f 0) := by pointwise
  unfold Cert.Pre_counts_uniform.fn at e
  dsimp only at e
  revert hb e
  generalize (broadcastInDim Cert.Pre_counts_uniform.S256x2x128x3 ![0, 1, 2, 3] bcast_S256x2x128x1_S256x2x128x3_0_1_2_3
      (extractStridedSlice Cert.Pre_counts_uniform.S256x2x128x1 ![0, 0, 0, 0] C slices_S256x2x128x3_S256x2x128x1_0_0_0_0)) = B
  intro e hb
  have e' : (BitVec.ofBool (decide ((C (ix4 o p f k) : EReal) = B (ix4 o p f k)))
      &&& BitVec.ofBool (decide ((FloatOps.ofBits (F := Ideal) .f32 0x00000000#32 : EReal) < C (ix4 o p f k))))
      &&& BitVec.ofBool (decide ((C (ix4 o p f k) : EReal) < FloatOps.ofBits (F := Ideal) .f32 0x7F800000#32)) = 1#1 := by assumption
  obtain ⟨h12, h3⟩ := and_one e'
  obtain ⟨h1, h2⟩ := and_one h12
  have h1 := of_ofBool h1
  have h2 := of_ofBool h2
  have h3 := of_ofBool h3
  rw [zero_eq] at h2
  rw [inf_eq] at h3
  have hb' : B (ix4 o p f k) = C (ix4 o p f 0) := by assumption
  exact ⟨h1.trans hb', h2, h3⟩

end

theorem frame_Ref_pre [Cert.Pre_counts_uniform.Facts] : Cert.quiescent_ReferenceIdeal_pre_counts_uniform := fun m ρ _ =>
  (θ_run Cert.ReferenceIdeal.defs _ _).mono (fun r h => ⟨fun c => (h c).2, sem_eq_zero_of_no_sems (by decide) r.2⟩)
    (Cert.ReferenceIdeal.Value.run m ρ)

/-! ## The two results -/

/-- The reference's array is the kernel's. -/
theorem ref_kernel {C : FVec Ideal Cert.ReferenceIdeal.S256x2x128x3 .f32} (hC : Uniform C) (op : IVec Cert.ReferenceIdeal.S256 32)
    (x : FVec Ideal Cert.ReferenceIdeal.S1024x128 .f32) (X : IVec Cert.ReferenceIdeal.S1024x256x128 1) :
    outR (evR (fixR X (catR (scoreR drawR (logitR C op)))) op x) op = kernelR x op := by
  funext y
  have hy : y = ix2 (y 0 : Fin 1024) (y 1 : Fin 256) := by
    funext a; fin_cases a <;> rfl
  rw [hy]
  exact (ref_result hC op x X (y 0) (y 1)).trans (kernelR_at x op (y 0) (y 1)).symm

open Cert.ReferenceIdeal Cert.ReferenceIdeal.Gen Cert.ReferenceIdeal.Value in
theorem ref_out (V0 : Valuation τ sig (Elt Ideal)) (C : FVec Ideal S256x2x128x3 .f32) (op : IVec S256 32) (x : FVec Ideal S1024x128 .f32)
    (hc : V0 (Proc.devRef .tc main_arg1) = C) (ho : V0 (Proc.devRef .tc main_arg3) = op) (hx : V0 (Proc.devRef .tc main_arg0) = x) (hC : Uniform C) :
    select (broadcastInDim S1024x256 ![0, 1] bcast_S1x256_S1024x256_0_1 (broadcastInDim S1x256 ![1] bcast_S256_S1x256_1 (res_main_v598 V0)))
      (Host.reduce FloatOps.minimumf (res_main_v608 V0) (constant S_ .f32 0x7F800000#32) reducesTo_S1024x256x128_S1024x256_d2 h_S_)
      (Host.reduce FloatOps.maximumf (res_main_v608 V0) (constant S_ .f32 0xFF800000#32) reducesTo_S1024x256x128_S1024x256_d2 h_S_) = kernelR x op := by
  obtain ⟨X, hX⟩ := fix_eq V0
  have e : res_main_v608 V0 = evR (fixR X (catR (scoreR drawR (logitR C op)))) op x := by
    rw [ev_eq, hX, cat_eq, score_eq, hc, ho, hx]
  refine Eq.trans ?_ (ref_kernel hC op x X)
  rw [e]
  unfold outR res_main_v598
  rw [ho]

theorem algebraic [Cert.Pre_counts_uniform.Facts] : Cert.algebraic_KernelIdeal_ReferenceIdeal := by
  intro m g m' g' hpre hargs
  refine ⟨fun c => kernelR (m (c, r0)) (m (c, r3)), ?_, ?_⟩
  · refine (θ_run Cert.KernelIdeal.defs _ _).mono (fun r h c => ⟨?_, args_kept m h c⟩) (run_main m g)
    exact (h.1 c _ (mem_ucRefs Cert.KernelIdeal.main_v8 (by decide))).trans (We_v8 m c)
  · refine (θ_run Cert.ReferenceIdeal.defs _ _).mono (fun r h c => ⟨?_, (h c).2⟩) (Cert.ReferenceIdeal.Value.run m' g')
    obtain ⟨h0, h1, h2, h3⟩ := hargs c
    exact (h c).1.trans (ref_out (StableHlo.launchContents m' c) _ _ _ h1 h3 h0 (uniform_of _ _ _ _ (hpre c)))

end Cert.Proof.Sc

end

end
-- ==== Proof.lean ====
/-
  The claims, assembled from the runs and the values.
-/
module

public import proofs.«01_k».proof.Defs
public import proofs.«01_k».proof.Proof.Frames
public import proofs.«01_k».proof.Proof.Values

@[expose] public section

noncomputable section

namespace Cert.Proof

theorem claim : Cert.Claim :=
  ⟨Cert.Kernel.Gen.facts, Cert.KernelIdeal.Gen.facts, Cert.ReferenceIdeal.Gen.facts, Sc.preFacts,
    @Sc.frame_Kernel Sc.preFacts, Sc.frame_Kernel_none, @Sc.frame_Ideal Sc.preFacts, Sc.frame_Ideal_none, Sc.frame_Ref,
    @Sc.frame_Ref_pre Sc.preFacts, trivial, @Sc.algebraic Sc.preFacts⟩

end Cert.Proof

end
